-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_keys [hPre_finite_keys : Cert.Pre_finite_keys.Facts] (m : (ℓ : Loc Cert.MixIdeal.nD Cert.MixIdeal.τ Cert.MixIdeal.sig) → Buf (Elt Ideal) ℓ) : Prop :=
  ∀ c : Dev Cert.MixIdeal.nD,
    (Cert.Pre_finite_keys.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).1 = (fun _ => 1#1)
    ∧ (Cert.Pre_finite_keys.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.1 = (fun _ => 1#1)
    ∧ (Cert.Pre_finite_keys.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.1 = (fun _ => 1#1)
    ∧ (Cert.Pre_finite_keys.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10))).2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_keys [hPre_finite_keys : Cert.Pre_finite_keys.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_keys.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).1 = (fun _ => 1#1)
    ∧ (Cert.Pre_finite_keys.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.1 = (fun _ => 1#1)
    ∧ (Cert.Pre_finite_keys.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.1 = (fun _ => 1#1)
    ∧ (Cert.Pre_finite_keys.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10))).2.2.2 = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite_heads [hPre_finite_heads : Cert.Pre_finite_heads.Facts] (m : (ℓ : Loc Cert.LastIdeal.nD Cert.LastIdeal.τ Cert.LastIdeal.sig) → Buf (Elt Ideal) ℓ) : Prop :=
  ∀ c : Dev Cert.LastIdeal.nD,
    (Cert.Pre_finite_heads.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10)) (m ((c.tc : Thread Cert.LastIdeal.nD Cert.LastIdeal.τ).loc Cert.LastIdeal.main_arg11)) (m ((c.tc : Thread Cert.LastIdeal.nD Cert.LastIdeal.τ).loc Cert.LastIdeal.main_arg12)) (m ((c.tc : Thread Cert.LastIdeal.nD Cert.LastIdeal.τ).loc Cert.LastIdeal.main_arg13)) (m ((c.tc : Thread Cert.LastIdeal.nD Cert.LastIdeal.τ).loc Cert.LastIdeal.main_arg14))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_finite_heads [hPre_finite_heads : Cert.Pre_finite_heads.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_finite_heads.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8)) (m ((c.tc : Thread Cert.LastRefIdeal.nD Cert.LastRefIdeal.τ).loc Cert.LastRefIdeal.main_arg9)) (m ((c.tc : Thread Cert.LastRefIdeal.nD Cert.LastRefIdeal.τ).loc Cert.LastRefIdeal.main_arg10)) (m ((c.tc : Thread Cert.LastRefIdeal.nD Cert.LastRefIdeal.τ).loc Cert.LastRefIdeal.main_arg11)) (m ((c.tc : Thread Cert.LastRefIdeal.nD Cert.LastRefIdeal.τ).loc Cert.LastRefIdeal.main_arg12)) (m ((c.tc : Thread Cert.LastRefIdeal.nD Cert.LastRefIdeal.τ).loc Cert.LastRefIdeal.main_arg13)) (m ((c.tc : Thread Cert.LastRefIdeal.nD Cert.LastRefIdeal.τ).loc Cert.LastRefIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixIdeal_pre_finite_keys [hMixIdeal : Cert.MixIdeal.Facts] [hPre_finite_keys : Cert.Pre_finite_keys.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_keys m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_MixRefIdeal_pre_finite_keys [hMixRefIdeal : Cert.MixRefIdeal.Facts] [hPre_finite_keys : Cert.Pre_finite_keys.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_keys m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10)
      ∧ r.2.mem ((c.tc : Thread Cert.Last.nD Cert.Last.τ).loc Cert.Last.main_arg11) = m ((c.tc : Thread Cert.Last.nD Cert.Last.τ).loc Cert.Last.main_arg11)
      ∧ r.2.mem ((c.tc : Thread Cert.Last.nD Cert.Last.τ).loc Cert.Last.main_arg12) = m ((c.tc : Thread Cert.Last.nD Cert.Last.τ).loc Cert.Last.main_arg12)
      ∧ r.2.mem ((c.tc : Thread Cert.Last.nD Cert.Last.τ).loc Cert.Last.main_arg13) = m ((c.tc : Thread Cert.Last.nD Cert.Last.τ).loc Cert.Last.main_arg13)
      ∧ r.2.mem ((c.tc : Thread Cert.Last.nD Cert.Last.τ).loc Cert.Last.main_arg14) = m ((c.tc : Thread Cert.Last.nD Cert.Last.τ).loc Cert.Last.main_arg14))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
      ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
      ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
      ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
      ∧ r.2.mem ((c.tc : Thread Cert.LastIdeal.nD Cert.LastIdeal.τ).loc Cert.LastIdeal.main_arg14) = m ((c.tc : Thread Cert.LastIdeal.nD Cert.LastIdeal.τ).loc Cert.LastIdeal.main_arg14))
      ∧ r.2.sem = fun _ => 0)

def quiescent_LastIdeal_pre_finite_heads [hLastIdeal : Cert.LastIdeal.Facts] [hPre_finite_heads : Cert.Pre_finite_heads.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite_heads m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
      ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
      ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
      ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
      ∧ r.2.mem ((c.tc : Thread Cert.LastIdeal.nD Cert.LastIdeal.τ).loc Cert.LastIdeal.main_arg14) = m ((c.tc : Thread Cert.LastIdeal.nD Cert.LastIdeal.τ).loc Cert.LastIdeal.main_arg14))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10)
      ∧ r.2.mem ((c.tc : Thread Cert.LastRefIdeal.nD Cert.LastRefIdeal.τ).loc Cert.LastRefIdeal.main_arg11) = m ((c.tc : Thread Cert.LastRefIdeal.nD Cert.LastRefIdeal.τ).loc Cert.LastRefIdeal.main_arg11)
      ∧ r.2.mem ((c.tc : Thread Cert.LastRefIdeal.nD Cert.LastRefIdeal.τ).loc Cert.LastRefIdeal.main_arg12) = m ((c.tc : Thread Cert.LastRefIdeal.nD Cert.LastRefIdeal.τ).loc Cert.LastRefIdeal.main_arg12)
      ∧ r.2.mem ((c.tc : Thread Cert.LastRefIdeal.nD Cert.LastRefIdeal.τ).loc Cert.LastRefIdeal.main_arg13) = m ((c.tc : Thread Cert.LastRefIdeal.nD Cert.LastRefIdeal.τ).loc Cert.LastRefIdeal.main_arg13)
      ∧ r.2.mem ((c.tc : Thread Cert.LastRefIdeal.nD Cert.LastRefIdeal.τ).loc Cert.LastRefIdeal.main_arg14) = m ((c.tc : Thread Cert.LastRefIdeal.nD Cert.LastRefIdeal.τ).loc Cert.LastRefIdeal.main_arg14))
      ∧ r.2.sem = fun _ => 0)

def quiescent_LastRefIdeal_pre_finite_heads [hLastRefIdeal : Cert.LastRefIdeal.Facts] [hPre_finite_heads : Cert.Pre_finite_heads.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_finite_heads m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8)
      ∧ r.2.mem ((c.tc : Thread Cert.LastRefIdeal.nD Cert.LastRefIdeal.τ).loc Cert.LastRefIdeal.main_arg9) = m ((c.tc : Thread Cert.LastRefIdeal.nD Cert.LastRefIdeal.τ).loc Cert.LastRefIdeal.main_arg9)
      ∧ r.2.mem ((c.tc : Thread Cert.LastRefIdeal.nD Cert.LastRefIdeal.τ).loc Cert.LastRefIdeal.main_arg10) = m ((c.tc : Thread Cert.LastRefIdeal.nD Cert.LastRefIdeal.τ).loc Cert.LastRefIdeal.main_arg10)
      ∧ r.2.mem ((c.tc : Thread Cert.LastRefIdeal.nD Cert.LastRefIdeal.τ).loc Cert.LastRefIdeal.main_arg11) = m ((c.tc : Thread Cert.LastRefIdeal.nD Cert.LastRefIdeal.τ).loc Cert.LastRefIdeal.main_arg11)
      ∧ r.2.mem ((c.tc : Thread Cert.LastRefIdeal.nD Cert.LastRefIdeal.τ).loc Cert.LastRefIdeal.main_arg12) = m ((c.tc : Thread Cert.LastRefIdeal.nD Cert.LastRefIdeal.τ).loc Cert.LastRefIdeal.main_arg12)
      ∧ r.2.mem ((c.tc : Thread Cert.LastRefIdeal.nD Cert.LastRefIdeal.τ).loc Cert.LastRefIdeal.main_arg13) = m ((c.tc : Thread Cert.LastRefIdeal.nD Cert.LastRefIdeal.τ).loc Cert.LastRefIdeal.main_arg13)
      ∧ r.2.mem ((c.tc : Thread Cert.LastRefIdeal.nD Cert.LastRefIdeal.τ).loc Cert.LastRefIdeal.main_arg14) = m ((c.tc : Thread Cert.LastRefIdeal.nD Cert.LastRefIdeal.τ).loc Cert.LastRefIdeal.main_arg14))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)
      ∧ m' ((c.tc : Thread Cert.EvenRefIdeal.nD Cert.EvenRefIdeal.τ).loc Cert.EvenRefIdeal.main_arg6) = m ((c.tc : Thread Cert.EvenIdeal.nD Cert.EvenIdeal.τ).loc Cert.EvenIdeal.main_arg6)
      ∧ m' ((c.tc : Thread Cert.EvenRefIdeal.nD Cert.EvenRefIdeal.τ).loc Cert.EvenRefIdeal.main_arg7) = m ((c.tc : Thread Cert.EvenIdeal.nD Cert.EvenIdeal.τ).loc Cert.EvenIdeal.main_arg7)) →
    ∃ (v0 : (c : Dev Cert.EvenIdeal.nD) → Buf (Elt Ideal) ((c.tc : Thread Cert.EvenIdeal.nD Cert.EvenIdeal.τ).loc Cert.EvenIdeal.main_v58_0)) (v1 : (c : Dev Cert.EvenIdeal.nD) → Buf (Elt Ideal) ((c.tc : Thread Cert.EvenIdeal.nD Cert.EvenIdeal.τ).loc Cert.EvenIdeal.main_v58_1)) (v2 : (c : Dev Cert.EvenIdeal.nD) → Buf (Elt Ideal) ((c.tc : Thread Cert.EvenIdeal.nD Cert.EvenIdeal.τ).loc Cert.EvenIdeal.main_v58_2)) (v3 : (c : Dev Cert.EvenIdeal.nD) → Buf (Elt Ideal) ((c.tc : Thread Cert.EvenIdeal.nD Cert.EvenIdeal.τ).loc Cert.EvenIdeal.main_v58_3)) (v4 : (c : Dev Cert.EvenIdeal.nD) → Buf (Elt Ideal) ((c.tc : Thread Cert.EvenIdeal.nD Cert.EvenIdeal.τ).loc Cert.EvenIdeal.main_v58_4)) (v5 : (c : Dev Cert.EvenIdeal.nD) → Buf (Elt Ideal) ((c.tc : Thread Cert.EvenIdeal.nD Cert.EvenIdeal.τ).loc Cert.EvenIdeal.main_v58_5)) (v6 : (c : Dev Cert.EvenIdeal.nD) → Buf (Elt Ideal) ((c.tc : Thread Cert.EvenIdeal.nD Cert.EvenIdeal.τ).loc Cert.EvenIdeal.main_v58_6)) (v7 : (c : Dev Cert.EvenIdeal.nD) → Buf (Elt Ideal) ((c.tc : Thread Cert.EvenIdeal.nD Cert.EvenIdeal.τ).loc Cert.EvenIdeal.main_v58_7)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v58_0) = v0 c
          ∧ r.2.mem ((c.tc : Thread Cert.EvenIdeal.nD Cert.EvenIdeal.τ).loc Cert.EvenIdeal.main_v58_1) = v1 c
          ∧ r.2.mem ((c.tc : Thread Cert.EvenIdeal.nD Cert.EvenIdeal.τ).loc Cert.EvenIdeal.main_v58_2) = v2 c
          ∧ r.2.mem ((c.tc : Thread Cert.EvenIdeal.nD Cert.EvenIdeal.τ).loc Cert.EvenIdeal.main_v58_3) = v3 c
          ∧ r.2.mem ((c.tc : Thread Cert.EvenIdeal.nD Cert.EvenIdeal.τ).loc Cert.EvenIdeal.main_v58_4) = v4 c
          ∧ r.2.mem ((c.tc : Thread Cert.EvenIdeal.nD Cert.EvenIdeal.τ).loc Cert.EvenIdeal.main_v58_5) = v5 c
          ∧ r.2.mem ((c.tc : Thread Cert.EvenIdeal.nD Cert.EvenIdeal.τ).loc Cert.EvenIdeal.main_v58_6) = v6 c
          ∧ r.2.mem ((c.tc : Thread Cert.EvenIdeal.nD Cert.EvenIdeal.τ).loc Cert.EvenIdeal.main_v58_7) = v7 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v156) = v0 c
          ∧ r.2.mem ((c.tc : Thread Cert.EvenRefIdeal.nD Cert.EvenRefIdeal.τ).loc Cert.EvenRefIdeal.main_v159) = v1 c
          ∧ r.2.mem ((c.tc : Thread Cert.EvenRefIdeal.nD Cert.EvenRefIdeal.τ).loc Cert.EvenRefIdeal.main_v162) = v2 c
          ∧ r.2.mem ((c.tc : Thread Cert.EvenRefIdeal.nD Cert.EvenRefIdeal.τ).loc Cert.EvenRefIdeal.main_v163) = v3 c
          ∧ r.2.mem ((c.tc : Thread Cert.EvenRefIdeal.nD Cert.EvenRefIdeal.τ).loc Cert.EvenRefIdeal.main_v164) = v4 c
          ∧ r.2.mem ((c.tc : Thread Cert.EvenRefIdeal.nD Cert.EvenRefIdeal.τ).loc Cert.EvenRefIdeal.main_v166) = v5 c
          ∧ r.2.mem ((c.tc : Thread Cert.EvenRefIdeal.nD Cert.EvenRefIdeal.τ).loc Cert.EvenRefIdeal.main_v168) = v6 c
          ∧ r.2.mem ((c.tc : Thread Cert.EvenRefIdeal.nD Cert.EvenRefIdeal.τ).loc Cert.EvenRefIdeal.main_v170) = v7 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)) →
    ∃ (v0 : (c : Dev Cert.MidIdeal.nD) → Buf (Elt Ideal) ((c.tc : Thread Cert.MidIdeal.nD Cert.MidIdeal.τ).loc Cert.MidIdeal.main_v39_0)) (v1 : (c : Dev Cert.MidIdeal.nD) → Buf (Elt Ideal) ((c.tc : Thread Cert.MidIdeal.nD Cert.MidIdeal.τ).loc Cert.MidIdeal.main_v39_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v39_0) = v0 c
          ∧ r.2.mem ((c.tc : Thread Cert.MidIdeal.nD Cert.MidIdeal.τ).loc Cert.MidIdeal.main_v39_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v45) = v0 c
          ∧ r.2.mem ((c.tc : Thread Cert.MidRefIdeal.nD Cert.MidRefIdeal.τ).loc Cert.MidRefIdeal.main_v61) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10))

def preserves_Mix_MixIdeal : Prop :=
  True

def algebraic_MixIdeal_MixRefIdeal_pre_finite_keys [hMixIdeal : Cert.MixIdeal.Facts] [hMixRefIdeal : Cert.MixRefIdeal.Facts] [hPre_finite_keys : Cert.Pre_finite_keys.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_keys m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v44_0)) (v1 : (c : Dev Cert.MixIdeal.nD) → Buf (Elt Ideal) ((c.tc : Thread Cert.MixIdeal.nD Cert.MixIdeal.τ).loc Cert.MixIdeal.main_v44_1)) (v2 : (c : Dev Cert.MixIdeal.nD) → Buf (Elt Ideal) ((c.tc : Thread Cert.MixIdeal.nD Cert.MixIdeal.τ).loc Cert.MixIdeal.main_v44_2)) (v3 : (c : Dev Cert.MixIdeal.nD) → Buf (Elt Ideal) ((c.tc : Thread Cert.MixIdeal.nD Cert.MixIdeal.τ).loc Cert.MixIdeal.main_v44_3)) (v4 : (c : Dev Cert.MixIdeal.nD) → Buf (Elt Ideal) ((c.tc : Thread Cert.MixIdeal.nD Cert.MixIdeal.τ).loc Cert.MixIdeal.main_v44_4)) (v5 : (c : Dev Cert.MixIdeal.nD) → Buf (Elt Ideal) ((c.tc : Thread Cert.MixIdeal.nD Cert.MixIdeal.τ).loc Cert.MixIdeal.main_v44_5)) (v6 : (c : Dev Cert.MixIdeal.nD) → Buf (Elt Ideal) ((c.tc : Thread Cert.MixIdeal.nD Cert.MixIdeal.τ).loc Cert.MixIdeal.main_v44_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v44_0) = v0 c
          ∧ r.2.mem ((c.tc : Thread Cert.MixIdeal.nD Cert.MixIdeal.τ).loc Cert.MixIdeal.main_v44_1) = v1 c
          ∧ r.2.mem ((c.tc : Thread Cert.MixIdeal.nD Cert.MixIdeal.τ).loc Cert.MixIdeal.main_v44_2) = v2 c
          ∧ r.2.mem ((c.tc : Thread Cert.MixIdeal.nD Cert.MixIdeal.τ).loc Cert.MixIdeal.main_v44_3) = v3 c
          ∧ r.2.mem ((c.tc : Thread Cert.MixIdeal.nD Cert.MixIdeal.τ).loc Cert.MixIdeal.main_v44_4) = v4 c
          ∧ r.2.mem ((c.tc : Thread Cert.MixIdeal.nD Cert.MixIdeal.τ).loc Cert.MixIdeal.main_v44_5) = v5 c
          ∧ r.2.mem ((c.tc : Thread Cert.MixIdeal.nD Cert.MixIdeal.τ).loc Cert.MixIdeal.main_v44_6) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v82) = v0 c
          ∧ r.2.mem ((c.tc : Thread Cert.MixRefIdeal.nD Cert.MixRefIdeal.τ).loc Cert.MixRefIdeal.main_v83) = v1 c
          ∧ r.2.mem ((c.tc : Thread Cert.MixRefIdeal.nD Cert.MixRefIdeal.τ).loc Cert.MixRefIdeal.main_v84) = v2 c
          ∧ r.2.mem ((c.tc : Thread Cert.MixRefIdeal.nD Cert.MixRefIdeal.τ).loc Cert.MixRefIdeal.main_v85) = v3 c
          ∧ r.2.mem ((c.tc : Thread Cert.MixRefIdeal.nD Cert.MixRefIdeal.τ).loc Cert.MixRefIdeal.main_v87) = v4 c
          ∧ r.2.mem ((c.tc : Thread Cert.MixRefIdeal.nD Cert.MixRefIdeal.τ).loc Cert.MixRefIdeal.main_v90) = v5 c
          ∧ r.2.mem ((c.tc : Thread Cert.MixRefIdeal.nD Cert.MixRefIdeal.τ).loc Cert.MixRefIdeal.main_v92) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10))

def preserves_Last_LastIdeal : Prop :=
  True

def algebraic_LastIdeal_LastRefIdeal_pre_finite_heads [hLastIdeal : Cert.LastIdeal.Facts] [hLastRefIdeal : Cert.LastRefIdeal.Facts] [hPre_finite_heads : Cert.Pre_finite_heads.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_finite_heads m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)
      ∧ m' ((c.tc : Thread Cert.LastRefIdeal.nD Cert.LastRefIdeal.τ).loc Cert.LastRefIdeal.main_arg9) = m ((c.tc : Thread Cert.LastIdeal.nD Cert.LastIdeal.τ).loc Cert.LastIdeal.main_arg9)
      ∧ m' ((c.tc : Thread Cert.LastRefIdeal.nD Cert.LastRefIdeal.τ).loc Cert.LastRefIdeal.main_arg10) = m ((c.tc : Thread Cert.LastIdeal.nD Cert.LastIdeal.τ).loc Cert.LastIdeal.main_arg10)
      ∧ m' ((c.tc : Thread Cert.LastRefIdeal.nD Cert.LastRefIdeal.τ).loc Cert.LastRefIdeal.main_arg11) = m ((c.tc : Thread Cert.LastIdeal.nD Cert.LastIdeal.τ).loc Cert.LastIdeal.main_arg11)
      ∧ m' ((c.tc : Thread Cert.LastRefIdeal.nD Cert.LastRefIdeal.τ).loc Cert.LastRefIdeal.main_arg12) = m ((c.tc : Thread Cert.LastIdeal.nD Cert.LastIdeal.τ).loc Cert.LastIdeal.main_arg12)
      ∧ m' ((c.tc : Thread Cert.LastRefIdeal.nD Cert.LastRefIdeal.τ).loc Cert.LastRefIdeal.main_arg13) = m ((c.tc : Thread Cert.LastIdeal.nD Cert.LastIdeal.τ).loc Cert.LastIdeal.main_arg13)
      ∧ m' ((c.tc : Thread Cert.LastRefIdeal.nD Cert.LastRefIdeal.τ).loc Cert.LastRefIdeal.main_arg14) = m ((c.tc : Thread Cert.LastIdeal.nD Cert.LastIdeal.τ).loc Cert.LastIdeal.main_arg14)) →
    ∃ (v0 : (c : Dev Cert.LastIdeal.nD) → Buf (Elt Ideal) ((c.tc : Thread Cert.LastIdeal.nD Cert.LastIdeal.τ).loc Cert.LastIdeal.main_v31)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v31) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10)
          ∧ r.2.mem ((c.tc : Thread Cert.LastIdeal.nD Cert.LastIdeal.τ).loc Cert.LastIdeal.main_arg11) = m ((c.tc : Thread Cert.LastIdeal.nD Cert.LastIdeal.τ).loc Cert.LastIdeal.main_arg11)
          ∧ r.2.mem ((c.tc : Thread Cert.LastIdeal.nD Cert.LastIdeal.τ).loc Cert.LastIdeal.main_arg12) = m ((c.tc : Thread Cert.LastIdeal.nD Cert.LastIdeal.τ).loc Cert.LastIdeal.main_arg12)
          ∧ r.2.mem ((c.tc : Thread Cert.LastIdeal.nD Cert.LastIdeal.τ).loc Cert.LastIdeal.main_arg13) = m ((c.tc : Thread Cert.LastIdeal.nD Cert.LastIdeal.τ).loc Cert.LastIdeal.main_arg13)
          ∧ r.2.mem ((c.tc : Thread Cert.LastIdeal.nD Cert.LastIdeal.τ).loc Cert.LastIdeal.main_arg14) = m ((c.tc : Thread Cert.LastIdeal.nD Cert.LastIdeal.τ).loc Cert.LastIdeal.main_arg14))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v92) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8)
          ∧ r.2.mem ((c.tc : Thread Cert.LastRefIdeal.nD Cert.LastRefIdeal.τ).loc Cert.LastRefIdeal.main_arg9) = m' ((c.tc : Thread Cert.LastRefIdeal.nD Cert.LastRefIdeal.τ).loc Cert.LastRefIdeal.main_arg9)
          ∧ r.2.mem ((c.tc : Thread Cert.LastRefIdeal.nD Cert.LastRefIdeal.τ).loc Cert.LastRefIdeal.main_arg10) = m' ((c.tc : Thread Cert.LastRefIdeal.nD Cert.LastRefIdeal.τ).loc Cert.LastRefIdeal.main_arg10)
          ∧ r.2.mem ((c.tc : Thread Cert.LastRefIdeal.nD Cert.LastRefIdeal.τ).loc Cert.LastRefIdeal.main_arg11) = m' ((c.tc : Thread Cert.LastRefIdeal.nD Cert.LastRefIdeal.τ).loc Cert.LastRefIdeal.main_arg11)
          ∧ r.2.mem ((c.tc : Thread Cert.LastRefIdeal.nD Cert.LastRefIdeal.τ).loc Cert.LastRefIdeal.main_arg12) = m' ((c.tc : Thread Cert.LastRefIdeal.nD Cert.LastRefIdeal.τ).loc Cert.LastRefIdeal.main_arg12)
          ∧ r.2.mem ((c.tc : Thread Cert.LastRefIdeal.nD Cert.LastRefIdeal.τ).loc Cert.LastRefIdeal.main_arg13) = m' ((c.tc : Thread Cert.LastRefIdeal.nD Cert.LastRefIdeal.τ).loc Cert.LastRefIdeal.main_arg13)
          ∧ r.2.mem ((c.tc : Thread Cert.LastRefIdeal.nD Cert.LastRefIdeal.τ).loc Cert.LastRefIdeal.main_arg14) = m' ((c.tc : Thread Cert.LastRefIdeal.nD Cert.LastRefIdeal.τ).loc Cert.LastRefIdeal.main_arg14))

def Claim : Prop :=
  ∃ (hKernel : Cert.Kernel.Facts) (hKernelIdeal : Cert.KernelIdeal.Facts) (hReferenceIdeal : Cert.ReferenceIdeal.Facts) (hEven : Cert.Even.Facts) (hEvenIdeal : Cert.EvenIdeal.Facts) (hEvenRefIdeal : Cert.EvenRefIdeal.Facts) (hMid : Cert.Mid.Facts) (hMidIdeal : Cert.MidIdeal.Facts) (hMidRefIdeal : Cert.MidRefIdeal.Facts) (hMix : Cert.Mix.Facts) (hMixIdeal : Cert.MixIdeal.Facts) (hMixRefIdeal : Cert.MixRefIdeal.Facts) (hLast : Cert.Last.Facts) (hLastIdeal : Cert.LastIdeal.Facts) (hLastRefIdeal : Cert.LastRefIdeal.Facts) (hPre_finite_args : Cert.Pre_finite_args.Facts) (hPre_finite_keys : Cert.Pre_finite_keys.Facts) (hPre_finite_heads : Cert.Pre_finite_heads.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Even (hEven := hEven)
    ∧ quiescent_EvenIdeal (hEvenIdeal := hEvenIdeal)
    ∧ quiescent_EvenRefIdeal (hEvenRefIdeal := hEvenRefIdeal)
    ∧ quiescent_Mid (hMid := hMid)
    ∧ quiescent_MidIdeal (hMidIdeal := hMidIdeal)
    ∧ quiescent_MidRefIdeal (hMidRefIdeal := hMidRefIdeal)
    ∧ quiescent_Mix (hMix := hMix)
    ∧ quiescent_MixIdeal (hMixIdeal := hMixIdeal)
    ∧ quiescent_MixIdeal_pre_finite_keys (hMixIdeal := hMixIdeal) (hPre_finite_keys := hPre_finite_keys)
    ∧ quiescent_MixRefIdeal (hMixRefIdeal := hMixRefIdeal)
    ∧ quiescent_MixRefIdeal_pre_finite_keys (hMixRefIdeal := hMixRefIdeal) (hPre_finite_keys := hPre_finite_keys)
    ∧ quiescent_Last (hLast := hLast)
    ∧ quiescent_LastIdeal (hLastIdeal := hLastIdeal)
    ∧ quiescent_LastIdeal_pre_finite_heads (hLastIdeal := hLastIdeal) (hPre_finite_heads := hPre_finite_heads)
    ∧ quiescent_LastRefIdeal (hLastRefIdeal := hLastRefIdeal)
    ∧ quiescent_LastRefIdeal_pre_finite_heads (hLastRefIdeal := hLastRefIdeal) (hPre_finite_heads := hPre_finite_heads)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Even_EvenIdeal
    ∧ algebraic_EvenIdeal_EvenRefIdeal (hEvenIdeal := hEvenIdeal) (hEvenRefIdeal := hEvenRefIdeal)
    ∧ preserves_Mid_MidIdeal
    ∧ algebraic_MidIdeal_MidRefIdeal (hMidIdeal := hMidIdeal) (hMidRefIdeal := hMidRefIdeal)
    ∧ preserves_Mix_MixIdeal
    ∧ algebraic_MixIdeal_MixRefIdeal_pre_finite_keys (hMixIdeal := hMixIdeal) (hMixRefIdeal := hMixRefIdeal) (hPre_finite_keys := hPre_finite_keys)
    ∧ preserves_Last_LastIdeal
    ∧ algebraic_LastIdeal_LastRefIdeal_pre_finite_heads (hLastIdeal := hLastIdeal) (hLastRefIdeal := hLastRefIdeal) (hPre_finite_heads := hPre_finite_heads)
-- ==== Pre_finite_args.lean ====
abbrev S8x16384x256 : Shape := ⟨3, ![8, 16384, 256]⟩
abbrev S8x16384x32 : Shape := ⟨3, ![8, 16384, 32]⟩
abbrev S16384x256 : Shape := ⟨2, ![16384, 256]⟩
abbrev S16384x32 : Shape := ⟨2, ![16384, 32]⟩
abbrev S_ : Shape := ⟨0, ![]⟩

class Facts : Prop where
  bitsLt_bf16_f32 : FTy.bits .bf16 < FTy.bits .f32
  bcast_S_S8x16384x256 : S_.BroadcastsInDim S8x16384x256 (![] : Fin 0 → Fin S8x16384x256.rank)
  bcast_S_S8x16384x32 : S_.BroadcastsInDim S8x16384x32 (![] : Fin 0 → Fin S8x16384x32.rank)
  bcast_S_S16384x256 : S_.BroadcastsInDim S16384x256 (![] : Fin 0 → Fin S16384x256.rank)
  bcast_S_S16384x32 : S_.BroadcastsInDim S16384x32 (![] : Fin 0 → Fin S16384x32.rank)

variable [Facts]

def fn {F : FTy → Type} [FloatOps F] (main_arg0 : FVec F S8x16384x256 .bf16) (main_arg1 : FVec F S8x16384x32 .bf16) (main_arg2 : FVec F S16384x256 .bf16) (main_arg3 : FVec F S16384x32 .bf16) : IVec S8x16384x256 1 × IVec S8x16384x32 1 × IVec S16384x256 1 × IVec S16384x32 1 :=
  let main_v0 : FVec F S8x16384x256 .f32 := (extf .f32 · bitsLt_bf16_f32) main_arg0
  let main_v1 : FVec F S8x16384x256 .f32 := Host.absf main_v0
  let main_cst : FVec F S_ .f32 := constant S_ .f32 0x7F800000#32
  let main_v2 : FVec F S8x16384x256 .f32 := broadcastInDim S8x16384x256 ![] bcast_S_S8x16384x256 main_cst
  let main_v3 : IVec S8x16384x256 1 := cmpf .olt main_v1 main_v2
  let main_v4 : FVec F S8x16384x32 .f32 := (extf .f32 · bitsLt_bf16_f32) main_arg1
  let main_v5 : FVec F S8x16384x32 .f32 := Host.absf main_v4
  let main_cst_0 : FVec F S_ .f32 := constant S_ .f32 0x7F800000#32
  let main_v6 : FVec F S8x16384x32 .f32 := broadcastInDim S8x16384x32 ![] bcast_S_S8x16384x32 main_cst_0
  let main_v7 : IVec S8x16384x32 1 := cmpf .olt main_v5 main_v6
  let main_v8 : FVec F S16384x256 .f32 := (extf .f32 · bitsLt_bf16_f32) main_arg2
  let main_v9 : FVec F S16384x256 .f32 := Host.absf main_v8
  let main_cst_1 : FVec F S_ .f32 := constant S_ .f32 0x7F800000#32
  let main_v10 : FVec F S16384x256 .f32 := broadcastInDim S16384x256 ![] bcast_S_S16384x256 main_cst_1
  let main_v11 : IVec S16384x256 1 := cmpf .olt main_v9 main_v10
  let main_v12 : FVec F S16384x32 .f32 := (extf .f32 · bitsLt_bf16_f32) main_arg3
  let main_v13 : FVec F S16384x32 .f32 := Host.absf main_v12
  let main_cst_2 : FVec F S_ .f32 := constant S_ .f32 0x7F800000#32
  let main_v14 : FVec F S16384x32 .f32 := broadcastInDim S16384x32 ![] bcast_S_S16384x32 main_cst_2
  let main_v15 : IVec S16384x32 1 := cmpf .olt main_v13 main_v14
  (main_v3, main_v7, main_v11, main_v15)
-- ==== Pre_finite_heads.lean ====
abbrev S16384x1024 : Shape := ⟨2, ![16384, 1024]⟩
abbrev S2x8x2048x256 : Shape := ⟨4, ![2, 8, 2048, 256]⟩
abbrev S1x1024 : Shape := ⟨2, ![1, 1024]⟩
abbrev S1x16x64 : Shape := ⟨3, ![1, 16, 64]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S16384x1024 .f32) (main_arg6 : FVec F S2x8x2048x256 .f32) (main_arg7 : FVec F S1x1024 .f32) (main_arg8 : FVec F S1x1024 .f32) (main_arg9 : FVec F S1x16x64 .f32) (main_arg10 : FVec F S1x1024x1024 .f32) (main_arg11 : FVec F S2x1024 .f32) (main_arg12 : FVec F S2x1024x1024 .f32) (main_arg13 : FVec F S2x256x1024 .f32) (main_arg14 : FVec F S1024 .f32) : IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  main_v2
-- ==== Pre_finite_keys.lean ====
abbrev S16384x1024 : Shape := ⟨2, ![16384, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S_ : Shape := ⟨0, ![]⟩

class Facts : Prop where
  bcast_S_S16384x1024 : S_.BroadcastsInDim S16384x1024 (![] : Fin 0 → Fin S16384x1024.rank)
  bcast_S_S1x6x1024 : S_.BroadcastsInDim S1x6x1024 (![] : Fin 0 → Fin S1x6x1024.rank)
  bcast_S_S1x4x1024x1024 : S_.BroadcastsInDim S1x4x1024x1024 (![] : Fin 0 → Fin S1x4x1024x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S1x6x1024 .f32) (main_arg2 : FVec F S1x4x1024x1024 .f32) (main_arg3 : FVec F S1x1024 .f32) (main_arg4 : FVec F S1x1024x64 .f32) (main_arg5 : FVec F S1x64x1024 .f32) (main_arg6 : FVec F S1x1024 .f32) (main_arg7 : FVec F S1x1024x64 .f32) (main_arg8 : FVec F S1x64x1024 .f32) (main_arg9 : FVec F S1x1024 .f32) (main_arg10 : FVec F S1x1024 .f32) : IVec S16384x1024 1 × IVec S1x6x1024 1 × IVec S1x4x1024x1024 1 × IVec S1x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x6x1024 .f32 := Host.absf main_arg1
  let main_cst_0 : FVec F S_ .f32 := constant S_ .f32 0x7F800000#32
  let main_v4 : FVec F S1x6x1024 .f32 := broadcastInDim S1x6x1024 ![] bcast_S_S1x6x1024 main_cst_0
  let main_v5 : IVec S1x6x1024 1 := cmpf .olt main_v3 main_v4
  let main_v6 : FVec F S1x4x1024x1024 .f32 := Host.absf main_arg2
  let main_cst_1 : FVec F S_ .f32 := constant S_ .f32 0x7F800000#32
  let main_v7 : FVec F S1x4x1024x1024 .f32 := broadcastInDim S1x4x1024x1024 ![] bcast_S_S1x4x1024x1024 main_cst_1
  let main_v8 : IVec S1x4x1024x1024 1 := cmpf .olt main_v6 main_v7
  let main_v9 : FVec F S1x1024 .f32 := Host.absf main_arg9
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Kernel.lean ====
abbrev S8x16384x256 : Shape := ⟨3, ![8, 16384, 256]⟩
abbrev S8x16384x32 : Shape := ⟨3, ![8, 16384, 32]⟩
abbrev S16384x256 : Shape := ⟨2, ![16384, 256]⟩
abbrev S16384x32 : Shape := ⟨2, ![16384, 32]⟩
abbrev S16384x2048 : Shape := ⟨2, ![16384, 2048]⟩
abbrev S8x256x256 : Shape := ⟨3, ![8, 256, 256]⟩
abbrev S8x256x32 : Shape := ⟨3, ![8, 256, 32]⟩
abbrev S2048x256 : Shape := ⟨2, ![2048, 256]⟩
abbrev S2048x32 : Shape := ⟨2, ![2048, 32]⟩
abbrev S256x2048 : Shape := ⟨2, ![256, 2048]⟩
abbrev S2048x1 : Shape := ⟨2, ![2048, 1]⟩
abbrev S256x256 : Shape := ⟨2, ![256, 256]⟩
abbrev S256x32 : Shape := ⟨2, ![256, 32]⟩
abbrev S2048 : Shape := ⟨1, ![2048]⟩

abbrev nBuf : Space → Nat
  | .hbm => 5
  | .vmem => 13
  | .smem => 0
  | _ => 0

abbrev bufTy : (tb : Table) → Fin (tcTables nBuf tb) → BufTy
  | .hbm, ⟨0, _⟩ => ⟨S8x16384x256, .bf16⟩
  | .hbm, ⟨1, _⟩ => ⟨S8x16384x32, .bf16⟩
  | .hbm, ⟨2, _⟩ => ⟨S16384x256, .bf16⟩
  | .hbm, ⟨3, _⟩ => ⟨S16384x32, .bf16⟩
  | .hbm, ⟨4, _⟩ => ⟨S16384x2048, .bf16⟩
  | .local _ .vmem, ⟨0, _⟩ => ⟨S8x256x256, .bf16⟩
  | .local _ .vmem, ⟨1, _⟩ => ⟨S8x256x256, .bf16⟩
  | .local _ .vmem, ⟨2, _⟩ => ⟨S8x256x32, .bf16⟩
  | .local _ .vmem, ⟨3, _⟩ => ⟨S8x256x32, .bf16⟩
  | .local _ .vmem, ⟨4, _⟩ => ⟨S2048x256, .bf16⟩
  | .local _ .vmem, ⟨5, _⟩ => ⟨S2048x256, .bf16⟩
  | .local _ .vmem, ⟨6, _⟩ => ⟨S2048x32, .bf16⟩
  | .local _ .vmem, ⟨7, _⟩ => ⟨S2048x32, .bf16⟩
  | .local _ .vmem, ⟨8, _⟩ => ⟨S256x2048, .bf16⟩
  | .local _ .vmem, ⟨9, _⟩ => ⟨S256x2048, .bf16⟩
  | .local _ .vmem, ⟨10, _⟩ => ⟨S2048x1, .f32⟩
  | .local _ .vmem, ⟨11, _⟩ => ⟨S2048x1, .f32⟩
  | .local _ .vmem, ⟨12, _⟩ => ⟨S2048x256, .f32⟩
  | _, _ => ⟨S8x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_14 : BitVec 32 := 1#32
  ⟨c0_i32_13, v20, c1_i32_14⟩
def k0_mult1 (i : grid0.Coords) (k0_t1 : Fin (k0_t1_loop i).trips) : BitVec 32 :=
  let c0_i32_13 : BitVec 32 := 0#32
  let c1_i32_14 : BitVec 32 := 1#32
  let arg10 : BitVec 32 := Scf.iv c0_i32_13 c1_i32_14 k0_t1
  let c256_i32_55 : BitVec 32 := 256#32
  let v108 : BitVec 32 := Scalar.muli arg10 c256_i32_55
  v108
def k0_off1 (i : grid0.Coords) (k0_t1 : Fin (k0_t1_loop i).trips) : Fin 2 → Nat :=
  let c0_i32_13 : BitVec 32 := 0#32
  let c1_i32_14 : BitVec 32 := 1#32
  let arg10 : BitVec 32 := Scf.iv c0_i32_13 c1_i32_14 k0_t1
  let c256_i32_55 : BitVec 32 := 256#32
  let v108 : BitVec 32 := Scalar.muli arg10 c256_i32_55
  let v109 : BitVec 32 := v108
  let v110 : Index := Scalar.indexCast v109
  let c0_56 : Index := 0#32
  ![v110.toNat, 0]
def k0_off2 (i : grid0.Coords) (k0_t1 : Fin (k0_t1_loop i).trips) : Fin 2 → Nat :=
  let c0_i32_13 : BitVec 32 := 0#32
  let c1_i32_14 : BitVec 32 := 1#32
  let arg10 : BitVec 32 := Scf.iv c0_i32_13 c1_i32_14 k0_t1
  let c256_i32_55 : BitVec 32 := 256#32
  let v108 : BitVec 32 := Scalar.muli arg10 c256_i32_55
  let v109 : BitVec 32 := v108
  let v113 : Index := Scalar.indexCast v109
  let c0_58 : Index := 0#32
  ![v113.toNat, 0]
@[reducible] def k0_t2_loop (i : grid0.Coords) : Scf.Loop 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let v17 : BitVec 32 := Scalar.addi c0_i32_13 v16
  let c1_i32_15 : BitVec 32 := 1#32
  ⟨v20, v17, c1_i32_15⟩
def k0_mult2 (i : grid0.Coords) (k0_t2 : Fin (k0_t2_loop i).trips) : BitVec 32 :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg10 : BitVec 32 := Scf.iv v20 c1_i32_15 k0_t2
  let c256_i32_55 : BitVec 32 := 256#32
  let v108 : BitVec 32 := Scalar.muli arg10 c256_i32_55
  v108
def k0_off3 (i : grid0.Coords) (k0_t2 : Fin (k0_t2_loop i).trips) : Fin 2 → Nat :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg10 : BitVec 32 := Scf.iv v20 c1_i32_15 k0_t2
  let c256_i32_55 : BitVec 32 := 256#32
  let v108 : BitVec 32 := Scalar.muli arg10 c256_i32_55
  let v109 : BitVec 32 := v108
  let v110 : Index := Scalar.indexCast v109
  let c0_56 : Index := 0#32
  ![v110.toNat, 0]
def k0_off4 (i : grid0.Coords) (k0_t2 : Fin (k0_t2_loop i).trips) : Fin 2 → Nat :=
  let c0_i32_13 : BitVec 32 := 0#32
  let arg1 : BitVec 32 := BitVec.ofNat 32 (i 1).val
  let v16 : BitVec 32 := Scalar.subi arg1 c0_i32_13
  let c1_i32 : BitVec 32 := 1#32
  let v18 : BitVec 32 := Scalar.divsi v16 c1_i32
  let v19 : BitVec 32 := Scalar.muli v18 c1_i32
  let v20 : BitVec 32 := Scalar.addi c0_i32_13 v19
  let c1_i32_15 : BitVec 32 := 1#32
  let arg10 : BitVec 32 := Scf.iv v20 c1_i32_15 k0_t2
  let c256_i32_55 : BitVec 32 := 256#32
  let v108 : BitVec 32 := Scalar.muli arg10 c256_i32_55
  let v109 : BitVec 32 := v108
  let v113 : Index := Scalar.indexCast v109
  let c0_58 : Index := 0#32
  ![v113.toNat, 0]
def k0_mult3 (i : grid0.Coords) : BitVec 32 :=
  let arg1 : BitVec 32 := BitVec.ofNat 32 (i 1).val
  let c256_i32 : BitVec 32 := 256#32
  let v21 : BitVec 32 := Scalar.muli arg1 c256_i32
  v21
def k0_off5 (i : grid0.Coords) : Fin 2 → Nat :=
  let arg1 : BitVec 32 := BitVec.ofNat 32 (i 1).val
  let c256_i32 : BitVec 32 := 256#32
  let v21 : BitVec 32 := Scalar.muli arg1 c256_i32
  let v22 : BitVec 32 := v21
  let v23 : Index := Scalar.indexCast v22
  let c0_16 : Index := 0#32
  ![v23.toNat, 0]
def k0_off6 (i : grid0.Coords) : Fin 2 → Nat :=
  let arg1 : BitVec 32 := BitVec.ofNat 32 (i 1).val
  let c256_i32 : BitVec 32 := 256#32
  let v21 : BitVec 32 := Scalar.muli arg1 c256_i32
  let v22 : BitVec 32 := v21
  let v26 : Index := Scalar.indexCast v22
  let c0_18 : Index := 0#32
  ![v26.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x16384x256 : Shape := ⟨3, ![8, 16384, 256]⟩
abbrev S8x16384x32 : Shape := ⟨3, ![8, 16384, 32]⟩
abbrev S16384x256 : Shape := ⟨2, ![16384, 256]⟩
abbrev S16384x32 : Shape := ⟨2, ![16384, 32]⟩
abbrev S8x8x2048x256 : Shape := ⟨4, ![8, 8, 2048, 256]⟩
abbrev S8x8x2048x32 : Shape := ⟨4, ![8, 8, 2048, 32]⟩
abbrev S8x2048x256 : Shape := ⟨3, ![8, 2048, 256]⟩
abbrev S8x2048x32 : Shape := ⟨3, ![8, 2048, 32]⟩
abbrev S8x8x2048x2048 : Shape := ⟨4, ![8, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x8x2048 : Shape := ⟨3, ![8, 8, 2048]⟩
abbrev S8x8x2048x1 : Shape := ⟨4, ![8, 8, 2048, 1]⟩
abbrev S8x256x8x2048 : Shape := ⟨4, ![8, 256, 8, 2048]⟩
abbrev S8x2048x8x256 : Shape := ⟨4, ![8, 2048, 8, 256]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8x16384x256, .bf16⟩
  | .hbm, ⟨1, _⟩ => ⟨S8x16384x32, .bf16⟩
  | .hbm, ⟨2, _⟩ => ⟨S16384x256, .bf16⟩
  | .hbm, ⟨3, _⟩ => ⟨S16384x32, .bf16⟩
  | .hbm, ⟨4, _⟩ => ⟨S8x8x2048x256, .bf16⟩
  | .hbm, ⟨5, _⟩ => ⟨S8x8x2048x32, .bf16⟩
  | .hbm, ⟨6, _⟩ => ⟨S8x2048x256, .bf16⟩
  | .hbm, ⟨7, _⟩ => ⟨S8x2048x32, .bf16⟩
  | .hbm, ⟨8, _⟩ => ⟨S8x8x2048x2048, .f32⟩
  | .hbm, ⟨9, _⟩ => ⟨S8x8x2048x2048, .f32⟩
  | .hbm, ⟨10, _⟩ => ⟨S8x8x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S8x8x2048x2048, .i1⟩
  | .hbm, ⟨20, _⟩ => ⟨S8x8x2048x2048, .f32⟩
  | .hbm, ⟨21, _⟩ => ⟨S8x8x2048x2048, .f32⟩
  | .hbm, ⟨22, _⟩ => ⟨S_, .f32⟩
  | .hbm, ⟨23, _⟩ => ⟨S8x8x2048, .f32⟩
  | .hbm, ⟨24, _⟩ => ⟨S_, .f32⟩
  | .hbm, ⟨25, _⟩ => ⟨S8x8x2048, .f32⟩
  | .hbm, ⟨26, _⟩ => ⟨S8x8x2048, .f32⟩
  | .hbm, ⟨27, _⟩ => ⟨S8x8x2048x1, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S_, .f32⟩
  | .hbm, ⟨32, _⟩ => ⟨S8x8x2048, .f32⟩
  | .hbm, ⟨33, _⟩ => ⟨S8x8x2048x1, .f32⟩
  | .hbm, ⟨34, _⟩ => ⟨S8x8x2048x2048, .f32⟩
  | .hbm, ⟨35, _⟩ => ⟨S8x8x2048x2048, .f32⟩
  | .hbm, ⟨36, _⟩ => ⟨S8x8x2048x2048, .bf16⟩
  | .hbm, ⟨37, _⟩ => ⟨S8x256x8x2048, .f32⟩
  | .hbm, ⟨38, _⟩ => ⟨S8x2048x8x256, .f32⟩
  | .hbm, ⟨39, _⟩ => ⟨S16384x2048, .f32⟩
  | .hbm, ⟨40, _⟩ => ⟨S16384x2048, .bf16⟩
  | _, _ => ⟨S8x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Even.lean ====
abbrev S8x2048x1024 : Shape := ⟨3, ![8, 2048, 1024]⟩
abbrev S2x1024 : Shape := ⟨2, ![2, 1024]⟩
abbrev S1x1024x3232 : Shape := ⟨3, ![1, 1024, 3232]⟩
abbrev S3x512 : Shape := ⟨2, ![3, 512]⟩
abbrev S1x384 : Shape := ⟨2, ![1, 384]⟩
abbrev S1x256 : Shape := ⟨2, ![1, 256]⟩
abbrev S1x384x768 : Shape := ⟨3, ![1, 384, 768]⟩
abbrev S1x8x64x256 : Shape := ⟨4, ![1, 8, 64, 256]⟩
abbrev S1024x3232 : Shape := ⟨2, ![1024, 3232]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S384x768 : Shape := ⟨2, ![384, 768]⟩
abbrev S384x8x96 : Shape := ⟨3, ![384, 8, 96]⟩
abbrev S384x8x32 : Shape := ⟨3, ![384, 8, 32]⟩
abbrev S1024x2048 : Shape := ⟨2, ![1024, 2048]⟩
abbrev S1024x16 : Shape := ⟨2, ![1024, 16]⟩
abbrev S1024x1216 : Shape := ⟨2, ![1024, 1216]⟩
abbrev S384x8x64 : Shape := ⟨3, ![384, 8, 64]⟩
abbrev S384x512 : Shape := ⟨2, ![384, 512]⟩
abbrev S384x256 : Shape := ⟨2, ![384, 256]⟩
abbrev S384x8x16 : Shape := ⟨3, ![384, 8, 16]⟩
abbrev S384x1024 : Shape := ⟨2, ![384, 1024]⟩
abbrev S8x64x256 : Shape := ⟨3, ![8, 64, 256]⟩
abbrev S16384x1024 : Shape := ⟨2, ![16384, 1024]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S1x1024 : Shape := ⟨2, ![1, 1024]⟩
abbrev S1024 : Shape := ⟨1, ![1024]⟩
abbrev S384 : Shape := ⟨1, ![384]⟩
abbrev S256 : Shape := ⟨1, ![256]⟩
abbrev S16384x2048 : Shape := ⟨2, ![16384, 2048]⟩
abbrev S8x16384x256 : Shape := ⟨3, ![8, 16384, 256]⟩
abbrev S8x16384x32 : Shape := ⟨3, ![8, 16384, 32]⟩
abbrev S16384x256 : Shape := ⟨2, ![16384, 256]⟩
abbrev S16384x32 : Shape := ⟨2, ![16384, 32]⟩
abbrev S16384x512 : Shape := ⟨2, ![16384, 512]⟩
abbrev S256x1024 : Shape := ⟨2, ![256, 1024]⟩
abbrev S256x256 : Shape := ⟨2, ![256, 256]⟩
abbrev S256x2048 : Shape := ⟨2, ![256, 2048]⟩
abbrev S8x256x256 : Shape := ⟨3, ![8, 256, 256]⟩
abbrev S8x256x32 : Shape := ⟨3, ![8, 256, 32]⟩
abbrev S256x32 : Shape := ⟨2, ![256, 32]⟩
abbrev S256x512 : Shape := ⟨2, ![256, 512]⟩
abbrev S256x1 : Shape := ⟨2, ![256, 1]⟩
abbrev S256x1216 : Shape := ⟨2, ![256, 1216]⟩
abbrev S512 : Shape := ⟨1, ![512]⟩
abbrev S1x512 : Shape := ⟨2, ![1, 512]⟩
abbrev S256x384 : Shape := ⟨2, ![256, 384]⟩
abbrev S1x256x32 : Shape := ⟨3, ![1, 256, 32]⟩
abbrev S256x64 : Shape := ⟨2, ![256, 64]⟩
abbrev S1x64x256 : Shape := ⟨3, ![1, 64, 256]⟩
abbrev S64x256 : Shape := ⟨2, ![64, 256]⟩
abbrev S1x256x256 : Shape := ⟨3, ![1, 256, 256]⟩

abbrev nBuf : Space → Nat
  | .hbm => 76
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3232, .f32⟩
  | .hbm, ⟨3, _⟩ => ⟨S3x512, .f32⟩
  | .hbm, ⟨4, _⟩ => ⟨S1x384, .f32⟩
  | .hbm, ⟨5, _⟩ => ⟨S1x256, .f32⟩
  | .hbm, ⟨6, _⟩ => ⟨S1x384x768, .f32⟩
  | .hbm, ⟨7, _⟩ => ⟨S1x8x64x256, .f32⟩
  | .hbm, ⟨8, _⟩ => ⟨S1024x3232, .f32⟩
  | .hbm, ⟨9, _⟩ => ⟨S1024x384, .f32⟩
  | .hbm, ⟨10, _⟩ => ⟨S1024x256, .f32⟩
  | .hbm, ⟨11, _⟩ => ⟨S1024x32, .f32⟩
  | .hbm, ⟨12, _⟩ => ⟨S1024x512, .f32⟩
  | .hbm, ⟨13, _⟩ => ⟨S384x768, .f32⟩
  | .hbm, ⟨14, _⟩ => ⟨S384x8x96, .f32⟩
  | .hbm, ⟨15, _⟩ => ⟨S384x8x32, .f32⟩
  | .hbm, ⟨16, _⟩ => ⟨S1024x2048, .f32⟩
  | .hbm, ⟨17, _⟩ => ⟨S1024x2048, .bf16⟩
  | .hbm, ⟨18, _⟩ => ⟨S1024x16, .f32⟩
  | .hbm, ⟨19, _⟩ => ⟨S1024x16, .f32⟩
  | .hbm, ⟨20, _⟩ => ⟨S1024x32, .f32⟩
  | .hbm, ⟨21, _⟩ => ⟨S1024x1216, .f32⟩
  | .hbm, ⟨22, _⟩ => ⟨S1024x1216, .bf16⟩
  | .hbm, ⟨23, _⟩ => ⟨S384x8x64, .f32⟩
  | .hbm, ⟨24, _⟩ => ⟨S384x512, .f32⟩
  | .hbm, ⟨25, _⟩ => ⟨S384x256, .f32⟩
  | .hbm, ⟨26, _⟩ => ⟨S384x8x16, .f32⟩
  | .hbm, ⟨27, _⟩ => ⟨S384x8x16, .f32⟩
  | .hbm, ⟨28, _⟩ => ⟨S384x8x32, .f32⟩
  | .hbm, ⟨29, _⟩ => ⟨S384x256, .f32⟩
  | .hbm, ⟨30, _⟩ => ⟨S384x1024, .f32⟩
  | .hbm, ⟨31, _⟩ => ⟨S384x1024, .bf16⟩
  | .hbm, ⟨32, _⟩ => ⟨S8x64x256, .f32⟩
  | .hbm, ⟨33, _⟩ => ⟨S8x64x256, .bf16⟩
  | .hbm, ⟨34, _⟩ => ⟨S16384x1024, .f32⟩
  | .hbm, ⟨35, _⟩ => ⟨S2048, .i32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S2048, .f32⟩
  | .hbm, ⟨45, _⟩ => ⟨S2048x1, .f32⟩
  | .hbm, ⟨46, _⟩ => ⟨S1x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x32, .f32⟩
  | .hbm, ⟨53, _⟩ => ⟨S1x2048x1x32, .f32⟩
  | .hbm, ⟨54, _⟩ => ⟨S1x2048x8x32, .f32⟩
  | .hbm, ⟨55, _⟩ => ⟨S2048x256, .f32⟩
  | .hbm, ⟨56, _⟩ => ⟨S2048x16, .f32⟩
  | .hbm, ⟨57, _⟩ => ⟨S2048x32, .f32⟩
  | .hbm, ⟨58, _⟩ => ⟨S1x2048x1x32, .f32⟩
  | .hbm, ⟨59, _⟩ => ⟨S1x2048x8x32, .f32⟩
  | .hbm, ⟨60, _⟩ => ⟨S2048x256, .f32⟩
  | .hbm, ⟨61, _⟩ => ⟨S1x1024, .f32⟩
  | .hbm, ⟨62, _⟩ => ⟨S1024, .f32⟩
  | .hbm, ⟨63, _⟩ => ⟨S1x1024, .f32⟩
  | .hbm, ⟨64, _⟩ => ⟨S384, .f32⟩
  | .hbm, ⟨65, _⟩ => ⟨S1x384, .f32⟩
  | .hbm, ⟨66, _⟩ => ⟨S256, .f32⟩
  | .hbm, ⟨67, _⟩ => ⟨S1x256, .f32⟩
  | .hbm, ⟨68, _⟩ => ⟨S16384x2048, .f32⟩
  | .hbm, ⟨69, _⟩ => ⟨S8x16384x256, .bf16⟩
  | .hbm, ⟨70, _⟩ => ⟨S8x16384x32, .bf16⟩
  | .hbm, ⟨71, _⟩ => ⟨S16384x256, .f32⟩
  | .hbm, ⟨72, _⟩ => ⟨S16384x32, .f32⟩
  | .hbm, ⟨73, _⟩ => ⟨S16384x256, .bf16⟩
  | .hbm, ⟨74, _⟩ => ⟨S16384x32, .bf16⟩
  | .hbm, ⟨75, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x1024, .f32⟩
  | .local _ .vmem, ⟨7, _⟩ => ⟨S3x512, .f32⟩
  | .local _ .vmem, ⟨8, _⟩ => ⟨S1024x2048, .bf16⟩
  | .local _ .vmem, ⟨9, _⟩ => ⟨S1024x1216, .bf16⟩
  | .local _ .vmem, ⟨10, _⟩ => ⟨S1x384, .f32⟩
  | .local _ .vmem, ⟨11, _⟩ => ⟨S1x256, .f32⟩
  | .local _ .vmem, ⟨12, _⟩ => ⟨S384x1024, .bf16⟩
  | .local _ .vmem, ⟨13, _⟩ => ⟨S8x64x256, .bf16⟩
  | .local _ .vmem, ⟨14, _⟩ => ⟨S256x2048, .f32⟩
  | .local _ .vmem, ⟨15, _⟩ => ⟨S256x2048, .f32⟩
  | .local _ .vmem, ⟨16, _⟩ => ⟨S8x256x256, .bf16⟩
  | .local _ .vmem, ⟨17, _⟩ => ⟨S8x256x256, .bf16⟩
  | .local _ .vmem, ⟨18, _⟩ => ⟨S8x256x32, .bf16⟩
  | .local _ .vmem, ⟨19, _⟩ => ⟨S8x256x32, .bf16⟩
  | .local _ .vmem, ⟨20, _⟩ => ⟨S256x256, .f32⟩
  | .local _ .vmem, ⟨21, _⟩ => ⟨S256x256, .f32⟩
  | .local _ .vmem, ⟨22, _⟩ => ⟨S256x32, .f32⟩
  | .local _ .vmem, ⟨23, _⟩ => ⟨S256x32, .f32⟩
  | .local _ .vmem, ⟨24, _⟩ => ⟨S256x256, .bf16⟩
  | .local _ .vmem, ⟨25, _⟩ => ⟨S256x256, .bf16⟩
  | .local _ .vmem, ⟨26, _⟩ => ⟨S256x32, .bf16⟩
  | .local _ .vmem, ⟨27, _⟩ => ⟨S256x32, .bf16⟩
  | .local _ .vmem, ⟨28, _⟩ => ⟨S256x512, .f32⟩
  | .local _ .vmem, ⟨29, _⟩ => ⟨S256x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58_0 : Ref sig .tc := ⟨.hbm, 68, rfl⟩
abbrev main_v58_1 : Ref sig .tc := ⟨.hbm, 69, rfl⟩
abbrev main_v58_2 : Ref sig .tc := ⟨.hbm, 70, rfl⟩
abbrev main_v58_3 : Ref sig .tc := ⟨.hbm, 71, rfl⟩
abbrev main_v58_4 : Ref sig .tc := ⟨.hbm, 72, rfl⟩
abbrev main_v58_5 : Ref sig .tc := ⟨.hbm, 73, rfl⟩
abbrev main_v58_6 : Ref sig .tc := ⟨.hbm, 74, rfl⟩
abbrev main_v58_7 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1216 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x64x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x32 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x32 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== EvenRefIdeal.lean ====
abbrev S8x2048x1024 : Shape := ⟨3, ![8, 2048, 1024]⟩
abbrev S2x1024 : Shape := ⟨2, ![2, 1024]⟩
abbrev S1x1024x3232 : Shape := ⟨3, ![1, 1024, 3232]⟩
abbrev S3x512 : Shape := ⟨2, ![3, 512]⟩
abbrev S1x384 : Shape := ⟨2, ![1, 384]⟩
abbrev S1x256 : Shape := ⟨2, ![1, 256]⟩
abbrev S1x384x768 : Shape := ⟨3, ![1, 384, 768]⟩
abbrev S1x8x64x256 : Shape := ⟨4, ![1, 8, 64, 256]⟩
abbrev S2048 : Shape := ⟨1, ![2048]⟩
abbrev S_ : Shape := ⟨0, ![]⟩
abbrev S512 : Shape := ⟨1, ![512]⟩
abbrev S1x512 : Shape := ⟨2, ![1, 512]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1024x3232 : Shape := ⟨2, ![1024, 3232]⟩
abbrev S8x2048x3232 : Shape := ⟨3, ![8, 2048, 3232]⟩
abbrev S8x2048x512 : Shape := ⟨3, ![8, 2048, 512]⟩
abbrev S8x2048x384 : Shape := ⟨3, ![8, 2048, 384]⟩
abbrev S8x2048x256 : Shape := ⟨3, ![8, 2048, 256]⟩
abbrev S8x2048x32 : Shape := ⟨3, ![8, 2048, 32]⟩
abbrev S1x1x512 : Shape := ⟨3, ![1, 1, 512]⟩
abbrev S384 : Shape := ⟨1, ![384]⟩
abbrev S1x1x384 : Shape := ⟨3, ![1, 1, 384]⟩
abbrev S384x768 : Shape := ⟨2, ![384, 768]⟩
abbrev S8x2048x768 : Shape := ⟨3, ![8, 2048, 768]⟩
abbrev S8x2048x8x96 : Shape := ⟨4, ![8, 2048, 8, 96]⟩
abbrev S8x2048x8x32 : Shape := ⟨4, ![8, 2048, 8, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x8x16 : Shape := ⟨4, ![8, 2048, 8, 16]⟩
abbrev S8x2048x8x64 : Shape := ⟨4, ![8, 2048, 8, 64]⟩
abbrev S8x64x256 : Shape := ⟨3, ![8, 64, 256]⟩
abbrev S8x256x8x2048 : Shape := ⟨4, ![8, 256, 8, 2048]⟩
abbrev S8x2048x8x256 : Shape := ⟨4, ![8, 2048, 8, 256]⟩
abbrev S256 : Shape := ⟨1, ![256]⟩
abbrev S1x1x256 : Shape := ⟨3, ![1, 1, 256]⟩
abbrev S1x2048x16 : Shape := ⟨3, ![1, 2048, 16]⟩
abbrev S8x2048x16 : Shape := ⟨3, ![8, 2048, 16]⟩
abbrev S8x2048x2048 : Shape := ⟨3, ![8, 2048, 2048]⟩
abbrev S16384x2048 : Shape := ⟨2, ![16384, 2048]⟩
abbrev S8x8x2048x256 : Shape := ⟨4, ![8, 8, 2048, 256]⟩
abbrev S8x16384x256 : Shape := ⟨3, ![8, 16384, 256]⟩
abbrev S8x8x2048x32 : Shape := ⟨4, ![8, 8, 2048, 32]⟩
abbrev S8x16384x32 : Shape := ⟨3, ![8, 16384, 32]⟩
abbrev S16384x256 : Shape := ⟨2, ![16384, 256]⟩
abbrev S16384x32 : Shape := ⟨2, ![16384, 32]⟩
abbrev S16384x512 : Shape := ⟨2, ![16384, 512]⟩

abbrev nBuf : Space → Nat
  | .hbm => 226
  | .vmem => 0
  | .smem => 0
  | _ => 0

abbrev hbmTy0_0 (i : Nat) : BufTy := match i % 128 with
  | 0 => ⟨S8x2048x1024, .f32⟩
  | 1 => ⟨S2x1024, .f32⟩
  | 2 => ⟨S1x1024x3232, .f32⟩
  | 3 => ⟨S3x512, .f32⟩
  | 4 => ⟨S1x384, .f32⟩
  | 5 => ⟨S1x256, .f32⟩
  | 6 => ⟨S1x384x768, .f32⟩
  | 7 => ⟨S1x8x64x256, .f32⟩
  | 8 => ⟨S2048, .i32⟩
  | 9 => ⟨S_, .f32⟩
  | 10 => ⟨S512, .f32⟩
  | 11 => ⟨S_, .f32⟩
  | 12 => ⟨S512, .f32⟩
  | 13 => ⟨S512, .f32⟩
  | 14 => ⟨S1x512, .f32⟩
  | 15 => ⟨S3x512, .f32⟩
  | 16 => ⟨S3x512, .f32⟩
  | 17 => ⟨S3x512, .f32⟩
  | 18 => ⟨S_, .f32⟩
  | 19 => ⟨S512, .f32⟩
  | 20 => ⟨S1x512, .f32⟩
  | 21 => ⟨S3x512, .f32⟩
  | 22 => ⟨S3x512, .f32⟩
  | 23 => ⟨S_, .f32⟩
  | 24 => ⟨S_, .f32⟩
  | 25 => ⟨S3x512, .f32⟩
  | 26 => ⟨S1x512, .f32⟩
  | 27 => ⟨S512, .f32⟩
  | 28 => ⟨S1x1024, .f32⟩
  | 29 => ⟨S1024, .f32⟩
  | 30 => ⟨S8x2048x1024, .f32⟩
  | 31 => ⟨S_, .f32⟩
  | 32 => ⟨S8x2048, .f32⟩
  | 33 => ⟨S8x2048x1, .f32⟩
  | 34 => ⟨S_, .f32⟩
  | 35 => ⟨S8x2048x1, .f32⟩
  | 36 => ⟨S8x2048x1, .f32⟩
  | 37 => ⟨S_, .f32⟩
  | 38 => ⟨S8x2048x1, .f32⟩
  | 39 => ⟨S8x2048x1, .f32⟩
  | 40 => ⟨S8x2048x1, .f32⟩
  | 41 => ⟨S8x2048x1024, .f32⟩
  | 42 => ⟨S8x2048x1024, .f32⟩
  | 43 => ⟨S1x1x1024, .f32⟩
  | 44 => ⟨S8x2048x1024, .f32⟩
  | 45 => ⟨S8x2048x1024, .f32⟩
  | 46 => ⟨S1024x3232, .f32⟩
  | 47 => ⟨S8x2048x3232, .f32⟩
  | 48 => ⟨S8x2048x512, .f32⟩
  | 49 => ⟨S8x2048x512, .f32⟩
  | 50 => ⟨S8x2048x512, .f32⟩
  | 51 => ⟨S8x2048x512, .f32⟩
  | 52 => ⟨S8x2048x384, .f32⟩
  | 53 => ⟨S8x2048x256, .f32⟩
  | 54 => ⟨S8x2048x32, .f32⟩
  | 55 => ⟨S8x2048x512, .f32⟩
  | 56 => ⟨S_, .f32⟩
  | 57 => ⟨S512, .f32⟩
  | 58 => ⟨S512, .f32⟩
  | 59 => ⟨S8x2048x512, .f32⟩
  | 60 => ⟨S8x2048x512, .f32⟩
  | 61 => ⟨S_, .f32⟩
  | 62 => ⟨S8x2048x512, .f32⟩
  | 63 => ⟨S8x2048x512, .f32⟩
  | 64 => ⟨S_, .f32⟩
  | 65 => ⟨S8x2048x512, .f32⟩
  | 66 => ⟨S8x2048x512, .f32⟩
  | 67 => ⟨S1x1x512, .f32⟩
  | 68 => ⟨S8x2048x512, .f32⟩
  | 69 => ⟨S8x2048x512, .f32⟩
  | 70 => ⟨S1x1x512, .f32⟩
  | 71 => ⟨S8x2048x512, .f32⟩
  | 72 => ⟨S8x2048x512, .f32⟩
  | 73 => ⟨S384, .f32⟩
  | 74 => ⟨S8x2048x384, .f32⟩
  | 75 => ⟨S_, .f32⟩
  | 76 => ⟨S8x2048, .f32⟩
  | 77 => ⟨S8x2048x1, .f32⟩
  | 78 => ⟨S_, .f32⟩
  | 79 => ⟨S8x2048x1, .f32⟩
  | 80 => ⟨S8x2048x1, .f32⟩
  | 81 => ⟨S_, .f32⟩
  | 82 => ⟨S8x2048x1, .f32⟩
  | 83 => ⟨S8x2048x1, .f32⟩
  | 84 => ⟨S8x2048x1, .f32⟩
  | 85 => ⟨S8x2048x384, .f32⟩
  | 86 => ⟨S8x2048x384, .f32⟩
  | 87 => ⟨S1x1x384, .f32⟩
  | 88 => ⟨S8x2048x384, .f32⟩
  | 89 => ⟨S8x2048x384, .f32⟩
  | 90 => ⟨S384x768, .f32⟩
  | 91 => ⟨S8x2048x768, .f32⟩
  | 92 => ⟨S8x2048x8x96, .f32⟩
  | 93 => ⟨S8x2048x8x32, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S2048, .f32⟩
  | 103 => ⟨S2048x1, .f32⟩
  | 104 => ⟨S1x16, .f32⟩
  | 105 => ⟨S2048x16, .f32⟩
  | 106 => ⟨S2048x16, .f32⟩
  | 107 => ⟨S2048x16, .f32⟩
  | 108 => ⟨S2048x16, .f32⟩
  | 109 => ⟨S1x2048x1x16, .f32⟩
  | 110 => ⟨S2048x16, .f32⟩
  | 111 => ⟨S1x2048x1x16, .f32⟩
  | 112 => ⟨S8x2048x8x16, .f32⟩
  | 113 => ⟨S8x2048x8x16, .f32⟩
  | 114 => ⟨S8x2048x8x16, .f32⟩
  | 115 => ⟨S8x2048x8x16, .f32⟩
  | 116 => ⟨S8x2048x8x16, .f32⟩
  | 117 => ⟨S8x2048x8x16, .f32⟩
  | 118 => ⟨S8x2048x8x16, .f32⟩
  | 119 => ⟨S8x2048x8x16, .f32⟩
  | 120 => ⟨S8x2048x8x16, .f32⟩
  | 121 => ⟨S8x2048x8x16, .f32⟩
  | 122 => ⟨S8x2048x8x16, .f32⟩
  | 123 => ⟨S8x2048x8x16, .f32⟩
  | 124 => ⟨S8x2048x8x32, .f32⟩
  | 125 => ⟨S_, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S8x2048x8x64, .f32⟩
  | 1 => ⟨S8x64x256, .f32⟩
  | 2 => ⟨S8x256x8x2048, .f32⟩
  | 3 => ⟨S8x2048x8x256, .f32⟩
  | 4 => ⟨S_, .f32⟩
  | 5 => ⟨S8x2048x8x256, .f32⟩
  | 6 => ⟨S8x2048x8x256, .f32⟩
  | 7 => ⟨S256, .f32⟩
  | 8 => ⟨S8x2048x256, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x256, .f32⟩
  | 20 => ⟨S8x2048x256, .f32⟩
  | 21 => ⟨S1x1x256, .f32⟩
  | 22 => ⟨S8x2048x256, .f32⟩
  | 23 => ⟨S8x2048x256, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S2048, .f32⟩
  | 33 => ⟨S2048x1, .f32⟩
  | 34 => ⟨S1x16, .f32⟩
  | 35 => ⟨S2048x16, .f32⟩
  | 36 => ⟨S2048x16, .f32⟩
  | 37 => ⟨S2048x16, .f32⟩
  | 38 => ⟨S2048x16, .f32⟩
  | 39 => ⟨S1x2048x16, .f32⟩
  | 40 => ⟨S2048x16, .f32⟩
  | 41 => ⟨S1x2048x16, .f32⟩
  | 42 => ⟨S8x2048x16, .f32⟩
  | 43 => ⟨S8x2048x16, .f32⟩
  | 44 => ⟨S8x2048x16, .f32⟩
  | 45 => ⟨S8x2048x16, .f32⟩
  | 46 => ⟨S8x2048x16, .f32⟩
  | 47 => ⟨S8x2048x16, .f32⟩
  | 48 => ⟨S8x2048x16, .f32⟩
  | 49 => ⟨S8x2048x16, .f32⟩
  | 50 => ⟨S8x2048x16, .f32⟩
  | 51 => ⟨S8x2048x16, .f32⟩
  | 52 => ⟨S8x2048x16, .f32⟩
  | 53 => ⟨S8x2048x16, .f32⟩
  | 54 => ⟨S8x2048x32, .f32⟩
  | 55 => ⟨S8x2048x512, .f32⟩
  | 56 => ⟨S8x2048x512, .f32⟩
  | 57 => ⟨S_, .f32⟩
  | 58 => ⟨S8x2048x512, .f32⟩
  | 59 => ⟨S8x2048x512, .f32⟩
  | 60 => ⟨S_, .f32⟩
  | 61 => ⟨S8x2048x512, .f32⟩
  | 62 => ⟨S8x2048x512, .f32⟩
  | 63 => ⟨S8x2048x512, .f32⟩
  | 64 => ⟨S8x2048x512, .f32⟩
  | 65 => ⟨S8x2048x512, .f32⟩
  | 66 => ⟨S8x2048x512, .f32⟩
  | 67 => ⟨S_, .f32⟩
  | 68 => ⟨S8x2048x512, .f32⟩
  | 69 => ⟨S8x2048x512, .f32⟩
  | 70 => ⟨S_, .f32⟩
  | 71 => ⟨S8x2048x512, .f32⟩
  | 72 => ⟨S8x2048x512, .f32⟩
  | 73 => ⟨S8x2048x512, .f32⟩
  | 74 => ⟨S8x2048x2048, .f32⟩
  | 75 => ⟨S16384x2048, .f32⟩
  | 76 => ⟨S8x8x2048x256, .f32⟩
  | 77 => ⟨S8x16384x256, .f32⟩
  | 78 => ⟨S8x16384x256, .bf16⟩
  | 79 => ⟨S8x8x2048x32, .f32⟩
  | 80 => ⟨S8x16384x32, .f32⟩
  | 81 => ⟨S8x16384x32, .bf16⟩
  | 82 => ⟨S16384x256, .f32⟩
  | 83 => ⟨S16384x32, .f32⟩
  | 84 => ⟨S16384x256, .f32⟩
  | 85 => ⟨S16384x256, .bf16⟩
  | 86 => ⟨S16384x32, .f32⟩
  | 87 => ⟨S16384x32, .bf16⟩
  | 88 => ⟨S8x2048x512, .f32⟩
  | 89 => ⟨S8x2048x512, .f32⟩
  | 90 => ⟨S_, .f32⟩
  | 91 => ⟨S8x2048x512, .f32⟩
  | 92 => ⟨S8x2048x512, .f32⟩
  | 93 => ⟨S_, .f32⟩
  | 94 => ⟨S8x2048x512, .f32⟩
  | 95 => ⟨S8x2048x512, .f32⟩
  | 96 => ⟨S8x2048x512, .f32⟩
  | 97 => ⟨S16384x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_call0_cst : Ref sig .tc := ⟨.hbm, 23, rfl⟩
abbrev main_call0_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_13 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_14 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_cst_15 : Ref sig .tc := ⟨.hbm, 137, rfl⟩
abbrev main_v111 : Ref sig .tc := ⟨.hbm, 138, rfl⟩
abbrev main_v112 : Ref sig .tc := ⟨.hbm, 139, rfl⟩
abbrev main_cst_16 : Ref sig .tc := ⟨.hbm, 140, rfl⟩
abbrev main_v113 : Ref sig .tc := ⟨.hbm, 141, rfl⟩
abbrev main_v114 : Ref sig .tc := ⟨.hbm, 142, rfl⟩
abbrev main_cst_17 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_18 : Ref sig .tc := ⟨.hbm, 154, rfl⟩
abbrev main_v125 : Ref sig .tc := ⟨.hbm, 155, rfl⟩
abbrev main_v126 : Ref sig .tc := ⟨.hbm, 156, rfl⟩
abbrev main_cst_19 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_call1_v0 : Ref sig .tc := ⟨.hbm, 183, rfl⟩
abbrev main_call1_v1 : Ref sig .tc := ⟨.hbm, 184, rfl⟩
abbrev main_call1_cst : Ref sig .tc := ⟨.hbm, 185, rfl⟩
abbrev main_call1_v2 : Ref sig .tc := ⟨.hbm, 186, rfl⟩
abbrev main_call1_v3 : Ref sig .tc := ⟨.hbm, 187, rfl⟩
abbrev main_call1_cst_0 : Ref sig .tc := ⟨.hbm, 188, rfl⟩
abbrev main_call1_v4 : Ref sig .tc := ⟨.hbm, 189, rfl⟩
abbrev main_call1_v5 : Ref sig .tc := ⟨.hbm, 190, rfl⟩
abbrev main_v152 : Ref sig .tc := ⟨.hbm, 191, rfl⟩
abbrev main_v153 : Ref sig .tc := ⟨.hbm, 192, rfl⟩
abbrev main_call2_v0 : Ref sig .tc := ⟨.hbm, 193, rfl⟩
abbrev main_call2_v1 : Ref sig .tc := ⟨.hbm, 194, rfl⟩
abbrev main_call2_cst : Ref sig .tc := ⟨.hbm, 195, rfl⟩
abbrev main_call2_v2 : Ref sig .tc := ⟨.hbm, 196, rfl⟩
abbrev main_call2_v3 : Ref sig .tc := ⟨.hbm, 197, rfl⟩
abbrev main_call2_cst_0 : Ref sig .tc := ⟨.hbm, 198, rfl⟩
abbrev main_call2_v4 : Ref sig .tc := ⟨.hbm, 199, rfl⟩
abbrev main_call2_v5 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_call3_v0 : Ref sig .tc := ⟨.hbm, 216, rfl⟩
abbrev main_call3_v1 : Ref sig .tc := ⟨.hbm, 217, rfl⟩
abbrev main_call3_cst : Ref sig .tc := ⟨.hbm, 218, rfl⟩
abbrev main_call3_v2 : Ref sig .tc := ⟨.hbm, 219, rfl⟩
abbrev main_call3_v3 : Ref sig .tc := ⟨.hbm, 220, rfl⟩
abbrev main_call3_cst_0 : Ref sig .tc := ⟨.hbm, 221, rfl⟩
abbrev main_call3_v4 : Ref sig .tc := ⟨.hbm, 222, rfl⟩
abbrev main_call3_v5 : Ref sig .tc := ⟨.hbm, 223, rfl⟩
abbrev main_v169 : Ref sig .tc := ⟨.hbm, 224, rfl⟩
abbrev main_v170 : Ref sig .tc := ⟨.hbm, 225, rfl⟩

abbrev nD : Nat := 1
abbrev τ : Topo := Topo.v7x

variable {F : FTy → Type} [FloatOps F]
-- ==== Mid.lean ====
abbrev S8x2048x1024 : Shape := ⟨3, ![8, 2048, 1024]⟩
abbrev S16384x512 : Shape := ⟨2, ![16384, 512]⟩
abbrev S16384x2048 : Shape := ⟨2, ![16384, 2048]⟩
abbrev S2x8x2048x256 : Shape := ⟨4, ![2, 8, 2048, 256]⟩
abbrev S1x8x64x256 : Shape := ⟨4, ![1, 8, 64, 256]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S_ : Shape := ⟨0, ![]⟩
abbrev S8x256x8x64 : Shape := ⟨4, ![8, 256, 8, 64]⟩
abbrev S8 : Shape := ⟨1, ![8]⟩
abbrev S8x64x256 : Shape := ⟨3, ![8, 64, 256]⟩
abbrev S8x256x64 : Shape := ⟨3, ![8, 256, 64]⟩
abbrev S8x1 : Shape := ⟨2, ![8, 1]⟩
abbrev S8x2 : Shape := ⟨2, ![8, 2]⟩
abbrev S2048x512 : Shape := ⟨2, ![2048, 512]⟩
abbrev S1024x1024 : Shape := ⟨2, ![1024, 1024]⟩
abbrev S16384x1024 : Shape := ⟨2, ![16384, 1024]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1x1024 : Shape := ⟨2, ![1, 1024]⟩
abbrev S1024 : Shape := ⟨1, ![1024]⟩
abbrev S1x256x1024 : Shape := ⟨3, ![1, 256, 1024]⟩
abbrev S256x1024 : Shape := ⟨2, ![256, 1024]⟩
abbrev S256x512 : Shape := ⟨2, ![256, 512]⟩
abbrev S256x2048 : Shape := ⟨2, ![256, 2048]⟩
abbrev S256x256 : Shape := ⟨2, ![256, 256]⟩
abbrev S512x1024 : Shape := ⟨2, ![512, 1024]⟩
abbrev S256 : Shape := ⟨1, ![256]⟩
abbrev S256x1 : Shape := ⟨2, ![256, 1]⟩

abbrev nBuf : Space → Nat
  | .hbm => 57
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x2048, .bf16⟩
  | .hbm, ⟨3, _⟩ => ⟨S16384x512, .f32⟩
  | .hbm, ⟨4, _⟩ => ⟨S2x8x2048x256, .f32⟩
  | .hbm, ⟨5, _⟩ => ⟨S1x8x64x256, .f32⟩
  | .hbm, ⟨6, _⟩ => ⟨S1x1024x1024, .f32⟩
  | .hbm, ⟨7, _⟩ => ⟨S2x1024, .f32⟩
  | .hbm, ⟨8, _⟩ => ⟨S2x1024x1024, .f32⟩
  | .hbm, ⟨9, _⟩ => ⟨S2x256x1024, .f32⟩
  | .hbm, ⟨10, _⟩ => ⟨S2x1024, .f32⟩
  | .hbm, ⟨11, _⟩ => ⟨S_, .f32⟩
  | .hbm, ⟨12, _⟩ => ⟨S8x256x8x64, .f32⟩
  | .hbm, ⟨13, _⟩ => ⟨S8, .i32⟩
  | .hbm, ⟨14, _⟩ => ⟨S8, .i32⟩
  | .hbm, ⟨15, _⟩ => ⟨S8x64x256, .f32⟩
  | .hbm, ⟨16, _⟩ => ⟨S8x256x64, .f32⟩
  | .hbm, ⟨17, _⟩ => ⟨S_, .i32⟩
  | .hbm, ⟨18, _⟩ => ⟨S8, .i32⟩
  | .hbm, ⟨19, _⟩ => ⟨S8, .i1⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .i32⟩
  | .hbm, ⟨31, _⟩ => ⟨S8x1, .i32⟩
  | .hbm, ⟨32, _⟩ => ⟨S8x1, .i32⟩
  | .hbm, ⟨33, _⟩ => ⟨S8x2, .i32⟩
  | .hbm, ⟨34, _⟩ => ⟨S8x256x8x64, .f32⟩
  | .hbm, ⟨35, _⟩ => ⟨S2048x512, .f32⟩
  | .hbm, ⟨36, _⟩ => ⟨S2048x512, .bf16⟩
  | .hbm, ⟨37, _⟩ => ⟨S1024x1024, .f32⟩
  | .hbm, ⟨38, _⟩ => ⟨S1024x1024, .bf16⟩
  | .hbm, ⟨39, _⟩ => ⟨S2x1024x1024, .bf16⟩
  | .hbm, ⟨40, _⟩ => ⟨S2x256x1024, .bf16⟩
  | .hbm, ⟨41, _⟩ => ⟨S16384x1024, .f32⟩
  | .hbm, ⟨42, _⟩ => ⟨S1x8x2048x256, .f32⟩
  | .hbm, ⟨43, _⟩ => ⟨S8x2048x256, .f32⟩
  | .hbm, ⟨44, _⟩ => ⟨S16384x256, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1x1024x1024, .bf16⟩
  | .hbm, ⟨49, _⟩ => ⟨S1024x1024, .bf16⟩
  | .hbm, ⟨50, _⟩ => ⟨S1x256x1024, .bf16⟩
  | .hbm, ⟨51, _⟩ => ⟨S256x1024, .bf16⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S16384x1024, .f32⟩
  | .hbm, ⟨56, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x2048, .bf16⟩
  | .local _ .vmem, ⟨5, _⟩ => ⟨S256x2048, .bf16⟩
  | .local _ .vmem, ⟨6, _⟩ => ⟨S256x512, .f32⟩
  | .local _ .vmem, ⟨7, _⟩ => ⟨S256x512, .f32⟩
  | .local _ .vmem, ⟨8, _⟩ => ⟨S256x256, .f32⟩
  | .local _ .vmem, ⟨9, _⟩ => ⟨S256x256, .f32⟩
  | .local _ .vmem, ⟨10, _⟩ => ⟨S2048x512, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S256x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39_0 : Ref sig .tc := ⟨.hbm, 55, rfl⟩
abbrev main_v39_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MidRefIdeal.lean ====
abbrev S8x2048x1024 : Shape := ⟨3, ![8, 2048, 1024]⟩
abbrev S16384x512 : Shape := ⟨2, ![16384, 512]⟩
abbrev S16384x2048 : Shape := ⟨2, ![16384, 2048]⟩
abbrev S2x8x2048x256 : Shape := ⟨4, ![2, 8, 2048, 256]⟩
abbrev S1x8x64x256 : Shape := ⟨4, ![1, 8, 64, 256]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S8x2048x8x256 : Shape := ⟨4, ![8, 2048, 8, 256]⟩
abbrev S8x64x256 : Shape := ⟨3, ![8, 64, 256]⟩
abbrev S8x64x8x2048 : Shape := ⟨4, ![8, 64, 8, 2048]⟩
abbrev S8x2048x8x64 : Shape := ⟨4, ![8, 2048, 8, 64]⟩
abbrev S8x2048x512 : Shape := ⟨3, ![8, 2048, 512]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x2048, .bf16⟩
  | .hbm, ⟨3, _⟩ => ⟨S16384x512, .f32⟩
  | .hbm, ⟨4, _⟩ => ⟨S2x8x2048x256, .f32⟩
  | .hbm, ⟨5, _⟩ => ⟨S1x8x64x256, .f32⟩
  | .hbm, ⟨6, _⟩ => ⟨S1x1024x1024, .f32⟩
  | .hbm, ⟨7, _⟩ => ⟨S2x1024, .f32⟩
  | .hbm, ⟨8, _⟩ => ⟨S2x1024x1024, .f32⟩
  | .hbm, ⟨9, _⟩ => ⟨S2x256x1024, .f32⟩
  | .hbm, ⟨10, _⟩ => ⟨S2x1024, .f32⟩
  | .hbm, ⟨11, _⟩ => ⟨S16384x2048, .f32⟩
  | .hbm, ⟨12, _⟩ => ⟨S8x2048x8x256, .f32⟩
  | .hbm, ⟨13, _⟩ => ⟨S8x64x256, .f32⟩
  | .hbm, ⟨14, _⟩ => ⟨S8x64x8x2048, .f32⟩
  | .hbm, ⟨15, _⟩ => ⟨S8x2048x8x64, .f32⟩
  | .hbm, ⟨16, _⟩ => ⟨S8x2048x512, .f32⟩
  | .hbm, ⟨17, _⟩ => ⟨S8x2048x512, .f32⟩
  | .hbm, ⟨18, _⟩ => ⟨S8x2048x512, .f32⟩
  | .hbm, ⟨19, _⟩ => ⟨S8x2048x512, .bf16⟩
  | .hbm, ⟨20, _⟩ => ⟨S8x2048x512, .f32⟩
  | .hbm, ⟨21, _⟩ => ⟨S8x2048x1024, .f32⟩
  | .hbm, ⟨22, _⟩ => ⟨S1024x1024, .f32⟩
  | .hbm, ⟨23, _⟩ => ⟨S8x2048x1024, .f32⟩
  | .hbm, ⟨24, _⟩ => ⟨S8x2048x1024, .f32⟩
  | .hbm, ⟨25, _⟩ => ⟨S1x1024, .f32⟩
  | .hbm, ⟨26, _⟩ => ⟨S1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S1x1024x1024, .f32⟩
  | .hbm, ⟨44, _⟩ => ⟨S1024x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S1x8x2048x256, .f32⟩
  | .hbm, ⟨55, _⟩ => ⟨S8x2048x256, .f32⟩
  | .hbm, ⟨56, _⟩ => ⟨S1x256x1024, .f32⟩
  | .hbm, ⟨57, _⟩ => ⟨S256x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S16384x1024, .f32⟩
  | .hbm, ⟨62, _⟩ => ⟨S1x1024, .f32⟩
  | .hbm, ⟨63, _⟩ => ⟨S1024, .f32⟩
  | .hbm, ⟨64, _⟩ => ⟨S8x2048x1024, .f32⟩
  | .hbm, ⟨65, _⟩ => ⟨S_, .f32⟩
  | .hbm, ⟨66, _⟩ => ⟨S8x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S_, .f32⟩
  | .hbm, ⟨72, _⟩ => ⟨S8x2048x1, .f32⟩
  | .hbm, ⟨73, _⟩ => ⟨S8x2048x1, .f32⟩
  | .hbm, ⟨74, _⟩ => ⟨S8x2048x1, .f32⟩
  | .hbm, ⟨75, _⟩ => ⟨S8x2048x1024, .f32⟩
  | .hbm, ⟨76, _⟩ => ⟨S8x2048x1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | .hbm, ⟨80, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Mix.lean ====
abbrev S16384x1024 : Shape := ⟨2, ![16384, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S_ : Shape := ⟨0, ![]⟩
abbrev S8x1024 : Shape := ⟨2, ![8, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x2048x1024 : Shape := ⟨3, ![8, 2048, 1024]⟩
abbrev S8x1x1024 : Shape := ⟨3, ![8, 1, 1024]⟩
abbrev S8x2047x1024 : Shape := ⟨3, ![8, 2047, 1024]⟩
abbrev S6x1024 : Shape := ⟨2, ![6, 1024]⟩
abbrev S1x1x1024x1024 : Shape := ⟨4, ![1, 1, 1024, 1024]⟩
abbrev S1024x1024 : Shape := ⟨2, ![1024, 1024]⟩
abbrev S1024 : Shape := ⟨1, ![1024]⟩
abbrev S1024x64 : Shape := ⟨2, ![1024, 64]⟩
abbrev S64x1024 : Shape := ⟨2, ![64, 1024]⟩
abbrev S256x1024 : Shape := ⟨2, ![256, 1024]⟩
abbrev S256x64 : Shape := ⟨2, ![256, 64]⟩

abbrev nBuf : Space → Nat
  | .hbm => 64
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1x6x1024, .f32⟩
  | .hbm, ⟨2, _⟩ => ⟨S1x4x1024x1024, .f32⟩
  | .hbm, ⟨3, _⟩ => ⟨S1x1024, .f32⟩
  | .hbm, ⟨4, _⟩ => ⟨S1x1024x64, .f32⟩
  | .hbm, ⟨5, _⟩ => ⟨S1x64x1024, .f32⟩
  | .hbm, ⟨6, _⟩ => ⟨S1x1024, .f32⟩
  | .hbm, ⟨7, _⟩ => ⟨S1x1024x64, .f32⟩
  | .hbm, ⟨8, _⟩ => ⟨S1x64x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S8x1024, .f32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256x1, .i32⟩
  | .hbm, ⟨18, _⟩ => ⟨S1x256, .i32⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S256x256, .bf16⟩
  | .hbm, ⟨23, _⟩ => ⟨S8x2048x1024, .f32⟩
  | .hbm, ⟨24, _⟩ => ⟨S8x1x1024, .f32⟩
  | .hbm, ⟨25, _⟩ => ⟨S8x2047x1024, .f32⟩
  | .hbm, ⟨26, _⟩ => ⟨S8x2048x1024, .f32⟩
  | .hbm, ⟨27, _⟩ => ⟨S16384x1024, .f32⟩
  | .hbm, ⟨28, _⟩ => ⟨S6x1024, .f32⟩
  | .hbm, ⟨29, _⟩ => ⟨S1x1x1024x1024, .f32⟩
  | .hbm, ⟨30, _⟩ => ⟨S1024x1024, .f32⟩
  | .hbm, ⟨31, _⟩ => ⟨S1024x1024, .bf16⟩
  | .hbm, ⟨32, _⟩ => ⟨S1x1x1024x1024, .f32⟩
  | .hbm, ⟨33, _⟩ => ⟨S1024x1024, .f32⟩
  | .hbm, ⟨34, _⟩ => ⟨S1024x1024, .bf16⟩
  | .hbm, ⟨35, _⟩ => ⟨S1x1x1024x1024, .f32⟩
  | .hbm, ⟨36, _⟩ => ⟨S1024x1024, .f32⟩
  | .hbm, ⟨37, _⟩ => ⟨S1024x1024, .bf16⟩
  | .hbm, ⟨38, _⟩ => ⟨S1x1x1024x1024, .f32⟩
  | .hbm, ⟨39, _⟩ => ⟨S1024x1024, .f32⟩
  | .hbm, ⟨40, _⟩ => ⟨S1024x1024, .bf16⟩
  | .hbm, ⟨41, _⟩ => ⟨S1024, .f32⟩
  | .hbm, ⟨42, _⟩ => ⟨S1x1024, .f32⟩
  | .hbm, ⟨43, _⟩ => ⟨S1024x64, .f32⟩
  | .hbm, ⟨44, _⟩ => ⟨S1024x64, .bf16⟩
  | .hbm, ⟨45, _⟩ => ⟨S64x1024, .f32⟩
  | .hbm, ⟨46, _⟩ => ⟨S64x1024, .bf16⟩
  | .hbm, ⟨47, _⟩ => ⟨S1024, .f32⟩
  | .hbm, ⟨48, _⟩ => ⟨S1x1024, .f32⟩
  | .hbm, ⟨49, _⟩ => ⟨S1024x64, .f32⟩
  | .hbm, ⟨50, _⟩ => ⟨S1024x64, .bf16⟩
  | .hbm, ⟨51, _⟩ => ⟨S64x1024, .f32⟩
  | .hbm, ⟨52, _⟩ => ⟨S64x1024, .bf16⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S6x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x64, .bf16⟩
  | .local _ .vmem, ⟨11, _⟩ => ⟨S64x1024, .bf16⟩
  | .local _ .vmem, ⟨12, _⟩ => ⟨S1x1024, .f32⟩
  | .local _ .vmem, ⟨13, _⟩ => ⟨S1024x64, .bf16⟩
  | .local _ .vmem, ⟨14, _⟩ => ⟨S64x1024, .bf16⟩
  | .local _ .vmem, ⟨15, _⟩ => ⟨S1x1024, .f32⟩
  | .local _ .vmem, ⟨16, _⟩ => ⟨S1x1024, .f32⟩
  | .local _ .vmem, ⟨17, _⟩ => ⟨S256x256, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev main_v44_2 : Ref sig .tc := ⟨.hbm, 59, rfl⟩
abbrev main_v44_3 : Ref sig .tc := ⟨.hbm, 60, rfl⟩
abbrev main_v44_4 : Ref sig .tc := ⟨.hbm, 61, rfl⟩
abbrev main_v44_5 : Ref sig .tc := ⟨.hbm, 62, rfl⟩
abbrev main_v44_6 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== MixRefIdeal.lean ====
abbrev S16384x1024 : Shape := ⟨2, ![16384, 1024]⟩
abbrev S1x6x1024 : Shape := ⟨3, ![1, 6, 1024]⟩
abbrev S1x4x1024x1024 : Shape := ⟨4, ![1, 4, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S8x2048x1024 : Shape := ⟨3, ![8, 2048, 1024]⟩
abbrev S_ : Shape := ⟨0, ![]⟩
abbrev S8x1x1024 : Shape := ⟨3, ![8, 1, 1024]⟩
abbrev S8x2047x1024 : Shape := ⟨3, ![8, 2047, 1024]⟩
abbrev S1x8x2048x1024 : Shape := ⟨4, ![1, 8, 2048, 1024]⟩
abbrev S6x1024 : Shape := ⟨2, ![6, 1024]⟩
abbrev S6x1x1x1024 : Shape := ⟨4, ![6, 1, 1, 1024]⟩
abbrev S6x8x2048x1024 : Shape := ⟨4, ![6, 8, 2048, 1024]⟩
abbrev S4x8x2048x1024 : Shape := ⟨4, ![4, 8, 2048, 1024]⟩
abbrev S4x1024x1024 : Shape := ⟨3, ![4, 1024, 1024]⟩
abbrev S1024 : Shape := ⟨1, ![1024]⟩
abbrev S1024x64 : Shape := ⟨2, ![1024, 64]⟩
abbrev S8x2048x64 : Shape := ⟨3, ![8, 2048, 64]⟩
abbrev S64x1024 : Shape := ⟨2, ![64, 1024]⟩
abbrev S1x1x1024 : Shape := ⟨3, ![1, 1, 1024]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩

abbrev nBuf : Space → Nat
  | .hbm => 133
  | .vmem => 0
  | .smem => 0
  | _ => 0

abbrev hbmTy0_0 (i : Nat) : BufTy := match i % 128 with
  | 0 => ⟨S16384x1024, .f32⟩
  | 1 => ⟨S1x6x1024, .f32⟩
  | 2 => ⟨S1x4x1024x1024, .f32⟩
  | 3 => ⟨S1x1024, .f32⟩
  | 4 => ⟨S1x1024x64, .f32⟩
  | 5 => ⟨S1x64x1024, .f32⟩
  | 6 => ⟨S1x1024, .f32⟩
  | 7 => ⟨S1x1024x64, .f32⟩
  | 8 => ⟨S1x64x1024, .f32⟩
  | 9 => ⟨S1x1024, .f32⟩
  | 10 => ⟨S1x1024, .f32⟩
  | 11 => ⟨S8x2048x1024, .f32⟩
  | 12 => ⟨S_, .f32⟩
  | 13 => ⟨S8x1x1024, .f32⟩
  | 14 => ⟨S8x2047x1024, .f32⟩
  | 15 => ⟨S8x2048x1024, .f32⟩
  | 16 => ⟨S1x8x2048x1024, .f32⟩
  | 17 => ⟨S8x2048x1024, .f32⟩
  | 18 => ⟨S1x8x2048x1024, .f32⟩
  | 19 => ⟨S6x1024, .f32⟩
  | 20 => ⟨S6x1x1x1024, .f32⟩
  | 21 => ⟨S6x8x2048x1024, .f32⟩
  | 22 => ⟨S6x8x2048x1024, .f32⟩
  | 23 => ⟨S6x8x2048x1024, .f32⟩
  | 24 => ⟨S6x8x2048x1024, .f32⟩
  | 25 => ⟨S6x8x2048x1024, .f32⟩
  | 26 => ⟨S4x8x2048x1024, .f32⟩
  | 27 => ⟨S4x1024x1024, .f32⟩
  | 28 => ⟨S4x8x2048x1024, .f32⟩
  | 29 => ⟨S1x8x2048x1024, .f32⟩
  | 30 => ⟨S8x2048x1024, .f32⟩
  | 31 => ⟨S1x8x2048x1024, .f32⟩
  | 32 => ⟨S8x2048x1024, .f32⟩
  | 33 => ⟨S1x8x2048x1024, .f32⟩
  | 34 => ⟨S8x2048x1024, .f32⟩
  | 35 => ⟨S1x8x2048x1024, .f32⟩
  | 36 => ⟨S8x2048x1024, .f32⟩
  | 37 => ⟨S1024, .f32⟩
  | 38 => ⟨S1x8x2048x1024, .f32⟩
  | 39 => ⟨S8x2048x1024, .f32⟩
  | 40 => ⟨S1024x64, .f32⟩
  | 41 => ⟨S8x2048x64, .f32⟩
  | 42 => ⟨S8x2048x64, .f32⟩
  | 43 => ⟨S64x1024, .f32⟩
  | 44 => ⟨S8x2048x1024, .f32⟩
  | 45 => ⟨S1x1x1024, .f32⟩
  | 46 => ⟨S8x2048x1024, .f32⟩
  | 47 => ⟨S8x2048x1024, .f32⟩
  | 48 => ⟨S8x2048x1024, .f32⟩
  | 49 => ⟨S_, .f32⟩
  | 50 => ⟨S8x2048x1024, .f32⟩
  | 51 => ⟨S8x2048x1024, .f32⟩
  | 52 => ⟨S8x2048x1024, .f32⟩
  | 53 => ⟨S8x2048x1024, .f32⟩
  | 54 => ⟨S8x2048x1024, .i1⟩
  | 55 => ⟨S8x2048x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S8x2048x1024, .f32⟩
  | 61 => ⟨S8x2048x1024, .f32⟩
  | 62 => ⟨S8x2048x1024, .f32⟩
  | 63 => ⟨S8x2048x1024, .f32⟩
  | 64 => ⟨S_, .f32⟩
  | 65 => ⟨S8x2048x1024, .f32⟩
  | 66 => ⟨S8x2048x1024, .f32⟩
  | 67 => ⟨S8x2048x1024, .f32⟩
  | 68 => ⟨S8x2048x1024, .f32⟩
  | 69 => ⟨S8x2048x1024, .f32⟩
  | 70 => ⟨S1024, .f32⟩
  | 71 => ⟨S1x8x2048x1024, .f32⟩
  | 72 => ⟨S8x2048x1024, .f32⟩
  | 73 => ⟨S1024x64, .f32⟩
  | 74 => ⟨S8x2048x64, .f32⟩
  | 75 => ⟨S64x1024, .f32⟩
  | 76 => ⟨S8x2048x1024, .f32⟩
  | 77 => ⟨S1x1x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S_, .f32⟩
  | 83 => ⟨S8x2048x1024, .f32⟩
  | 84 => ⟨S8x2048x1024, .f32⟩
  | 85 => ⟨S_, .f32⟩
  | 86 => ⟨S8x2048x1024, .f32⟩
  | 87 => ⟨S8x2048x1024, .f32⟩
  | 88 => ⟨S1024, .f32⟩
  | 89 => ⟨S1x1x1024, .f32⟩
  | 90 => ⟨S8x2048x1024, .f32⟩
  | 91 => ⟨S8x2048x1024, .f32⟩
  | 92 => ⟨S8x2048x16x64, .f32⟩
  | 93 => ⟨S8x2048x16x64, .f32⟩
  | 94 => ⟨S_, .f32⟩
  | 95 => ⟨S8x2048x16, .f32⟩
  | 96 => ⟨S8x2048x16x1, .f32⟩
  | 97 => ⟨S8x2048x16x1, .f32⟩
  | 98 => ⟨S_, .f32⟩
  | 99 => ⟨S8x2048x16x1, .f32⟩
  | 100 => ⟨S8x2048x16x1, .f32⟩
  | 101 => ⟨S8x2048x16x64, .f32⟩
  | 102 => ⟨S8x2048x16x64, .f32⟩
  | 103 => ⟨S_, .f32⟩
  | 104 => ⟨S8x2048x1024, .f32⟩
  | 105 => ⟨S8x2048x1024, .f32⟩
  | 106 => ⟨S1024, .f32⟩
  | 107 => ⟨S1x1x1024, .f32⟩
  | 108 => ⟨S8x2048x1024, .f32⟩
  | 109 => ⟨S8x2048x1024, .f32⟩
  | 110 => ⟨S_, .f32⟩
  | 111 => ⟨S8x2048x1024, .f32⟩
  | 112 => ⟨S8x2048x1024, .f32⟩
  | 113 => ⟨S8x2048x1024, .f32⟩
  | 114 => ⟨S16384x1024, .f32⟩
  | 115 => ⟨S16384x1024, .f32⟩
  | 116 => ⟨S16384x1024, .f32⟩
  | 117 => ⟨S16384x1024, .f32⟩
  | 118 => ⟨S8x2048x16x64, .f32⟩
  | 119 => ⟨S16384x1024, .f32⟩
  | 120 => ⟨S8x2048x16x64, .f32⟩
  | 121 => ⟨S8x2048x16x64, .f32⟩
  | 122 => ⟨S16384x1024, .f32⟩
  | 123 => ⟨S8x2048x1024, .f32⟩
  | 124 => ⟨S8x2048x1024, .f32⟩
  | 125 => ⟨S_, .f32⟩
  | 126 => ⟨S8x2048x1024, .f32⟩
  | 127 => ⟨S8x2048x1024, .f32⟩
  | _ => ⟨S16384x1024, .f32⟩

abbrev hbmTy0_1 (i : Nat) : BufTy := match i % 128 with
  | 0 => ⟨S_, .f32⟩
  | 1 => ⟨S8x2048x1024, .f32⟩
  | 2 => ⟨S8x2048x1024, .f32⟩
  | 3 => ⟨S8x2048x1024, .f32⟩
  | 4 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v37 : Ref sig .tc := ⟨.hbm, 62, rfl⟩
abbrev main_v38 : Ref sig .tc := ⟨.hbm, 63, rfl⟩
abbrev main_cst_0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_1 : Ref sig .tc := ⟨.hbm, 82, rfl⟩
abbrev main_v56 : Ref sig .tc := ⟨.hbm, 83, rfl⟩
abbrev main_v57 : Ref sig .tc := ⟨.hbm, 84, rfl⟩
abbrev main_cst_2 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_3 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_4 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_5 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_6 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call1_v0 : Ref sig .tc := ⟨.hbm, 123, rfl⟩
abbrev main_call1_v1 : Ref sig .tc := ⟨.hbm, 124, rfl⟩
abbrev main_call1_cst : Ref sig .tc := ⟨.hbm, 125, rfl⟩
abbrev main_call1_v2 : Ref sig .tc := ⟨.hbm, 126, rfl⟩
abbrev main_call1_v3 : Ref sig .tc := ⟨.hbm, 127, rfl⟩
abbrev main_call1_cst_0 : Ref sig .tc := ⟨.hbm, 128, rfl⟩
abbrev main_call1_v4 : Ref sig .tc := ⟨.hbm, 129, rfl⟩
abbrev main_call1_v5 : Ref sig .tc := ⟨.hbm, 130, rfl⟩
abbrev main_v91 : Ref sig .tc := ⟨.hbm, 131, rfl⟩
abbrev main_v92 : Ref sig .tc := ⟨.hbm, 132, rfl⟩

abbrev nD : Nat := 1
abbrev τ : Topo := Topo.v7x

variable {F : FTy → Type} [FloatOps F]
-- ==== Last.lean ====
abbrev S16384x1024 : Shape := ⟨2, ![16384, 1024]⟩
abbrev S2x8x2048x256 : Shape := ⟨4, ![2, 8, 2048, 256]⟩
abbrev S1x1024 : Shape := ⟨2, ![1, 1024]⟩
abbrev S1x16x64 : Shape := ⟨3, ![1, 16, 64]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x8x2048x256 : Shape := ⟨4, ![1, 8, 2048, 256]⟩
abbrev S8x2048x256 : Shape := ⟨3, ![8, 2048, 256]⟩
abbrev S16384x256 : Shape := ⟨2, ![16384, 256]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 48
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S2x8x2048x256, .f32⟩
  | .hbm, ⟨7, _⟩ => ⟨S1x1024, .f32⟩
  | .hbm, ⟨8, _⟩ => ⟨S1x1024, .f32⟩
  | .hbm, ⟨9, _⟩ => ⟨S1x16x64, .f32⟩
  | .hbm, ⟨10, _⟩ => ⟨S1x1024x1024, .f32⟩
  | .hbm, ⟨11, _⟩ => ⟨S2x1024, .f32⟩
  | .hbm, ⟨12, _⟩ => ⟨S2x1024x1024, .f32⟩
  | .hbm, ⟨13, _⟩ => ⟨S2x256x1024, .f32⟩
  | .hbm, ⟨14, _⟩ => ⟨S1024, .f32⟩
  | .hbm, ⟨15, _⟩ => ⟨S256, .i32⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256x1, .i32⟩
  | .hbm, ⟨20, _⟩ => ⟨S1x256, .i32⟩
  | .hbm, ⟨21, _⟩ => ⟨S256x256, .i32⟩
  | .hbm, ⟨22, _⟩ => ⟨S256x256, .i32⟩
  | .hbm, ⟨23, _⟩ => ⟨S256x256, .i1⟩
  | .hbm, ⟨24, _⟩ => ⟨S256x256, .bf16⟩
  | .hbm, ⟨25, _⟩ => ⟨S1x1024, .f32⟩
  | .hbm, ⟨26, _⟩ => ⟨S2x1024x1024, .bf16⟩
  | .hbm, ⟨27, _⟩ => ⟨S2x256x1024, .bf16⟩
  | .hbm, ⟨28, _⟩ => ⟨S1x8x2048x256, .f32⟩
  | .hbm, ⟨29, _⟩ => ⟨S8x2048x256, .f32⟩
  | .hbm, ⟨30, _⟩ => ⟨S16384x256, .f32⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S1024x1024, .f32⟩
  | .hbm, ⟨38, _⟩ => ⟨S1024x1024, .bf16⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1x1024x1024, .bf16⟩
  | .hbm, ⟨43, _⟩ => ⟨S1024x1024, .bf16⟩
  | .hbm, ⟨44, _⟩ => ⟨S1x256x1024, .bf16⟩
  | .hbm, ⟨45, _⟩ => ⟨S256x1024, .bf16⟩
  | .hbm, ⟨46, _⟩ => ⟨S1x1024, .f32⟩
  | .hbm, ⟨47, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S256x256, .bf16⟩
  | .local _ .vmem, ⟨18, _⟩ => ⟨S1024x1024, .bf16⟩
  | .local _ .vmem, ⟨19, _⟩ => ⟨S1x1024, .f32⟩
  | .local _ .vmem, ⟨20, _⟩ => ⟨S1024x1024, .bf16⟩
  | .local _ .vmem, ⟨21, _⟩ => ⟨S256x1024, .bf16⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== LastRefIdeal.lean ====
abbrev S16384x1024 : Shape := ⟨2, ![16384, 1024]⟩
abbrev S2x8x2048x256 : Shape := ⟨4, ![2, 8, 2048, 256]⟩
abbrev S1x1024 : Shape := ⟨2, ![1, 1024]⟩
abbrev S1x16x64 : Shape := ⟨3, ![1, 16, 64]⟩
abbrev S1x1024x1024 : Shape := ⟨3, ![1, 1024, 1024]⟩
abbrev S2x1024 : Shape := ⟨2, ![2, 1024]⟩
abbrev S2x1024x1024 : Shape := ⟨3, ![2, 1024, 1024]⟩
abbrev S2x256x1024 : Shape := ⟨3, ![2, 256, 1024]⟩
abbrev S1024 : Shape := ⟨1, ![1024]⟩
abbrev S8x2048x16x64 : Shape := ⟨4, ![8, 2048, 16, 64]⟩
abbrev S_ : Shape := ⟨0, ![]⟩
abbrev S8x2048x16 : Shape := ⟨3, ![8, 2048, 16]⟩
abbrev S8x2048x16x1 : Shape := ⟨4, ![8, 2048, 16, 1]⟩
abbrev S8x2048x1024 : Shape := ⟨3, ![8, 2048, 1024]⟩
abbrev S1x1x1024 : Shape := ⟨3, ![1, 1, 1024]⟩
abbrev S16x64 : Shape := ⟨2, ![16, 64]⟩
abbrev S1x1x16x64 : Shape := ⟨4, ![1, 1, 16, 64]⟩
abbrev S1024x1024 : Shape := ⟨2, ![1024, 1024]⟩
abbrev S8x2048 : Shape := ⟨2, ![8, 2048]⟩
abbrev S8x2048x1 : Shape := ⟨3, ![8, 2048, 1]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S2x8x2048x256, .f32⟩
  | .hbm, ⟨7, _⟩ => ⟨S1x1024, .f32⟩
  | .hbm, ⟨8, _⟩ => ⟨S1x1024, .f32⟩
  | .hbm, ⟨9, _⟩ => ⟨S1x16x64, .f32⟩
  | .hbm, ⟨10, _⟩ => ⟨S1x1024x1024, .f32⟩
  | .hbm, ⟨11, _⟩ => ⟨S2x1024, .f32⟩
  | .hbm, ⟨12, _⟩ => ⟨S2x1024x1024, .f32⟩
  | .hbm, ⟨13, _⟩ => ⟨S2x256x1024, .f32⟩
  | .hbm, ⟨14, _⟩ => ⟨S1024, .f32⟩
  | .hbm, ⟨15, _⟩ => ⟨S8x2048x16x64, .f32⟩
  | .hbm, ⟨16, _⟩ => ⟨S_, .f32⟩
  | .hbm, ⟨17, _⟩ => ⟨S8x2048x16, .f32⟩
  | .hbm, ⟨18, _⟩ => ⟨S8x2048x16x1, .f32⟩
  | .hbm, ⟨19, _⟩ => ⟨S_, .f32⟩
  | .hbm, ⟨20, _⟩ => ⟨S8x2048x16x1, .f32⟩
  | .hbm, ⟨21, _⟩ => ⟨S8x2048x16x1, .f32⟩
  | .hbm, ⟨22, _⟩ => ⟨S8x2048x16x64, .f32⟩
  | .hbm, ⟨23, _⟩ => ⟨S8x2048x16x64, .f32⟩
  | .hbm, ⟨24, _⟩ => ⟨S8x2048x16x64, .f32⟩
  | .hbm, ⟨25, _⟩ => ⟨S_, .f32⟩
  | .hbm, ⟨26, _⟩ => ⟨S8x2048x16, .f32⟩
  | .hbm, ⟨27, _⟩ => ⟨S8x2048x16x1, .f32⟩
  | .hbm, ⟨28, _⟩ => ⟨S_, .f32⟩
  | .hbm, ⟨29, _⟩ => ⟨S8x2048x16x1, .f32⟩
  | .hbm, ⟨30, _⟩ => ⟨S8x2048x16x1, .f32⟩
  | .hbm, ⟨31, _⟩ => ⟨S8x2048x16x64, .f32⟩
  | .hbm, ⟨32, _⟩ => ⟨S8x2048x16x64, .f32⟩
  | .hbm, ⟨33, _⟩ => ⟨S_, .f32⟩
  | .hbm, ⟨34, _⟩ => ⟨S8x2048x16x1, .f32⟩
  | .hbm, ⟨35, _⟩ => ⟨S8x2048x16x1, .f32⟩
  | .hbm, ⟨36, _⟩ => ⟨S8x2048x16x1, .f32⟩
  | .hbm, ⟨37, _⟩ => ⟨S8x2048x16x64, .f32⟩
  | .hbm, ⟨38, _⟩ => ⟨S8x2048x16x64, .f32⟩
  | .hbm, ⟨39, _⟩ => ⟨S8x2048x1024, .f32⟩
  | .hbm, ⟨40, _⟩ => ⟨S1024, .f32⟩
  | .hbm, ⟨41, _⟩ => ⟨S1x1x1024, .f32⟩
  | .hbm, ⟨42, _⟩ => ⟨S8x2048x1024, .f32⟩
  | .hbm, ⟨43, _⟩ => ⟨S8x2048x1024, .f32⟩
  | .hbm, ⟨44, _⟩ => ⟨S1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S8x2048x16x64, .f32⟩
  | .hbm, ⟨49, _⟩ => ⟨S8x2048x16x64, .f32⟩
  | .hbm, ⟨50, _⟩ => ⟨S8x2048x16x64, .f32⟩
  | .hbm, ⟨51, _⟩ => ⟨S16x64, .f32⟩
  | .hbm, ⟨52, _⟩ => ⟨S1x1x16x64, .f32⟩
  | .hbm, ⟨53, _⟩ => ⟨S8x2048x16x64, .f32⟩
  | .hbm, ⟨54, _⟩ => ⟨S8x2048x16x64, .f32⟩
  | .hbm, ⟨55, _⟩ => ⟨S_, .f32⟩
  | .hbm, ⟨56, _⟩ => ⟨S8x2048x16, .f32⟩
  | .hbm, ⟨57, _⟩ => ⟨S8x2048x16x1, .f32⟩
  | .hbm, ⟨58, _⟩ => ⟨S8x2048x16x64, .f32⟩
  | .hbm, ⟨59, _⟩ => ⟨S8x2048x16x64, .f32⟩
  | .hbm, ⟨60, _⟩ => ⟨S8x2048x16x64, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S8x2048x1024, .f32⟩
  | .hbm, ⟨65, _⟩ => ⟨S8x2048x1024, .f32⟩
  | .hbm, ⟨66, _⟩ => ⟨S1024x1024, .f32⟩
  | .hbm, ⟨67, _⟩ => ⟨S8x2048x1024, .f32⟩
  | .hbm, ⟨68, _⟩ => ⟨S8x2048x1024, .f32⟩
  | .hbm, ⟨69, _⟩ => ⟨S1x1024, .f32⟩
  | .hbm, ⟨70, _⟩ => ⟨S1024, .f32⟩
  | .hbm, ⟨71, _⟩ => ⟨S8x2048x1024, .f32⟩
  | .hbm, ⟨72, _⟩ => ⟨S_, .f32⟩
  | .hbm, ⟨73, _⟩ => ⟨S8x2048, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S_, .f32⟩
  | .hbm, ⟨79, _⟩ => ⟨S8x2048x1, .f32⟩
  | .hbm, ⟨80, _⟩ => ⟨S8x2048x1, .f32⟩
  | .hbm, ⟨81, _⟩ => ⟨S8x2048x1, .f32⟩
  | .hbm, ⟨82, _⟩ => ⟨S8x2048x1024, .f32⟩
  | .hbm, ⟨83, _⟩ => ⟨S8x2048x1024, .f32⟩
  | .hbm, ⟨84, _⟩ => ⟨S1x1x1024, .f32⟩
  | .hbm, ⟨85, _⟩ => ⟨S8x2048x1024, .f32⟩
  | .hbm, ⟨86, _⟩ => ⟨S8x2048x1024, .f32⟩
  | .hbm, ⟨87, _⟩ => ⟨S1x1024x1024, .f32⟩
  | .hbm, ⟨88, _⟩ => ⟨S1024x1024, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S_, .f32⟩
  | .hbm, ⟨93, _⟩ => ⟨S8x2048x1024, .f32⟩
  | .hbm, ⟨94, _⟩ => ⟨S8x2048x1024, .f32⟩
  | .hbm, ⟨95, _⟩ => ⟨S_, .f32⟩
  | .hbm, ⟨96, _⟩ => ⟨S8x2048x1024, .f32⟩
  | .hbm, ⟨97, _⟩ => ⟨S8x2048x1024, .f32⟩
  | .hbm, ⟨98, _⟩ => ⟨S1x8x2048x256, .f32⟩
  | .hbm, ⟨99, _⟩ => ⟨S8x2048x256, .f32⟩
  | .hbm, ⟨100, _⟩ => ⟨S1x256x1024, .f32⟩
  | .hbm, ⟨101, _⟩ => ⟨S256x1024, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S_, .f32⟩
  | .hbm, ⟨107, _⟩ => ⟨S8x2048, .f32⟩
  | .hbm, ⟨108, _⟩ => ⟨S8x2048x1, .f32⟩
  | .hbm, ⟨109, _⟩ => ⟨S_, .f32⟩
  | .hbm, ⟨110, _⟩ => ⟨S8x2048x1, .f32⟩
  | .hbm, ⟨111, _⟩ => ⟨S8x2048x1, .f32⟩
  | .hbm, ⟨112, _⟩ => ⟨S_, .f32⟩
  | .hbm, ⟨113, _⟩ => ⟨S8x2048x1, .f32⟩
  | .hbm, ⟨114, _⟩ => ⟨S8x2048x1, .f32⟩
  | .hbm, ⟨115, _⟩ => ⟨S8x2048x1, .f32⟩
  | .hbm, ⟨116, _⟩ => ⟨S8x2048x1024, .f32⟩
  | .hbm, ⟨117, _⟩ => ⟨S8x2048x1024, .f32⟩
  | .hbm, ⟨118, _⟩ => ⟨S1x1x1024, .f32⟩
  | .hbm, ⟨119, _⟩ => ⟨S8x2048x1024, .f32⟩
  | .hbm, ⟨120, _⟩ => ⟨S8x2048x1024, .f32⟩
  | .hbm, ⟨121, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_8 : Ref sig .tc := ⟨.hbm, 92, rfl⟩
abbrev main_v68 : Ref sig .tc := ⟨.hbm, 93, rfl⟩
abbrev main_v69 : Ref sig .tc := ⟨.hbm, 94, rfl⟩
abbrev main_cst_9 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_10 : Ref sig .tc := ⟨.hbm, 106, rfl⟩
abbrev main_v80 : Ref sig .tc := ⟨.hbm, 107, rfl⟩
abbrev main_v81 : Ref sig .tc := ⟨.hbm, 108, rfl⟩
abbrev main_cst_11 : Ref sig .tc := ⟨.hbm, 109, rfl⟩
abbrev main_v82 : Ref sig .tc := ⟨.hbm, 110, rfl⟩
abbrev main_v83 : Ref sig .tc := ⟨.hbm, 111, rfl⟩
abbrev main_cst_12 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Proof.AttnTrip.lean ====
module

public import proofs.«01_k».proof.Proof.Gen.KernelIdeal.Value
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

theorem hz2 : (![0, 0] : Fin 2 → Nat) = fun _ => 0 := funext fun a => by fin_cases a <;> rfl

/-- What the three scratch buffers hold: the running maximum, the running sum, the weighted values. -/
abbrev St (F : FTy → Type) : Type := Vec F S2048x1 .f32 × Vec F S2048x1 .f32 × Vec F S2048x256 .f32

/-- Rows `256 k … 256 k + 255` of a `2048 × 256` array (modulo its length, so that the definition is total). -/
def rowsC (X : Vec F S2048x256 .bf16) (k : ℕ) : Vec F S256x256 .bf16 :=
  fun j => X (ix2 ⟨(256 * k + (j 0).val) % 2048, Nat.mod_lt _ (by decide)⟩ (j 1))

/-- Rows `256 k … 256 k + 255` of a `2048 × 32` array. -/
def rowsR (X : Vec F S2048x32 .bf16) (k : ℕ) : Vec F S256x32 .bf16 :=
  fun j => X (ix2 ⟨(256 * k + (j 0).val) % 2048, Nat.mod_lt _ (by decide)⟩ (j 1))

theorem window_rowsC (X : Vec F S2048x256 .bf16) (k : ℕ) (hk : k < 8) (inb) :
    VecWindow.window X ![256 * k, 0] S256x256.size inb = rowsC X k := by
  funext j
  refine congrArg X (funext fun a => Fin.ext ?_)
  have h0 : (j 0).val < 256 := (j 0).isLt
  match a with
  | ⟨0, _⟩ => show 256 * k + 1 * (j 0).val = (256 * k + (j 0).val) % 2048; omega
  | ⟨1, _⟩ => show 0 + 1 * (j 1).val = (j 1).val; omega

theorem window_rowsR (X : Vec F S2048x32 .bf16) (k : ℕ) (hk : k < 8) (inb) :
    VecWindow.window X ![256 * k, 0] S256x32.size inb = rowsR X k := by
  funext j
  refine congrArg X (funext fun a => Fin.ext ?_)
  have h0 : (j 0).val < 256 := (j 0).isLt
  match a with
  | ⟨0, _⟩ => show 256 * k + 1 * (j 0).val = (256 * k + (j 0).val) % 2048; omega
  | ⟨1, _⟩ => show 0 + 1 * (j 1).val = (j 1).val; omega

/-- One whole block of keys taken in: the update of the three buffers. -/
def step (v0 : Vec F S8x256x256 .bf16) (v2 : Vec F S8x256x32 .bf16) (C : Vec F S256x256 .bf16) (R : Vec F S256x32 .bf16) (s : St F) : St F :=
  (k0_pay20 (k0_pay4 (k0_pay15 v0) (k0_pay16 v2) C R s.1),
   k0_pay7 (k0_pay15 v0) (k0_pay16 v2) C R s.1 s.2.1,
   k0_pay8 (k0_pay15 v0) (k0_pay16 v2) C R s.1 s.2.2)

/-- The buffers before block `k` of the keys. -/
def st (v0 : Vec F S8x256x256 .bf16) (v2 : Vec F S8x256x32 .bf16) (X : Vec F S2048x256 .bf16) (Y : Vec F S2048x32 .bf16) : ℕ → St F
  | 0 => (k0_pay17, k0_pay18, k0_pay19)
  | k + 1 => step v0 v2 (rowsC X k) (rowsR Y k) (st v0 v2 X Y k)

/-- The last block, under the causal mask: the running sum and the weighted values it leaves. -/
def lastL (v0 : Vec F S8x256x256 .bf16) (v2 : Vec F S8x256x32 .bf16) (C : Vec F S256x256 .bf16) (R : Vec F S256x32 .bf16) (s : St F) : Vec F S2048x1 .f32 :=
  k0_pay27 (k0_pay16 v2) (k0_pay22 v0 C) R (constant S2048x256 .f32 0x00000000#32) s.1 s.2.1

def lastA (v0 : Vec F S8x256x256 .bf16) (v2 : Vec F S8x256x32 .bf16) (C : Vec F S256x256 .bf16) (R : Vec F S256x32 .bf16) (s : St F) : Vec F S2048x256 .f32 :=
  k0_pay29 C (k0_pay26 (k0_pay16 v2) (k0_pay22 v0 C) R (constant S2048x256 .f32 0x00000000#32) s.1) s.2.2
    (k0_pay28 (k0_pay16 v2) (k0_pay22 v0 C) R (constant S2048x256 .f32 0x00000000#32) s.1)

theorem trips1 : ∀ i : grid0.Coords, (k0_t1_loop i).trips = (i 1).val := by decide +kernel

theorem trips2 (i : grid0.Coords) : (k0_t2_loop i).trips = 0 := Nat.le_zero.mp (k0_t2_abs i).2.1

section
variable (𝒱 : Variants) (c : Dev nD) (bd : Option 𝒱.V) (i : grid0.Coords) (arg2 : Memref sig .tc .vmem S8x256x256 .bf16) (harg2 : arg2.IsWhole) (arg3 : Memref sig .tc .vmem S8x256x32 .bf16) (harg3 : arg3.IsWhole) (arg4 : Memref sig .tc .vmem S2048x256 .bf16) (harg4 : arg4.IsWhole) (arg5 : Memref sig .tc .vmem S2048x32 .bf16) (harg5 : arg5.IsWhole) (arg6 : Memref sig .tc .vmem S256x2048 .bf16) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole) (v0 : Vec F S8x256x256 .bf16) (v2 : Vec F S8x256x32 .bf16) (X4 : BufTy.Contents (Elt F) arg4.view.ty) (X5 : BufTy.Contents (Elt F) arg5.view.ty)

theorem trip_read (k : Fin (k0_t1_loop i).trips) (f7 : BufTy.Contents (Elt F) arg7.view.ty) (f8 : BufTy.Contents (Elt F) arg8.view.ty) (f9 : BufTy.Contents (Elt F) arg9.view.ty)
    (g7 : BufTy.Contents (Elt F) arg7.view.ty) (g8 : BufTy.Contents (Elt F) arg8.view.ty) (g9 : BufTy.Contents (Elt F) arg9.view.ty) :
    (arg7.view.read (Elt F) (arg7.view.writes (Elt F) g7 (tripL_k0_t1 (F := F) 𝒱 c bd i arg2 harg2 arg3 harg3 arg4 harg4 arg5 harg5 arg6 harg6 arg7 harg7 arg8 harg8 arg9 harg9 v0 v2 X4 X5 k f7 f8 f9).1),
     arg8.view.read (Elt F) (arg8.view.writes (Elt F) g8 (tripL_k0_t1 (F := F) 𝒱 c bd i arg2 harg2 arg3 harg3 arg4 harg4 arg5 harg5 arg6 harg6 arg7 harg7 arg8 harg8 arg9 harg9 v0 v2 X4 X5 k f7 f8 f9).2.1),
     arg9.view.read (Elt F) (arg9.view.writes (Elt F) g9 (tripL_k0_t1 (F := F) 𝒱 c bd i arg2 harg2 arg3 harg3 arg4 harg4 arg5 harg5 arg6 harg6 arg7 harg7 arg8 harg8 arg9 harg9 v0 v2 X4 X5 k f7 f8 f9).2.2))
    = step v0 v2 (rowsC (arg4.view.read (Elt F) X4) k.val) (rowsR (arg5.view.read (Elt F) X5) k.val)
        (arg7.view.read (Elt F) f7, arg8.view.read (Elt F) f8, arg9.view.read (Elt F) f9) := by
  have hk : k.val < 8 := lt_of_lt_of_le k.isLt (le_trans (k0_t1_abs i).2.1 (by decide))
  have h1 := k0_off1_eq i k
  have h2 := k0_off2_eq i k
  have e4 : View.readAt (Elt F) arg4.view (Rect.unit (s := S2048x256) (k0_off1 i k) S256x256.size (k0_off1_inb i k)).toLoadRect X4 = rowsC (arg4.view.read (Elt F) X4) k.val :=
    (View.readAt_unit arg4.view X4 (k0_off1_inb i k) h1 (h1 ▸ k0_off1_inb i k)).trans (window_rowsC _ k.val hk _)
  have e5 : View.readAt (Elt F) arg5.view (Rect.unit (s := S2048x32) (k0_off2 i k) S256x32.size (k0_off2_inb i k)).toLoadRect X5 = rowsR (arg5.view.read (Elt F) X5) k.val :=
    (View.readAt_unit arg5.view X5 (k0_off2_inb i k) h2 (h2 ▸ k0_off2_inb i k)).trans (window_rowsR _ k.val hk _)
  have e7 : View.readAt (Elt F) arg7.view (Rect.unit (s := S2048x1) ![0, 0] S2048x1.size inb_S2048x1_S2048x1_0_0).toLoadRect f7 = arg7.view.read (Elt F) f7 := View.readAt_full _ _ _
  have e8 : View.readAt (Elt F) arg8.view (Rect.unit (s := S2048x1) ![0, 0] S2048x1.size inb_S2048x1_S2048x1_0_0).toLoadRect f8 = arg8.view.read (Elt F) f8 := View.readAt_full _ _ _
  have e9 : View.readAt (Elt F) arg9.view (Rect.unit (s := S2048x256) ![0, 0] S2048x256.size inb_S2048x256_S2048x256_0_0).toLoadRect f9 = arg9.view.read (Elt F) f9 := View.readAt_full _ _ _
  unfold tripL_k0_t1 trip_k0_t1
  dsimp only
  sl_unfold_words
  unfold step
  refine Prod.ext ?_ (Prod.ext ?_ ?_)
  · refine (View.read_writes_full (s := S2048x1) arg7.view g7 _ _ []).trans ?_
    show k0_pay20 (k0_pay4 (k0_pay15 v0) (k0_pay16 v2) (View.readAt (Elt F) arg4.view (Rect.unit (s := S2048x256) (k0_off1 i k) S256x256.size (k0_off1_inb i k)).toLoadRect X4) (View.readAt (Elt F) arg5.view (Rect.unit (s := S2048x32) (k0_off2 i k) S256x32.size (k0_off2_inb i k)).toLoadRect X5) (View.readAt (Elt F) arg7.view (Rect.unit (s := S2048x1) ![0, 0] S2048x1.size inb_S2048x1_S2048x1_0_0).toLoadRect f7)) = _
    rw [e4, e5, e7]
  · refine (View.read_writes_full (s := S2048x1) arg8.view g8 _ _ []).trans ?_
    show k0_pay7 (k0_pay15 v0) (k0_pay16 v2) (View.readAt (Elt F) arg4.view (Rect.unit (s := S2048x256) (k0_off1 i k) S256x256.size (k0_off1_inb i k)).toLoadRect X4) (View.readAt (Elt F) arg5.view (Rect.unit (s := S2048x32) (k0_off2 i k) S256x32.size (k0_off2_inb i k)).toLoadRect X5) (View.readAt (Elt F) arg7.view (Rect.unit (s := S2048x1) ![0, 0] S2048x1.size inb_S2048x1_S2048x1_0_0).toLoadRect f7) (View.readAt (Elt F) arg8.view (Rect.unit (s := S2048x1) ![0, 0] S2048x1.size inb_S2048x1_S2048x1_0_0).toLoadRect f8) = _
    rw [e4, e5, e7, e8]
  · refine (View.read_writes_full (s := S2048x256) arg9.view g9 _ _ []).trans ?_
    show k0_pay8 (k0_pay15 v0) (k0_pay16 v2) (View.readAt (Elt F) arg4.view (Rect.unit (s := S2048x256) (k0_off1 i k) S256x256.size (k0_off1_inb i k)).toLoadRect X4) (View.readAt (Elt F) arg5.view (Rect.unit (s := S2048x32) (k0_off2 i k) S256x32.size (k0_off2_inb i k)).toLoadRect X5) (View.readAt (Elt F) arg7.view (Rect.unit (s := S2048x1) ![0, 0] S2048x1.size inb_S2048x1_S2048x1_0_0).toLoadRect f7) (View.readAt (Elt F) arg9.view (Rect.unit (s := S2048x256) ![0, 0] S2048x256.size inb_S2048x256_S2048x256_0_0).toLoadRect f9) = _
    rw [e4, e5, e7, e9]

/-- After `k` blocks the buffers hold the recursion's state. -/
theorem loop_read (G7 : BufTy.Contents (Elt F) arg7.view.ty) (G8 : BufTy.Contents (Elt F) arg8.view.ty) (G9 : BufTy.Contents (Elt F) arg9.view.ty)
    (h : (arg7.view.read (Elt F) G7, arg8.view.read (Elt F) G8, arg9.view.read (Elt F) G9) = (k0_pay17, k0_pay18, k0_pay19)) :
    ∀ k : ℕ, k ≤ (k0_t1_loop i).trips →
    (arg7.view.read (Elt F) (arg7.view.writes (Elt F) G7 (pb_k0_t1 (F := F) 𝒱 c bd i arg2 harg2 arg3 harg3 arg4 harg4 arg5 harg5 arg6 harg6 arg7 harg7 arg8 harg8 arg9 harg9 v0 v2 X4 X5 G7 G8 G9 k).1),
     arg8.view.read (Elt F) (arg8.view.writes (Elt F) G8 (pb_k0_t1 (F := F) 𝒱 c bd i arg2 harg2 arg3 harg3 arg4 harg4 arg5 harg5 arg6 harg6 arg7 harg7 arg8 harg8 arg9 harg9 v0 v2 X4 X5 G7 G8 G9 k).2.1),
     arg9.view.read (Elt F) (arg9.view.writes (Elt F) G9 (pb_k0_t1 (F := F) 𝒱 c bd i arg2 harg2 arg3 harg3 arg4 harg4 arg5 harg5 arg6 harg6 arg7 harg7 arg8 harg8 arg9 harg9 v0 v2 X4 X5 G7 G8 G9 k).2.2))
    = st v0 v2 (arg4.view.read (Elt F) X4) (arg5.view.read (Elt F) X5) k
  | 0, _ => h
  | k + 1, hk => by
    have e := pb_k0_t1_succ (F := F) 𝒱 c bd i arg2 harg2 arg3 harg3 arg4 harg4 arg5 harg5 arg6 harg6 arg7 harg7 arg8 harg8 arg9 harg9 v0 v2 X4 X5 G7 G8 G9 ⟨k, hk⟩
    dsimp only at e
    rw [e, View.writes_append, View.writes_append, View.writes_append, trip_read, loop_read G7 G8 G9 h k (Nat.le_of_succ_le hk)]
    rfl
end

end Cert.KernelIdeal.Attn
end
-- ==== Proof.AttnOut.lean ====
module

public import proofs.«01_k».proof.Proof.AttnTrip
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.KernelIdeal.Attn

open Cert.KernelIdeal Cert.KernelIdeal.Gen

variable {F : FTy → Type} [FloatOps F]

theorem cov1 (v : View sig .tc .vmem S2048x1 .f32) (w : S2048x1.Idx → Elt F .f32) (L : List (View.Piece (Elt F) S2048x1 .f32)) (inb inb') :
    v.readCov (⟨Rect.unit (s := S2048x1) ![0, 0] ![2048, 1] inb', w⟩ :: L) (Rect.unit (s := S2048x1) ![0, 0] ![2048, 1] inb).toLoadRect = w :=
  View.readCov_full (s := S2048x1) v inb inb' w L

theorem cov2 (v : View sig .tc .vmem S2048x256 .f32) (w : S2048x256.Idx → Elt F .f32) (L : List (View.Piece (Elt F) S2048x256 .f32)) (inb inb') :
    v.readCov (⟨Rect.unit (s := S2048x256) ![0, 0] ![2048, 256] inb', w⟩ :: L) (Rect.unit (s := S2048x256) ![0, 0] ![2048, 256] inb).toLoadRect = w :=
  View.readCov_full (s := S2048x256) v inb inb' w L

theorem lastA_of {a2 x0 : Vec F S8x256x256 .bf16} {a3 x1 : Vec F S8x256x32 .bf16} {C' C : Vec F S256x256 .bf16} {R' R : Vec F S256x32 .bf16} {m' : Vec F S2048x1 .f32} {a' : Vec F S2048x256 .f32} {s : St F}
    (h2 : a2 = x0) (h3 : a3 = x1) (h4 : C' = C) (h5 : R' = R) (hm : m' = s.1) (ha : a' = s.2.2) :
    k0_pay29 C' (k0_pay26 (k0_pay16 a3) (k0_pay22 a2 C') R' (constant S2048x256 .f32 0x00000000#32) m') a'
      (k0_pay28 (k0_pay16 a3) (k0_pay22 a2 C') R' (constant S2048x256 .f32 0x00000000#32) m') = lastA x0 x1 C R s := by
  subst h2 h3 h4 h5 hm ha; rfl

theorem lastL_of {a2 x0 : Vec F S8x256x256 .bf16} {a3 x1 : Vec F S8x256x32 .bf16} {C' C : Vec F S256x256 .bf16} {R' R : Vec F S256x32 .bf16} {m' l' : Vec F S2048x1 .f32} {s : St F}
    (h2 : a2 = x0) (h3 : a3 = x1) (h4 : C' = C) (h5 : R' = R) (hm : m' = s.1) (hl : l' = s.2.1) :
    k0_pay27 (k0_pay16 a3) (k0_pay22 a2 C') R' (constant S2048x256 .f32 0x00000000#32) m' l' = lastL x0 x1 C R s := by
  subst h2 h3 h4 h5 hm hl; rfl

/-- The running sum and the weighted values after the last block, at a grid point's query block. -/
def finL (i : grid0.Coords) (x0 : Vec F S8x256x256 .bf16) (x1 : Vec F S8x256x32 .bf16) (x2 : Vec F S2048x256 .bf16) (x3 : Vec F S2048x32 .bf16) : Vec F S2048x1 .f32 :=
  lastL x0 x1 (rowsC x2 (i 1).val) (rowsR x3 (i 1).val) (st x0 x1 x2 x3 (i 1).val)

def finA (i : grid0.Coords) (x0 : Vec F S8x256x256 .bf16) (x1 : Vec F S8x256x32 .bf16) (x2 : Vec F S2048x256 .bf16) (x3 : Vec F S2048x32 .bf16) : Vec F S2048x256 .f32 :=
  lastA x0 x1 (rowsC x2 (i 1).val) (rowsR x3 (i 1).val) (st x0 x1 x2 x3 (i 1).val)

/-- The eight blocks the body stores, one per head, last first. -/
def pieces (a : Vec F S2048x256 .f32) (l : Vec F S2048x1 .f32) : List (View.Piece (Elt F) S256x2048 .bf16) :=
  [⟨Rect.unit (s := S256x2048) ![0, 1792] S256x256.size inb_S256x2048_S256x256_0_1792, k0_pay2 (k0_pay31 a l)⟩,
   ⟨Rect.unit (s := S256x2048) ![0, 1536] S256x256.size inb_S256x2048_S256x256_0_1536, k0_pay1 (k0_pay31 a l)⟩,
   ⟨Rect.unit (s := S256x2048) ![0, 1280] S256x256.size inb_S256x2048_S256x256_0_1280, k0_pay37 a l⟩,
   ⟨Rect.unit (s := S256x2048) ![0, 1024] S256x256.size inb_S256x2048_S256x256_0_1024, k0_pay36 a l⟩,
   ⟨Rect.unit (s := S256x2048) ![0, 768] S256x256.size inb_S256x2048_S256x256_0_768, k0_pay35 a l⟩,
   ⟨Rect.unit (s := S256x2048) ![0, 512] S256x256.size inb_S256x2048_S256x256_0_512, k0_pay34 a l⟩,
   ⟨Rect.unit (s := S256x2048) ![0, 256] S256x256.size inb_S256x2048_S256x256_0_256, k0_pay33 a l⟩,
   ⟨Rect.unit (s := S256x2048) ![0, 0] S256x256.size inb_S256x2048_S256x256_0_0, k0_pay32 a l⟩]

theorem out_eq (c : Dev nD) (i : grid0.Coords) (arg2 : Memref sig .tc .vmem S8x256x256 .bf16) (harg2 : arg2.IsWhole) (arg3 : Memref sig .tc .vmem S8x256x32 .bf16) (harg3 : arg3.IsWhole) (arg4 : Memref sig .tc .vmem S2048x256 .bf16) (harg4 : arg4.IsWhole) (arg5 : Memref sig .tc .vmem S2048x32 .bf16) (harg5 : arg5.IsWhole) (arg6 : Memref sig .tc .vmem S256x2048 .bf16) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x256 .f32) (harg9 : arg9.IsWhole)
    (x0 : Vec F S8x256x256 .bf16) (x1 : Vec F S8x256x32 .bf16) (x2 : Vec F S2048x256 .bf16) (x3 : Vec F S2048x32 .bf16) :
    out0_A_4 c i arg2 harg2 arg3 harg3 arg4 harg4 arg5 harg5 arg6 harg6 arg7 harg7 arg8 harg8 arg9 harg9 x0 x1 x2 x3 = View.canon (pieces (finA i x0 x1 x2 x3) (finL i x0 x1 x2 x3)) := by
  have hk : (i 1).val < 8 := (i 1).isLt
  have h5 := k0_off5_eq i
  have h6 := k0_off6_eq i
  have e2 : View.readAt (Elt F) arg2.view (Rect.unit (s := S8x256x256) ![0, 0, 0] S8x256x256.size inb_S8x256x256_S8x256x256_0_0_0).toLoadRect (harg2.unread x0) = x0 := (View.readAt_full _ _ _).trans (harg2.read_unread x0)
  have e3 : View.readAt (Elt F) arg3.view (Rect.unit (s := S8x256x32) ![0, 0, 0] S8x256x32.size inb_S8x256x32_S8x256x32_0_0_0).toLoadRect (harg3.unread x1) = x1 := (View.readAt_full _ _ _).trans (harg3.read_unread x1)
  have e4 : View.readAt (Elt F) arg4.view (Rect.unit (s := S2048x256) (k0_off5 i) S256x256.size (k0_off5_inb i)).toLoadRect (harg4.unread x2) = rowsC x2 (i 1).val :=
    (View.readAt_unit arg4.view _ (k0_off5_inb i) h5 (h5 ▸ k0_off5_inb i)).trans ((window_rowsC _ _ hk _).trans (by rw [harg4.read_unread]))
  have e5 : View.readAt (Elt F) arg5.view (Rect.unit (s := S2048x32) (k0_off6 i) S256x32.size (k0_off6_inb i)).toLoadRect (harg5.unread x3) = rowsR x3 (i 1).val :=
    (View.readAt_unit arg5.view _ (k0_off6_inb i) h6 (h6 ▸ k0_off6_inb i)).trans ((window_rowsR _ _ hk _).trans (by rw [harg5.read_unread]))
  have hl := loop_read (F := F) Variants.none c none i arg2 harg2 arg3 harg3 arg4 harg4 arg5 harg5 arg6 harg6 arg7 harg7 arg8 harg8 arg9 harg9 (View.readAt (Elt F) arg2.view (Rect.unit (s := S8x256x256) ![0, 0, 0] S8x256x256.size inb_S8x256x256_S8x256x256_0_0_0).toLoadRect (harg2.unread x0)) (View.readAt (Elt F) arg3.view (Rect.unit (s := S8x256x32) ![0, 0, 0] S8x256x32.size inb_S8x256x32_S8x256x32_0_0_0).toLoadRect (harg3.unread x1)) (harg4.unread x2) (harg5.unread x3)
    (arg7.view.writes (Elt F) arg7.view.junk [⟨Rect.unit (s := S2048x1) ![0, 0] S2048x1.size inb_S2048x1_S2048x1_0_0, k0_pay17⟩])
    (arg8.view.writes (Elt F) arg8.view.junk [⟨Rect.unit (s := S2048x1) ![0, 0] S2048x1.size inb_S2048x1_S2048x1_0_0, k0_pay18⟩])
    (arg9.view.writes (Elt F) arg9.view.junk [⟨Rect.unit (s := S2048x256) ![0, 0] S2048x256.size inb_S2048x256_S2048x256_0_0, k0_pay19⟩])
    (Prod.ext (View.read_writes_full (s := S2048x1) arg7.view _ _ _ []) (Prod.ext (View.read_writes_full (s := S2048x1) arg8.view _ _ _ []) (View.read_writes_full (s := S2048x256) arg9.view _ _ _ [])))
    (k0_t1_loop i).trips le_rfl
  unfold out0_A_4
  rw [View.read_writes_eq_canon _ _ _ (cover0_A_4 c i arg2 harg2 arg3 harg3 arg4 harg4 arg5 harg5 arg6 harg6 arg7 harg7 arg8 harg8 arg9 harg9 x0 x1 x2 x3)]
  unfold kernelRun0_A
  dsimp only
  sl_unfold_words
  have h2 : Scf.trips (k0_t2_loop i).lb (k0_t2_loop i).ub (k0_t2_loop i).st = 0 := trips2 i
  have h1 : Scf.trips (k0_t1_loop i).lb (k0_t1_loop i).ub (k0_t1_loop i).st = (k0_t1_loop i).trips := rfl
  simp only [h2, pb_k0_t2, List.nil_append, h1]
  change View.canon (pieces _ _) = _
  have hs := hl.trans (show _ = st x0 x1 x2 x3 (i 1).val by rw [e2, e3, harg4.read_unread, harg5.read_unread, trips1])
  rw [← View.writes_append, ← View.writes_append, ← View.writes_append] at hs
  have hm := (View.readAt_full (s := S2048x1) arg7.view _ inb_S2048x1_S2048x1_0_0).trans (congrArg Prod.fst hs)
  have hl := (View.readAt_full (s := S2048x1) arg8.view _ inb_S2048x1_S2048x1_0_0).trans (congrArg (fun p => p.2.1) hs)
  have ha := (View.readAt_full (s := S2048x256) arg9.view _ inb_S2048x256_S2048x256_0_0).trans (congrArg (fun p => p.2.2) hs)
  exact congrArg View.canon (congrArg₂ pieces
    ((cov2 _ _ _ _ _).trans (lastA_of e2 e3 e4 e5 hm ha))
    ((cov1 _ _ _ _ _).trans (lastL_of e2 e3 e4 e5 hm hl)))

end Cert.KernelIdeal.Attn
end
-- ==== Proof.Softmax.lean ====
module

public import Idealize.ShloMosaic.Lib.Pointwise

@[expose] public section

set_option maxRecDepth 16384

noncomputable section

open Idealize.ShloMosaic

namespace Cert.Softmax

/-- The exponential of a score as a real number: a masked score (`⊥`) weighs nothing. -/
def e (s : EReal) : ℝ := if s = ⊥ then 0 else Real.exp s.toReal

theorem e_nonneg (s : EReal) : 0 ≤ e s := by
  unfold e; split_ifs
  · exact le_rfl
  · exact (Real.exp_pos _).le

theorem e_pos {s : EReal} (h : s ≠ ⊥) : 0 < e s := by
  unfold e; rw [if_neg h]; exact Real.exp_pos _

theorem e_bot : e ⊥ = 0 := if_pos rfl

/-- A weight relative to a real shift. -/
theorem exp_sub (s : EReal) (hs : s ≠ ⊤) (μ : ℝ) : Ideal.exp (s - (μ : EReal)) = ((Real.exp (-μ) * e s : ℝ) : EReal) := by
  induction s using EReal.rec with
  | bot => rw [e_bot, mul_zero, EReal.bot_sub]; rfl
  | top => exact absurd rfl hs
  | coe r =>
    rw [← EReal.coe_sub]
    show ((Real.exp (r - μ) : ℝ) : EReal) = _
    unfold e
    rw [if_neg (EReal.coe_ne_bot r), EReal.toReal_coe, ← Real.exp_add]
    congr 2; ring

theorem fold_real {n : ℕ} (S : Fin n → EReal) (h : ∀ j, S j ≠ ⊤) (j0 : Fin n) (h0 : S j0 ≠ ⊥) :
    ∃ μ : ℝ, Finset.univ.fold max ⊥ S = (μ : EReal) := by
  have ht : Finset.univ.fold max ⊥ S < ⊤ := Finset.fold_max_lt _ |>.2 ⟨bot_lt_top, fun j _ => lt_top_iff_ne_top.2 (h j)⟩
  have hb : S j0 ≤ Finset.univ.fold max ⊥ S := Finset.le_fold_max _ |>.2 (.inr ⟨j0, Finset.mem_univ _, le_rfl⟩)
  refine ⟨(Finset.univ.fold max ⊥ S).toReal, (EReal.coe_toReal ht.ne fun hc => h0 ?_).symm⟩
  exact le_bot_iff.1 (hc ▸ hb)

/-- The running maximum, sum and weighted value of a row stand for the plain sums `EL`, `EA` of the weights
    and the weighted values: scaled by the maximum's exponential, or all empty before the first block. -/
def Inv (M L A : EReal) (EL EA : ℝ) : Prop :=
  (M = ⊥ ∧ L = 0 ∧ A = 0 ∧ EL = 0 ∧ EA = 0) ∨
    ∃ μ : ℝ, M = (μ : EReal) ∧ L = ((Real.exp (-μ) * EL : ℝ) : EReal) ∧ A = ((Real.exp (-μ) * EA : ℝ) : EReal)

theorem Inv.start : Inv ⊥ 0 0 0 0 := .inl ⟨rfl, rfl, rfl, rfl, rfl⟩

theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

theorem sum_exp {n : ℕ} (S : Fin n → EReal) (h : ∀ j, S j ≠ ⊤) (μ : ℝ) :
    ∑ j, Ideal.exp (S j - (μ : EReal)) = ((Real.exp (-μ) * ∑ j, e (S j) : ℝ) : EReal) := by
  rw [Finset.mul_sum, coe_sum]
  exact Finset.sum_congr rfl fun j _ => exp_sub _ (h j) μ

theorem sum_exp_mul {n : ℕ} (S : Fin n → EReal) (v : Fin n → EReal) (w : Fin n → ℝ) (h : ∀ j, S j ≠ ⊤) (hv : ∀ j, v j = (w j : EReal)) (μ : ℝ) :
    ∑ j, Ideal.exp (S j - (μ : EReal)) * v j = ((Real.exp (-μ) * ∑ j, e (S j) * w j : ℝ) : EReal) := by
  rw [Finset.mul_sum, coe_sum]
  refine Finset.sum_congr rfl fun j _ => ?_
  rw [exp_sub _ (h j) μ, hv, ← EReal.coe_mul, mul_assoc]

/-- One block of keys taken in keeps the invariant, its weights added to the plain sums. -/
theorem Inv.step {n : ℕ} {M L A : EReal} {EL EA : ℝ} (hi : Inv M L A EL EA) (S : Fin n → EReal) (v : Fin n → EReal) (w : Fin n → ℝ)
    (h : ∀ j, S j ≠ ⊤) (hv : ∀ j, v j = (w j : EReal)) (j0 : Fin n) (h0 : S j0 ≠ ⊥) :
    Inv (max M (Finset.univ.fold max ⊥ S))
      (Ideal.exp (M - max M (Finset.univ.fold max ⊥ S)) * L + ∑ j, Ideal.exp (S j - max M (Finset.univ.fold max ⊥ S)))
      (Ideal.exp (M - max M (Finset.univ.fold max ⊥ S)) * A + ∑ j, Ideal.exp (S j - max M (Finset.univ.fold max ⊥ S)) * v j)
      (EL + ∑ j, e (S j)) (EA + ∑ j, e (S j) * w j) := by
  obtain ⟨β, hβ⟩ := fold_real S h j0 h0
  rw [hβ]
  obtain ⟨rfl, rfl, rfl, rfl, rfl⟩ | ⟨μ, rfl, rfl, rfl⟩ := hi
  · have hm : max ⊥ (β : EReal) = (β : EReal) := max_eq_right bot_le
    refine .inr ⟨β, hm, ?_, ?_⟩ <;> rw [hm, mul_zero, zero_add, zero_add]
    · exact sum_exp S h β
    · exact sum_exp_mul S v w h hv β
  · have hm : max (μ : EReal) (β : EReal) = ((max μ β : ℝ) : EReal) := (EReal.coe_strictMono.monotone.map_max).symm
    rw [hm]
    generalize max μ β = ν
    have he : Ideal.exp ((μ : EReal) - (ν : EReal)) = ((Real.exp (-ν) * Real.exp μ : ℝ) : EReal) := by
      rw [exp_sub _ (EReal.coe_ne_top μ)]; unfold e; rw [if_neg (EReal.coe_ne_bot μ), EReal.toReal_coe]
    have key : ∀ E : ℝ, Real.exp (-ν) * Real.exp μ * (Real.exp (-μ) * E) = Real.exp (-ν) * E := fun E => by
      have := Real.exp_add μ (-μ)
      rw [add_neg_cancel, Real.exp_zero] at this
      calc _ = Real.exp (-ν) * (Real.exp μ * Real.exp (-μ)) * E := by ring
        _ = _ := by rw [← this, mul_one]
    refine .inr ⟨ν, rfl, ?_, ?_⟩
    · rw [he, sum_exp S h ν, ← EReal.coe_mul, key, ← EReal.coe_add, mul_add]
    · rw [he, sum_exp_mul S v w h hv ν, ← EReal.coe_mul, key, ← EReal.coe_add, mul_add]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- What the last division leaves: the weighted mean of the values. -/
theorem Inv.div {M L A : EReal} {EL EA : ℝ} (hi : Inv M L A EL EA) (hp : 0 < EL) : Ideal.div A L = ((EA / EL : ℝ) : EReal) := by
  obtain ⟨-, -, -, h, -⟩ | ⟨μ, rfl, rfl, rfl⟩ := hi
  · exact absurd hp (h ▸ lt_irrefl _)
  · have h1 := (Real.exp_pos (-μ)).ne'
    rw [div_real _ _ (mul_ne_zero h1 hp.ne'), mul_div_mul_left _ _ h1]

/-- The softmax of a row, then the weighted sum of the values: the same weighted mean. -/
theorem ref_row {n : ℕ} (S : Fin n → EReal) (v : Fin n → EReal) (w : Fin n → ℝ)
    (h : ∀ j, S j ≠ ⊤) (hv : ∀ j, v j = (w j : EReal)) (j0 : Fin n) (h0 : S j0 ≠ ⊥) :
    ∑ j, v j * Ideal.div (Ideal.exp (S j - Finset.univ.fold max ⊥ S)) (∑ k, Ideal.exp (S k - Finset.univ.fold max ⊥ S))
      = (((∑ j, e (S j) * w j) / (∑ j, e (S j)) : ℝ) : EReal) := by
  obtain ⟨β, hβ⟩ := fold_real S h j0 h0
  have hp : 0 < ∑ j, e (S j) := Finset.sum_pos' (fun j _ => e_nonneg _) ⟨j0, Finset.mem_univ _, e_pos h0⟩
  rw [hβ, sum_exp S h β, Finset.sum_div, coe_sum]
  refine Finset.sum_congr rfl fun j _ => ?_
  have h1 := (Real.exp_pos (-β)).ne'
  rw [exp_sub _ (h j), hv, div_real _ _ (mul_ne_zero h1 hp.ne'), mul_div_mul_left _ _ h1, ← EReal.coe_mul]
  congr 1; ring

/-- A sum over eight tiles, all of them zero past tile `q`. -/
theorem sum_upto (q : ℕ) (hq : q < 8) (g : ℕ → ℝ) (h0 : ∀ k, q < k → g k = 0) :
    ∑ k : Fin 8, g k.val = ∑ k ∈ Finset.range q, g k + g q := by
  rw [Fin.sum_univ_eq_sum_range g 8, ← Finset.sum_range_succ]
  refine (Finset.sum_subset (Finset.range_subset_range.2 (by omega)) fun k _ hk => h0 k ?_).symm
  have := mt Finset.mem_range.2 hk
  omega

/-- The value is a real number. -/
def Real' (x : EReal) : Prop := ∃ a : ℝ, x = (a : EReal)

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.add {x y : EReal} (hx : Real' x) (hy : Real' y) : Real' (x + y) := by
  obtain ⟨a, rfl⟩ := hx; obtain ⟨b, rfl⟩ := hy; exact ⟨a + b, (EReal.coe_add a b).symm⟩

theorem Real'.sum {n : ℕ} {f : Fin n → EReal} (h : ∀ j, Real' (f j)) : Real' (∑ j, f j) := by
  choose g hg using h
  exact ⟨∑ j, g j, (Finset.sum_congr rfl fun j _ => hg j).trans (coe_sum g).symm⟩

theorem Real'.toReal {x : EReal} (h : Real' x) : x = (x.toReal : EReal) := by
  obtain ⟨a, rfl⟩ := h; rw [EReal.toReal_coe]

theorem Real'.ne_top {x : EReal} (h : Real' x) : x ≠ ⊤ := by obtain ⟨a, rfl⟩ := h; exact EReal.coe_ne_top a

theorem Real'.ne_bot {x : EReal} (h : Real' x) : x ≠ ⊥ := by obtain ⟨a, rfl⟩ := h; exact EReal.coe_ne_bot a

theorem negInf : Ideal.ofBits .f32 0xFF800000#32 = ⊥ := by
  unfold Ideal.ofBits Ideal.ieee
  decide

end Cert.Softmax

end
-- ==== Proof.AttnPay.lean ====
module

public import proofs.«01_k».proof.Proof.AttnOut
public import proofs.«01_k».proof.Proof.Softmax

@[expose] public section

set_option maxRecDepth 16384

noncomputable section

open Idealize.ShloMosaic Idealize.ShloMosaic.TcCoe Idealize.SL.Sem
open Cert.Softmax

namespace Cert.KernelIdeal.Attn

open Cert.KernelIdeal Cert.KernelIdeal.Gen

section
variable (v0 : Vec Ideal S8x256x256 .bf16) (v2 : Vec Ideal S8x256x32 .bf16)

/-- The score of query row `r` (head `r / 256`, query `r % 256`) against row `j` of keys `C`, `R`. -/
def score {n : ℕ} (C : FVec Ideal ⟨2, ![n, 256]⟩ .bf16) (R : FVec Ideal ⟨2, ![n, 32]⟩ .bf16) (r : Fin 2048) (j : Fin n) : EReal :=
  ∑ x : Fin 256, (show EReal from v0 (ix3 ⟨r.val / 256, by omega⟩ ⟨r.val % 256, by omega⟩ x)) * (show EReal from C (ix2 j x))
    + ∑ x : Fin 32, (show EReal from v2 (ix3 ⟨r.val / 256, by omega⟩ ⟨r.val % 256, by omega⟩ x)) * (show EReal from R (ix2 j x))

variable (C : Vec Ideal S256x256 .bf16) (R : Vec Ideal S256x32 .bf16)

theorem step_m (s : St Ideal) (r : Fin 2048) :
    (step v0 v2 C R s).1 (ix2 r 0) = max (s.1 (ix2 r 0)) (Finset.univ.fold max ⊥ (score v0 v2 (n := 256) C R r)) := by
  unfold step
  pointwise [k0_pay20, k0_pay4, k0_pay3, k0_pay15, k0_pay16]
  rw [negInf]; rfl

theorem step_l (s : St Ideal) (r : Fin 2048) :
    (step v0 v2 C R s).2.1 (ix2 r 0) =
      Ideal.exp ((show EReal from s.1 (ix2 r 0)) - max (s.1 (ix2 r 0)) (Finset.univ.fold max ⊥ (score v0 v2 (n := 256) C R r))) * (show EReal from s.2.1 (ix2 r 0))
        + ∑ j, Ideal.exp (score v0 v2 (n := 256) C R r j - max (s.1 (ix2 r 0)) (Finset.univ.fold max ⊥ (score v0 v2 (n := 256) C R r))) := by
  unfold step
  pointwise [k0_pay7, k0_pay6, k0_pay5, k0_pay4, k0_pay3, k0_pay15, k0_pay16]
  rw [negInf]; rfl

theorem step_a (s : St Ideal) (r : Fin 2048) (d : Fin 256) :
    (step v0 v2 C R s).2.2 (ix2 r d) =
      Ideal.exp ((show EReal from s.1 (ix2 r 0)) - max (s.1 (ix2 r 0)) (Finset.univ.fold max ⊥ (score v0 v2 (n := 256) C R r))) * (show EReal from s.2.2 (ix2 r d))
        + ∑ j, Ideal.exp (score v0 v2 (n := 256) C R r j - max (s.1 (ix2 r 0)) (Finset.univ.fold max ⊥ (score v0 v2 (n := 256) C R r))) * (show EReal from C (ix2 j d)) := by
  unfold step
  pointwise [k0_pay8, k0_pay6, k0_pay5, k0_pay4, k0_pay3, k0_pay15, k0_pay16]
  rw [negInf]; rfl

/-- The score in the last block: keys after the query are masked. -/
def mscore (r : Fin 2048) (j : Fin 256) : EReal := if j.val ≤ r.val % 256 then score v0 v2 (n := 256) C R r j else ⊥

theorem rem_word : ∀ r : Fin 2048,
    (Scalar.select
          (IntOp.andi
            (IntOp.xori
              (IntOp.cmpi CmpIPredicate.slt
                (IntOp.remsi ArithUnit.vector (BitVec.ofNat 32 ↑r)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 ↑r)
                (Scalar.select (Scalar.cmpi CmpIPredicate.eq 256#32 0#32) 1#32 256#32))
              0#32))
          (IntOp.addi
            (IntOp.remsi ArithUnit.vector (BitVec.ofNat 32 ↑r)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 ↑r)
            (Scalar.select (Scalar.cmpi CmpIPredicate.eq 256#32 0#32) 1#32 256#32))) = BitVec.ofNat 32 (r.val % 256) := by
  decide +kernel

theorem last_s (r : Fin 2048) (j : Fin 256) :
    k0_pay23 (k0_pay16 v2) (k0_pay22 v0 C) R (constant S2048x256 .f32 0x00000000#32) (ix2 r j) = mscore v0 v2 C R r j := by
  pointwise [k0_pay23, k0_pay22, k0_pay15, k0_pay16]
  rw [rem_word, negInf]
  have hw : ∀ q : ℕ, q < 256 → ∀ x y : EReal, Scalar.select (IntOp.cmpi CmpIPredicate.sle (BitVec.ofNat 32 j.val) (BitVec.ofNat 32 q)) x y = if j.val ≤ q then x else y := by
    intro q hq x y
    have h1 := j.isLt
    word_cmp
  exact hw _ (Nat.mod_lt _ (by decide)) _ _

theorem last_l (m l : Vec Ideal S2048x1 .f32) (a : Vec Ideal S2048x256 .f32) (r : Fin 2048) :
    lastL v0 v2 C R (m, l, a) (ix2 r 0) =
      Ideal.exp ((show EReal from m (ix2 r 0)) - max (m (ix2 r 0)) (Finset.univ.fold max ⊥ (mscore v0 v2 C R r))) * (show EReal from l (ix2 r 0))
        + ∑ j, Ideal.exp (mscore v0 v2 C R r j - max (m (ix2 r 0)) (Finset.univ.fold max ⊥ (mscore v0 v2 C R r))) := by
  unfold lastL
  pointwise [k0_pay27, k0_pay26, k0_pay25, k0_pay24]
  simp only [last_s, negInf]

theorem last_a (m l : Vec Ideal S2048x1 .f32) (a : Vec Ideal S2048x256 .f32) (r : Fin 2048) (d : Fin 256) :
    lastA v0 v2 C R (m, l, a) (ix2 r d) =
      Ideal.exp ((show EReal from m (ix2 r 0)) - max (m (ix2 r 0)) (Finset.univ.fold max ⊥ (mscore v0 v2 C R r))) * (show EReal from a (ix2 r d))
        + ∑ j, Ideal.exp (mscore v0 v2 C R r j - max (m (ix2 r 0)) (Finset.univ.fold max ⊥ (mscore v0 v2 C R r))) * (show EReal from C (ix2 j d)) := by
  unfold lastA
  pointwise [k0_pay29, k0_pay26, k0_pay28, k0_pay25, k0_pay24]
  simp only [last_s, negInf]

theorem st_zero (X : Vec Ideal S2048x256 .bf16) (Y : Vec Ideal S2048x32 .bf16) (r : Fin 2048) (d : Fin 256) :
    (st v0 v2 X Y 0).1 (ix2 r 0) = (⊥ : EReal) ∧ (st v0 v2 X Y 0).2.1 (ix2 r 0) = (0 : EReal) ∧ (st v0 v2 X Y 0).2.2 (ix2 r d) = (0 : EReal) := by
  refine ⟨?_, ?_, ?_⟩ <;> unfold st <;> pointwise [k0_pay17, k0_pay18, k0_pay19]
  exact negInf

theorem score_real {n : ℕ} (C : FVec Ideal ⟨2, ![n, 256]⟩ .bf16) (R : FVec Ideal ⟨2, ![n, 32]⟩ .bf16) (h0 : ∀ j, Real' (v0 j)) (h2 : ∀ j, Real' (v2 j)) (hC : ∀ j, Real' (C j)) (hR : ∀ j, Real' (R j))
    (r : Fin 2048) (j : Fin n) : Real' (score v0 v2 C R r j) :=
  (Real'.sum fun _ => (h0 _).mul (hC _)).add (Real'.sum fun _ => (h2 _).mul (hR _))

variable (X : Vec Ideal S2048x256 .bf16) (Y : Vec Ideal S2048x32 .bf16)

/-- Before block `k` the buffers stand for the sums over the keys of the blocks before it. -/
theorem st_inv (h0 : ∀ j, Real' (v0 j)) (h2 : ∀ j, Real' (v2 j)) (hX : ∀ j, Real' (X j)) (hY : ∀ j, Real' (Y j)) (r : Fin 2048) (d : Fin 256) (k : ℕ) :
    Inv ((st v0 v2 X Y k).1 (ix2 r 0)) ((st v0 v2 X Y k).2.1 (ix2 r 0)) ((st v0 v2 X Y k).2.2 (ix2 r d))
      (∑ q ∈ Finset.range k, ∑ j : Fin 256, e (score v0 v2 (n := 256) (rowsC X q) (rowsR Y q) r j))
      (∑ q ∈ Finset.range k, ∑ j : Fin 256, e (score v0 v2 (n := 256) (rowsC X q) (rowsR Y q) r j) * (show EReal from rowsC X q (ix2 j d)).toReal) := by
  induction k with
  | zero =>
    obtain ⟨a, b, c⟩ := st_zero v0 v2 X Y r d
    rw [a, b, c]
    exact Inv.start
  | succ k ih =>
    have hr : ∀ j, Real' (score v0 v2 (n := 256) (rowsC X k) (rowsR Y k) r j) := score_real v0 v2 _ _ h0 h2 (fun _ => hX _) (fun _ => hY _) r
    rw [Finset.sum_range_succ, Finset.sum_range_succ, show st v0 v2 X Y (k + 1) = step v0 v2 (rowsC X k) (rowsR Y k) (st v0 v2 X Y k) from rfl, step_m, step_l, step_a]
    exact ih.step _ _ _ (fun j => (hr j).ne_top) (fun j => (show Real' (rowsC X k (ix2 j d)) from hX _).toReal) 0 (hr 0).ne_bot

/-- The scores of a row of the block at query position `t`, all 2048 keys under the causal mask. -/
def full (r : Fin 2048) (t : ℕ) (s : Fin 2048) : EReal := if s.val ≤ t then score v0 v2 (n := 2048) X Y r s else ⊥

theorem full_ne_top (h0 : ∀ j, Real' (v0 j)) (h2 : ∀ j, Real' (v2 j)) (hX : ∀ j, Real' (X j)) (hY : ∀ j, Real' (Y j)) (r : Fin 2048) (t : ℕ) (s : Fin 2048) :
    full v0 v2 X Y r t s ≠ ⊤ := by
  unfold full; split_ifs
  · exact (score_real v0 v2 (n := 2048) X Y h0 h2 hX hY r s).ne_top
  · exact bot_ne_top

theorem mscore_ne_top (h0 : ∀ j, Real' (v0 j)) (h2 : ∀ j, Real' (v2 j)) (hC : ∀ j, Real' (C j)) (hR : ∀ j, Real' (R j)) (r : Fin 2048) (j : Fin 256) :
    mscore v0 v2 C R r j ≠ ⊤ := by
  unfold mscore; split_ifs
  · exact (score_real v0 v2 (n := 256) C R h0 h2 hC hR r j).ne_top
  · exact bot_ne_top

theorem score_rows (r : Fin 2048) (k : Fin 8) (j : Fin 256) :
    score v0 v2 (n := 256) (rowsC X k.val) (rowsR Y k.val) r j = score v0 v2 (n := 2048) X Y r ⟨k.val * 256 + j.val, by omega⟩ := by
  have hk : (256 * k.val + j.val) % 2048 = k.val * 256 + j.val := by omega
  have h1 : ∀ x, rowsC X k.val (ix2 j x) = X (ix2 ⟨k.val * 256 + j.val, by omega⟩ x) := fun x =>
    congrArg (fun q : Fin 2048 => X (ix2 q x)) (Fin.ext hk)
  have h2 : ∀ x, rowsR Y k.val (ix2 j x) = Y (ix2 ⟨k.val * 256 + j.val, by omega⟩ x) := fun x =>
    congrArg (fun q : Fin 2048 => Y (ix2 q x)) (Fin.ext hk)
  unfold score
  simp only [h1, h2]

/-- The sum over all keys, tile by tile: the tiles before the query's, and the query's own under the mask. -/
theorem tiles (r : Fin 2048) (q : Fin 8) (g : ℕ → ℕ → ℝ) :
    ∑ s : Fin 2048, e (full v0 v2 X Y r (256 * q.val + r.val % 256) s) * g (s.val / 256) (s.val % 256)
      = ∑ k ∈ Finset.range q.val, ∑ j : Fin 256, e (score v0 v2 (n := 256) (rowsC X k) (rowsR Y k) r j) * g k j.val
        + ∑ j : Fin 256, e (mscore v0 v2 (rowsC X q.val) (rowsR Y q.val) r j) * g q.val j.val := by
  rw [Fin.sum_univ_tiles 8 256 rfl]
  obtain ⟨G, hG⟩ : ∃ G : ℕ → ℝ, G = fun k : ℕ => ∑ j : Fin 256, (if k < q.val then e (score v0 v2 (n := 256) (rowsC X k) (rowsR Y k) r j) * g k j.val
      else if k = q.val then e (mscore v0 v2 (rowsC X k) (rowsR Y k) r j) * g k j.val else 0) := ⟨_, rfl⟩
  have hg : ∀ k : Fin 8, ∑ j : Fin 256, e (full v0 v2 X Y r (256 * q.val + r.val % 256) ⟨k.val * 256 + j.val, by omega⟩) * g ((k.val * 256 + j.val) / 256) ((k.val * 256 + j.val) % 256)
      = G k.val := by
    intro k
    rw [hG]
    refine Finset.sum_congr rfl fun j _ => ?_
    have hj := j.isLt
    rw [show (k.val * 256 + j.val) / 256 = k.val by omega, show (k.val * 256 + j.val) % 256 = j.val by omega]
    have hr : r.val % 256 < 256 := Nat.mod_lt _ (by decide)
    unfold full mscore
    rw [← score_rows]
    dsimp only
    by_cases h1 : k.val < q.val
    · rw [if_pos h1, if_pos (by omega)]
    · rw [if_neg h1]
      by_cases h2 : k.val = q.val
      · rw [if_pos h2]
        by_cases h3 : j.val ≤ r.val % 256
        · rw [if_pos h3, if_pos (by omega)]
        · rw [if_neg h3, if_neg (by omega)]
      · rw [if_neg h2, if_neg (by omega), e_bot, zero_mul]
  rw [Finset.sum_congr rfl fun k _ => hg k, sum_upto q.val q.isLt G fun k hk => hG ▸ Finset.sum_eq_zero fun j _ => by rw [if_neg (by omega), if_neg (by omega)], hG]
  refine congrArg₂ (· + ·) (Finset.sum_congr rfl fun k hk => Finset.sum_congr rfl fun j _ => if_pos (Finset.mem_range.1 hk)) (Finset.sum_congr rfl fun j _ => ?_)
  rw [if_neg (lt_irrefl _), if_pos rfl]

/-- WHAT THE BODY LEAVES for a row, divided: the softmax of the row's masked scores, weighting the values. -/
theorem row_eq (i : grid0.Coords) (h0 : ∀ j, Real' (v0 j)) (h2 : ∀ j, Real' (v2 j)) (hX : ∀ j, Real' (X j)) (hY : ∀ j, Real' (Y j)) (r : Fin 2048) (d : Fin 256) :
    Ideal.div (show EReal from finA i v0 v2 X Y (ix2 r d)) (show EReal from finL i v0 v2 X Y (ix2 r 0)) =
      ∑ s, (show EReal from X (ix2 s d)) * Ideal.div
        (Ideal.exp (full v0 v2 X Y r (256 * (i 1).val + r.val % 256) s - Finset.univ.fold max ⊥ (full v0 v2 X Y r (256 * (i 1).val + r.val % 256))))
        (∑ k, Ideal.exp (full v0 v2 X Y r (256 * (i 1).val + r.val % 256) k - Finset.univ.fold max ⊥ (full v0 v2 X Y r (256 * (i 1).val + r.val % 256)))) := by
  have hi : (i 1).val < 8 := (i 1).isLt
  have hr : r.val % 256 < 256 := Nat.mod_lt _ (by decide)
  have hb : full v0 v2 X Y r (256 * (i 1).val + r.val % 256) 0 ≠ ⊥ := by
    unfold full; rw [if_pos (show (0 : Fin 2048).val ≤ _ from Nat.zero_le _)]; exact (score_real v0 v2 (n := 2048) X Y h0 h2 hX hY r 0).ne_bot
  have hm : mscore v0 v2 (rowsC X (i 1).val) (rowsR Y (i 1).val) r 0 ≠ ⊥ := by
    unfold mscore; rw [if_pos (show (0 : Fin 256).val ≤ _ from Nat.zero_le _)]; exact (score_real v0 v2 (n := 256) _ _ h0 h2 (fun _ => hX _) (fun _ => hY _) r 0).ne_bot
  rw [ref_row _ _ (fun s => (show EReal from X (ix2 s d)).toReal) (full_ne_top v0 v2 X Y h0 h2 hX hY r _) (fun s => (show Real' (X (ix2 s d)) from hX _).toReal) 0 hb]
  have hI := (st_inv v0 v2 X Y h0 h2 hX hY r d (i 1).val).step (mscore v0 v2 (rowsC X (i 1).val) (rowsR Y (i 1).val) r) _ _
    (mscore_ne_top v0 v2 _ _ h0 h2 (fun _ => hX _) (fun _ => hY _) r) (fun j => (show Real' (rowsC X (i 1).val (ix2 j d)) from hX _).toReal) 0 hm
  have hL := tiles v0 v2 X Y r (i 1) fun _ _ => 1
  have hA := tiles v0 v2 X Y r (i 1) fun k j => (show EReal from X (ix2 ⟨(256 * k + j) % 2048, Nat.mod_lt _ (by decide)⟩ d)).toReal
  simp only [mul_one] at hL
  have hv : ∀ s : Fin 2048, (⟨(256 * (s.val / 256) + s.val % 256) % 2048, Nat.mod_lt _ (by decide)⟩ : Fin 2048) = s := fun s => Fin.ext (by show (256 * (s.val / 256) + s.val % 256) % 2048 = s.val; omega)
  simp only [hv] at hA
  rw [hL, hA]
  have hp : 0 < ∑ s : Fin 2048, e (full v0 v2 X Y r (256 * (i 1).val + r.val % 256) s) := Finset.sum_pos' (fun j _ => e_nonneg _) ⟨0, Finset.mem_univ _, e_pos hb⟩
  rw [hL] at hp
  refine Eq.trans ?_ (hI.div hp)
  unfold finA finL
  exact congrArg₂ Ideal.div (last_a v0 v2 _ _ _ _ _ r d) (last_l v0 v2 _ _ _ _ _ r)

end

end Cert.KernelIdeal.Attn
end
-- ==== Proof.AttnVal.lean ====
module

public import proofs.«01_k».proof.Proof.AttnPay
public import Idealize.ShloMosaic.Lib.Pipeline.ValueKit

@[expose] public section

set_option maxRecDepth 16384

noncomputable section

open Idealize.ShloMosaic Idealize.ShloMosaic.TcCoe Idealize.SL.Sem
open Cert.Softmax

namespace Cert.KernelIdeal.Attn

open Cert.KernelIdeal Cert.KernelIdeal.Gen

/-- The masked scores of the query of result row `a`, the head of result column `b`. -/
def ks (X0 : FVec Ideal S8x16384x256 .bf16) (X1 : FVec Ideal S8x16384x32 .bf16) (X2 : FVec Ideal S16384x256 .bf16) (X3 : FVec Ideal S16384x32 .bf16) (a : Fin 16384) (b : Fin 2048) (s : Fin 2048) : EReal :=
  if s.val ≤ a.val % 2048 then
    ∑ x : Fin 256, X0 (ix3 ⟨b.val / 256, by omega⟩ a x) * X2 (ix2 ⟨a.val / 2048 * 2048 + s.val, by omega⟩ x)
      + ∑ x : Fin 32, X1 (ix3 ⟨b.val / 256, by omega⟩ a x) * X3 (ix2 ⟨a.val / 2048 * 2048 + s.val, by omega⟩ x)
  else ⊥

/-- The attention of all heads: row `a` of the result, column `b`. -/
def attn (X0 : FVec Ideal S8x16384x256 .bf16) (X1 : FVec Ideal S8x16384x32 .bf16) (X2 : FVec Ideal S16384x256 .bf16) (X3 : FVec Ideal S16384x32 .bf16) (a : Fin 16384) (b : Fin 2048) : EReal :=
  ∑ x : Fin 2048, X2 (ix2 ⟨a.val / 2048 * 2048 + x.val, by omega⟩ ⟨b.val % 256, by omega⟩)
    * Ideal.div (Ideal.exp (ks X0 X1 X2 X3 a b x - Finset.univ.fold max ⊥ (ks X0 X1 X2 X3 a b)))
        (∑ k, Ideal.exp (ks X0 X1 X2 X3 a b k - Finset.univ.fold max ⊥ (ks X0 X1 X2 X3 a b)))

/-- One head's rows of the divided accumulator, cut out. -/
theorem cut_at (A : Vec Ideal S2048x256 .f32) (L : Vec Ideal S2048x1 .f32) (p d : Fin 256) (h : Fin 8) (b : Fin 2048) (hb : b.val = 256 * h.val + d.val) (q : EReal)
    (hq : q = Ideal.div (show EReal from A (ix2 ⟨256 * h.val + p.val, by omega⟩ d)) (show EReal from L (ix2 ⟨256 * h.val + p.val, by omega⟩ 0))) :
    q = Ideal.div (show EReal from A (ix2 ⟨b.val / 256 * 256 + p.val, by omega⟩ ⟨b.val % 256, by omega⟩)) (show EReal from L (ix2 ⟨b.val / 256 * 256 + p.val, by omega⟩ 0)) := by
  have e1 : (⟨256 * h.val + p.val, by omega⟩ : Fin 2048) = ⟨b.val / 256 * 256 + p.val, by omega⟩ := Fin.ext (by dsimp only; omega)
  have e2 : d = (⟨b.val % 256, by omega⟩ : Fin 256) := Fin.ext (by dsimp only; omega)
  rw [hq]
  exact congrArg₂ Ideal.div (congrArg A (congrArg₂ ix2 e1 e2)) (congrArg L (congrArg (ix2 · 0) e1))

theorem pay_at (A : Vec Ideal S2048x256 .f32) (L : Vec Ideal S2048x1 .f32) (p d : Fin 256) :
    k0_pay32 A L (ix2 p d) = Ideal.div (show EReal from A (ix2 ⟨256 * 0 + p.val, by omega⟩ d)) (show EReal from L (ix2 ⟨256 * 0 + p.val, by omega⟩ 0))
    ∧ k0_pay33 A L (ix2 p d) = Ideal.div (show EReal from A (ix2 ⟨256 * 1 + p.val, by omega⟩ d)) (show EReal from L (ix2 ⟨256 * 1 + p.val, by omega⟩ 0))
    ∧ k0_pay34 A L (ix2 p d) = Ideal.div (show EReal from A (ix2 ⟨256 * 2 + p.val, by omega⟩ d)) (show EReal from L (ix2 ⟨256 * 2 + p.val, by omega⟩ 0))
    ∧ k0_pay35 A L (ix2 p d) = Ideal.div (show EReal from A (ix2 ⟨256 * 3 + p.val, by omega⟩ d)) (show EReal from L (ix2 ⟨256 * 3 + p.val, by omega⟩ 0))
    ∧ k0_pay36 A L (ix2 p d) = Ideal.div (show EReal from A (ix2 ⟨256 * 4 + p.val, by omega⟩ d)) (show EReal from L (ix2 ⟨256 * 4 + p.val, by omega⟩ 0))
    ∧ k0_pay37 A L (ix2 p d) = Ideal.div (show EReal from A (ix2 ⟨256 * 5 + p.val, by omega⟩ d)) (show EReal from L (ix2 ⟨256 * 5 + p.val, by omega⟩ 0))
    ∧ k0_pay1 (k0_pay31 A L) (ix2 p d) = Ideal.div (show EReal from A (ix2 ⟨256 * 6 + p.val, by omega⟩ d)) (show EReal from L (ix2 ⟨256 * 6 + p.val, by omega⟩ 0))
    ∧ k0_pay2 (k0_pay31 A L) (ix2 p d) = Ideal.div (show EReal from A (ix2 ⟨256 * 7 + p.val, by omega⟩ d)) (show EReal from L (ix2 ⟨256 * 7 + p.val, by omega⟩ 0)) := by
  refine ⟨?_, ?_, ?_, ?_, ?_, ?_, ?_, ?_⟩
  · pointwise [k0_pay32, k0_pay31]
  · pointwise [k0_pay33, k0_pay31]
  · pointwise [k0_pay34, k0_pay31]
  · pointwise [k0_pay35, k0_pay31]
  · pointwise [k0_pay36, k0_pay31]
  · pointwise [k0_pay37, k0_pay31]
  · pointwise [k0_pay1, k0_pay31]
  · pointwise [k0_pay2, k0_pay31]

/-- The eight pieces together: column `b` of the block is head `b / 256`'s row, divided. -/
theorem pieces_at (A : Vec Ideal S2048x256 .f32) (L : Vec Ideal S2048x1 .f32) (y : S256x2048.Idx) (p : Fin 256) (b : Fin 2048) (k0 : (y 0).val = p.val) (k1 : (y 1).val = b.val) :
    View.canon (pieces (F := Ideal) A L) y =
      Ideal.div (show EReal from A (ix2 ⟨b.val / 256 * 256 + p.val, by omega⟩ ⟨b.val % 256, by omega⟩)) (show EReal from L (ix2 ⟨b.val / 256 * 256 + p.val, by omega⟩ 0)) := by
  unfold pieces
  canon_tiles x h
  all_goals
    obtain ⟨x0, x1, rfl⟩ : ∃ (x0 x1 : Fin 256), x = ix2 x0 x1 := ⟨x 0, x 1, (ix2_eta x).symm⟩
    obtain rfl : p = x0 := Fin.ext (k0.symm.trans h0)
    have P := pay_at A L p x1
  case piece0 => exact cut_at A L p x1 7 b (k1.symm.trans h1) _ P.2.2.2.2.2.2.2
  case piece1 => exact cut_at A L p x1 6 b (k1.symm.trans h1) _ P.2.2.2.2.2.2.1
  case piece2 => exact cut_at A L p x1 5 b (k1.symm.trans h1) _ P.2.2.2.2.2.1
  case piece3 => exact cut_at A L p x1 4 b (k1.symm.trans h1) _ P.2.2.2.2.1
  case piece4 => exact cut_at A L p x1 3 b (k1.symm.trans h1) _ P.2.2.2.1
  case piece5 => exact cut_at A L p x1 2 b (k1.symm.trans h1) _ P.2.2.1
  case piece6 => exact cut_at A L p x1 1 b (k1.symm.trans h1) _ P.2.1
  case piece7 => exact cut_at A L p x1 0 b (k1.symm.trans (h1.trans (by simp))) _ P.1

theorem idx : ∀ t : Fin cfg0.N, win0_0.index t = ![0, (grid0.coords t 0).val * 8 + (grid0.coords t 1).val, 0]
    ∧ win0_1.index t = ![0, (grid0.coords t 0).val * 8 + (grid0.coords t 1).val, 0]
    ∧ win0_2.index t = ![(grid0.coords t 0).val, 0] ∧ win0_3.index t = ![(grid0.coords t 0).val, 0]
    ∧ win0_4.index t = ![(grid0.coords t 0).val * 8 + (grid0.coords t 1).val, 0]
    ∧ (grid0.coords t 0).val < 8 ∧ (grid0.coords t 1).val < 8 :=
  (by decide +kernel : ∀ t : Fin grid0.N, _)

variable (m : (ℓ : Loc nD τ sig) → Buf (Elt Ideal) ℓ)

theorem x0_at (c : Dev nD) (t : Fin cfg0.N) (h : Fin 8) (q x : Fin 256) (a : Fin 16384) (ha : a.val = ((grid0.coords t 0).val * 8 + (grid0.coords t 1).val) * 256 + q.val) :
    iblk m c 0 t (ix3 h q x) = m ((c : Thread nD τ).loc main_arg0) (ix3 h a x) := by
  blk_ext [iblk, V, idx t, ha]

theorem x1_at (c : Dev nD) (t : Fin cfg0.N) (h : Fin 8) (q : Fin 256) (x : Fin 32) (a : Fin 16384) (ha : a.val = ((grid0.coords t 0).val * 8 + (grid0.coords t 1).val) * 256 + q.val) :
    iblk m c 1 t (ix3 h q x) = m ((c : Thread nD τ).loc main_arg1) (ix3 h a x) := by
  blk_ext [iblk, V, idx t, ha]

theorem x2_at (c : Dev nD) (t : Fin cfg0.N) (s : Fin 2048) (x : Fin 256) (a : Fin 16384) (ha : a.val = (grid0.coords t 0).val * 2048 + s.val) :
    iblk m c 2 t (ix2 s x) = m ((c : Thread nD τ).loc main_arg2) (ix2 a x) := by
  blk_ext [iblk, V, idx t, ha]

theorem x3_at (c : Dev nD) (t : Fin cfg0.N) (s : Fin 2048) (x : Fin 32) (a : Fin 16384) (ha : a.val = (grid0.coords t 0).val * 2048 + s.val) :
    iblk m c 3 t (ix2 s x) = m ((c : Thread nD τ).loc main_arg3) (ix2 a x) := by
  blk_ext [iblk, V, idx t, ha]

theorem final (c : Dev nD) (h0 : ∀ j, Real' (m ((c : Thread nD τ).loc main_arg0) j)) (h1 : ∀ j, Real' (m ((c : Thread nD τ).loc main_arg1) j))
    (h2 : ∀ j, Real' (m ((c : Thread nD τ).loc main_arg2) j)) (h3 : ∀ j, Real' (m ((c : Thread nD τ).loc main_arg3) j)) :
    (dats m 0 c).arrAt 4 cfg0.N = fun j : S16384x2048.Idx => attn (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 4 _ (by decide +kernel) fun t hf y => ?_
  blk_simp
  rw [after0_4]
  unfold outsAt0
  rw [out_eq]
  obtain ⟨p, b, rfl⟩ : ∃ (p : Fin 256) (b : Fin 2048), y = ix2 p b := ⟨y 0, y 1, (ix2_eta y).symm⟩
  rw [pieces_at _ _ _ p b rfl rfl]
  have hi := idx t
  have hc0 := hi.2.2.2.2.2.1
  have hc1 := hi.2.2.2.2.2.2
  have hb := b.isLt
  have hp := p.isLt
  have e0 : (win0_4.blk t).view.emb (ix2 p b) 0 = (⟨((grid0.coords t 0).val * 8 + (grid0.coords t 1).val) * 256 + p.val, by omega⟩ : Fin 16384) := by
    apply Fin.ext; blk_simp [idx t]
  have e1 : (win0_4.blk t).view.emb (ix2 p b) 1 = b := by
    apply Fin.ext; blk_simp [idx t]
  have r0 : ∀ j, Real' (iblk m c 0 t j) := fun j => h0 _
  have r1 : ∀ j, Real' (iblk m c 1 t j) := fun j => h1 _
  have r2 : ∀ j, Real' (iblk m c 2 t j) := fun j => h2 _
  have r3 : ∀ j, Real' (iblk m c 3 t j) := fun j => h3 _
  rw [e0, e1]
  refine (row_eq _ _ _ _ (grid0.coords t) r0 r1 r2 r3 _ _).trans ?_
  have hF : full (iblk m c 0 t) (iblk m c 1 t) (iblk m c 2 t) (iblk m c 3 t) ⟨b.val / 256 * 256 + p.val, by omega⟩ (256 * (grid0.coords t 1).val + (b.val / 256 * 256 + p.val) % 256)
      = ks (m ((c : Thread nD τ).loc main_arg0)) (m ((c : Thread nD τ).loc main_arg1)) (m ((c : Thread nD τ).loc main_arg2)) (m ((c : Thread nD τ).loc main_arg3)) ⟨((grid0.coords t 0).val * 8 + (grid0.coords t 1).val) * 256 + p.val, by omega⟩ b := by
    funext s
    have hs := s.isLt
    unfold full ks score
    refine if_congr (by dsimp only; omega) (congrArg₂ (· + ·) (Finset.sum_congr rfl fun x _ => congrArg₂ (· * ·) ?_ ?_) (Finset.sum_congr rfl fun x _ => congrArg₂ (· * ·) ?_ ?_)) rfl
    · refine (x0_at m c t _ _ x ⟨((grid0.coords t 0).val * 8 + (grid0.coords t 1).val) * 256 + p.val, by omega⟩ (by dsimp only; omega)).trans ?_
      congr 2; apply Fin.ext; dsimp only; omega
    · exact x2_at m c t s x _ (by dsimp only; omega)
    · refine (x1_at m c t _ _ x ⟨((grid0.coords t 0).val * 8 + (grid0.coords t 1).val) * 256 + p.val, by omega⟩ (by dsimp only; omega)).trans ?_
      congr 2; apply Fin.ext; dsimp only; omega
    · exact x3_at m c t s x _ (by dsimp only; omega)
  unfold attn
  dsimp only
  rw [hF]
  refine Finset.sum_congr rfl fun s _ => congrArg₂ (· * ·) ?_ rfl
  have hs := s.isLt
  exact x2_at m c t s _ _ (by dsimp only; omega)

end Cert.KernelIdeal.Attn
end
-- ==== Proof.AttnRef.lean ====
module

public import proofs.«01_k».proof.Proof.Gen.ReferenceIdeal.Run
public import proofs.«01_k».proof.Proof.Softmax
public import Idealize.ShloMosaic.Lib.WordCmp

@[expose] public section

set_option maxRecDepth 16384

noncomputable section

open Idealize.ShloMosaic Idealize.ShloMosaic.TcCoe Idealize.SL.Sem
open Cert.Softmax

namespace Cert.ReferenceIdeal.Attn

open Cert.ReferenceIdeal Cert.ReferenceIdeal.Gen
open Cert.ReferenceIdeal.Facts

/-- The masked scores. -/
def SC (X0 : FVec Ideal S8x16384x256 .bf16) (X1 : FVec Ideal S8x16384x32 .bf16) (X2 : FVec Ideal S16384x256 .bf16) (X3 : FVec Ideal S16384x32 .bf16) : FVec Ideal S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (addf (Host.dotGeneral dot_S8x8x2048x256_S8x2048x256_S8x8x2048x2048_3_2_02_1_1_0 none (shapeCast _ X0 shapeCasts_S8x16384x256_S8x8x2048x256) (shapeCast _ X2 shapeCasts_S16384x256_S8x2048x256)) (Host.dotGeneral dot_S8x8x2048x32_S8x2048x32_S8x8x2048x2048_3_2_02_1_1_0 none (shapeCast _ X1 shapeCasts_S8x16384x32_S8x8x2048x32) (shapeCast _ X3 shapeCasts_S16384x32_S8x2048x32))) (broadcastInDim S8x8x2048x2048 ![] bcast_S_S8x8x2048x2048 (id (constant S_ .f32 0xFF800000#32)))

/-- Their exponentials, relative to each row's maximum. -/
def EX (S : FVec Ideal S8x8x2048x2048 .f32) : FVec Ideal S8x8x2048x2048 .f32 :=
  Host.exp (subf S (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) (Host.reduce FloatOps.maximumf S (constant S_ .f32 0xFF800000#32) reducesTo_S8x8x2048x2048_S8x8x2048_d3 h_S_)))))

/-- Each row divided by its sum. -/
def DV (E : FVec Ideal S8x8x2048x2048 .f32) : FVec Ideal S8x8x2048x2048 .f32 :=
  Host.divf E (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd E (constant S_ .f32 0x00000000#32) reducesTo_S8x8x2048x2048_S8x8x2048_d3 h_S_)))

/-- The weighted sum of the values. -/
def OUT (D : FVec Ideal S8x8x2048x2048 .f32) (X2 : FVec Ideal S16384x256 .bf16) : FVec Ideal S16384x2048 .bf16 :=
  truncf .bf16 (shapeCast _ (transpose S8x2048x8x256 [0, 3, 2, 1] (Host.dotGeneral dot_S8x2048x256_S8x8x2048x2048_S8x256x8x2048_1_3_2_12_0_0 none (shapeCast _ X2 shapeCasts_S16384x256_S8x2048x256) (truncf .bf16 D bitsLt_bf16_f32)) transposes_S8x256x8x2048_S8x2048x8x256_0_3_2_1) shapeCasts_S8x2048x8x256_S16384x2048) bitsLt_bf16_f32

theorem res_eq (m : (ℓ : Loc nD τ sig) → Buf (Elt Ideal) ℓ) (c : Dev nD) :
    Value.res_out0 m c = OUT (DV (EX (SC (m ((c.tc : Thread nD τ).loc main_arg0)) (m ((c.tc : Thread nD τ).loc main_arg1)) (m ((c.tc : Thread nD τ).loc main_arg2)) (m ((c.tc : Thread nD τ).loc main_arg3))))) (m ((c.tc : Thread nD τ).loc main_arg2)) := rfl

theorem sc_at (X0 : FVec Ideal S8x16384x256 .bf16) (X1 : FVec Ideal S8x16384x32 .bf16) (X2 : FVec Ideal S16384x256 .bf16) (X3 : FVec Ideal S16384x32 .bf16) (b h : Fin 8) (t s : Fin 2048) :
    SC X0 X1 X2 X3 (ix4 b h t s) = if s.val ≤ t.val then
      ∑ x : Fin 256, X0 (ix3 h ⟨b.val * 2048 + t.val, by omega⟩ x) * X2 (ix2 ⟨b.val * 2048 + s.val, by omega⟩ x)
        + ∑ x : Fin 32, X1 (ix3 h ⟨b.val * 2048 + t.val, by omega⟩ x) * X3 (ix2 ⟨b.val * 2048 + s.val, by omega⟩ x)
      else ⊥ := by
  have hw : ∀ x y : EReal, Scalar.select (IntOp.cmpi CmpIPredicate.sle (BitVec.ofNat 32 s.val) (BitVec.ofNat 32 t.val)) x y = if s.val ≤ t.val then x else y := by
    intro x y
    have h1 := s.isLt
    have h2 := t.isLt
    word_cmp
  pointwise [SC]
  rw [hw]
  exact congrArg (fun z : EReal => if s.val ≤ t.val then _ else z) negInf

theorem reduce_max {n0 n1 n2 n3 : ℕ} {u : Shape} (v : FVec Ideal ⟨4, ![n0, n1, n2, n3]⟩ .f32) (c : FVec Ideal u .f32)
    (h : (⟨4, ![n0, n1, n2, n3]⟩ : Shape).ReducesTo [3] ⟨3, ![n0, n1, n2]⟩) (hu : 0 < u.numel) (a : Fin n0) (b : Fin n1) (d : Fin n2) :
    Host.reduce FloatOps.maximumf v c h hu (ix3 a b d) = Finset.univ.fold max (c (Shape.Idx.first hu)) fun k => v (ix4 a b d k) := by
  simp only [pointwise]

theorem max_at (S : FVec Ideal S8x8x2048x2048 .f32) (b h : Fin 8) (t : Fin 2048) :
    Host.reduce FloatOps.maximumf S (constant S_ .f32 0xFF800000#32) reducesTo_S8x8x2048x2048_S8x8x2048_d3 h_S_ (ix3 b h t)
      = Finset.univ.fold max (constant (F := Ideal) S_ .f32 0xFF800000#32 (Shape.Idx.first h_S_)) fun k => S (ix4 b h t k) :=
  reduce_max S (constant S_ .f32 0xFF800000#32) reducesTo_S8x8x2048x2048_S8x8x2048_d3 h_S_ b h t

theorem fold_bot (S : FVec Ideal S8x8x2048x2048 .f32) (b h : Fin 8) (t : Fin 2048) :
    (Finset.univ : Finset (Fin 2048)).fold max (constant (F := Ideal) S_ .f32 0xFF800000#32 (Shape.Idx.first h_S_)) (fun k => S (ix4 b h t k))
      = Finset.univ.fold max ⊥ fun k => S (ix4 b h t k) := by
  pointwise
  rw [negInf]

theorem ex_of_max (S : FVec Ideal S8x8x2048x2048 .f32) (M : FVec Ideal S8x8x2048 .f32) (b h : Fin 8) (t s : Fin 2048) :
    Host.exp (subf S (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) M)))) (ix4 b h t s)
      = Ideal.exp (S (ix4 b h t s) - M (ix3 b h t)) := by
  pointwise
  rw [negInf, max_eq_right bot_le]

theorem ex_at (S : FVec Ideal S8x8x2048x2048 .f32) (b h : Fin 8) (t s : Fin 2048) :
    EX S (ix4 b h t s) = Ideal.exp (S (ix4 b h t s) - Finset.univ.fold max ⊥ fun k => S (ix4 b h t k)) :=
  (ex_of_max S _ b h t s).trans (congrArg (fun z : EReal => Ideal.exp (S (ix4 b h t s) - z)) ((max_at S b h t).trans (fold_bot S b h t)))

theorem dv_at (E : FVec Ideal S8x8x2048x2048 .f32) (b h : Fin 8) (t s : Fin 2048) :
    DV E (ix4 b h t s) = Ideal.div (E (ix4 b h t s)) (∑ k : Fin 2048, E (ix4 b h t k)) := by
  pointwise [DV]

theorem out_at (D : FVec Ideal S8x8x2048x2048 .f32) (X2 : FVec Ideal S16384x256 .bf16) (a : Fin 16384) (b : Fin 2048) :
    OUT D X2 (ix2 a b) = ∑ x : Fin 2048, X2 (ix2 ⟨a.val / 2048 * 2048 + x.val, by omega⟩ ⟨b.val % 256, by omega⟩)
      * D (ix4 ⟨a.val / 2048, by omega⟩ ⟨b.val / 256, by omega⟩ ⟨a.val % 2048, by omega⟩ x) := by
  pointwise [OUT]

/-- The masked scores of the query of result row `a`, the head of result column `b`. -/
def rs (X0 : FVec Ideal S8x16384x256 .bf16) (X1 : FVec Ideal S8x16384x32 .bf16) (X2 : FVec Ideal S16384x256 .bf16) (X3 : FVec Ideal S16384x32 .bf16) (a : Fin 16384) (b : Fin 2048) (s : Fin 2048) : EReal :=
  if s.val ≤ a.val % 2048 then
    ∑ x : Fin 256, X0 (ix3 ⟨b.val / 256, by omega⟩ a x) * X2 (ix2 ⟨a.val / 2048 * 2048 + s.val, by omega⟩ x)
      + ∑ x : Fin 32, X1 (ix3 ⟨b.val / 256, by omega⟩ a x) * X3 (ix2 ⟨a.val / 2048 * 2048 + s.val, by omega⟩ x)
  else ⊥

theorem ref_at (X0 : FVec Ideal S8x16384x256 .bf16) (X1 : FVec Ideal S8x16384x32 .bf16) (X2 : FVec Ideal S16384x256 .bf16) (X3 : FVec Ideal S16384x32 .bf16) (a : Fin 16384) (b : Fin 2048) :
    OUT (DV (EX (SC X0 X1 X2 X3))) X2 (ix2 a b) =
      ∑ x : Fin 2048, X2 (ix2 ⟨a.val / 2048 * 2048 + x.val, by omega⟩ ⟨b.val % 256, by omega⟩)
        * Ideal.div (Ideal.exp (rs X0 X1 X2 X3 a b x - Finset.univ.fold max ⊥ (rs X0 X1 X2 X3 a b)))
            (∑ k, Ideal.exp (rs X0 X1 X2 X3 a b k - Finset.univ.fold max ⊥ (rs X0 X1 X2 X3 a b))) := by
  have ha : (⟨a.val / 2048 * 2048 + a.val % 2048, by omega⟩ : Fin 16384) = a := Fin.ext (by show a.val / 2048 * 2048 + a.val % 2048 = a.val; omega)
  have hs : (fun s => SC X0 X1 X2 X3 (ix4 ⟨a.val / 2048, by omega⟩ ⟨b.val / 256, by omega⟩ ⟨a.val % 2048, by omega⟩ s)) = rs X0 X1 X2 X3 a b := by
    funext s
    rw [sc_at]
    unfold rs
    simp only [ha]
  have hs' := congrFun hs
  rw [out_at]
  simp only [dv_at, ex_at, hs', hs]

end Cert.ReferenceIdeal.Attn
end
-- ==== Proof.AttnEq.lean ====
module

public import proofs.«01_k».proof.Defs
public import proofs.«01_k».proof.Proof.AttnVal
public import proofs.«01_k».proof.Proof.AttnRef
public import proofs.«01_k».proof.Proof.Gen.KernelIdeal.Value

@[expose] public section

set_option maxRecDepth 16384

noncomputable section

open Idealize.ShloMosaic Idealize.ShloMosaic.TcCoe Idealize.SL.Sem
open Cert.Softmax

namespace Cert.AttnEq

/-- The side conditions of the precondition's own operations. -/
theorem preFacts : Cert.Pre_finite_args.Facts where
  bitsLt_bf16_f32 := by decide
  bcast_S_S8x16384x256 := by decide
  bcast_S_S8x16384x32 := by decide
  bcast_S_S16384x256 := by decide
  bcast_S_S16384x32 := by decide

theorem posInf : Ideal.ofBits .f32 0x7F800000#32 = ⊤ := by
  unfold Ideal.ofBits Ideal.ieee; decide

/-- A value whose absolute value is below infinity is a real number. -/
theorem real_of_abs (x : EReal) (h : max x (-x) < ⊤) : Real' x := by
  induction x with
  | bot => exact absurd h (by simp)
  | top => exact absurd h (by simp)
  | coe a => exact ⟨a, rfl⟩

theorem real_of_pre (x : EReal) (h : Ideal.cmp .olt (max x (-x)) (Ideal.ofBits .f32 0x7F800000#32) = 1#1) : Real' x := by
  rw [posInf] at h
  refine real_of_abs x ?_
  by_contra hc
  have : Ideal.cmp .olt (max x (-x)) ⊤ = 0#1 := by
    unfold Ideal.cmp; simp only [hc, decide_false]; rfl
  rw [this] at h
  exact absurd h (by decide)

variable [Cert.Pre_finite_args.Facts]

theorem pre_real (m : (ℓ : Loc Cert.KernelIdeal.nD Cert.KernelIdeal.τ Cert.KernelIdeal.sig) → Buf (Elt Ideal) ℓ) (h : Cert.Pre_KernelIdeal_finite_args m) (c : Dev Cert.KernelIdeal.nD) :
    (∀ j, Real' (m ((c : Thread Cert.KernelIdeal.nD Cert.KernelIdeal.τ).loc Cert.KernelIdeal.main_arg0) j)) ∧ (∀ j, Real' (m ((c : Thread Cert.KernelIdeal.nD Cert.KernelIdeal.τ).loc Cert.KernelIdeal.main_arg1) j))
    ∧ (∀ j, Real' (m ((c : Thread Cert.KernelIdeal.nD Cert.KernelIdeal.τ).loc Cert.KernelIdeal.main_arg2) j)) ∧ (∀ j, Real' (m ((c : Thread Cert.KernelIdeal.nD Cert.KernelIdeal.τ).loc Cert.KernelIdeal.main_arg3) j)) := by
  obtain ⟨a0, a1, a2, a3⟩ := h c
  refine ⟨fun j => real_of_pre _ ?_, fun j => real_of_pre _ ?_, fun j => real_of_pre _ ?_, fun j => real_of_pre _ ?_⟩
  · exact congrFun a0 j
  · exact congrFun a1 j
  · exact congrFun a2 j
  · exact congrFun a3 j

theorem out_eq (m : (ℓ : Loc Cert.ReferenceIdeal.nD Cert.ReferenceIdeal.τ Cert.ReferenceIdeal.sig) → Buf (Elt Ideal) ℓ) (c : Dev Cert.ReferenceIdeal.nD) (j : Cert.ReferenceIdeal.S16384x2048.Idx) :
    Cert.ReferenceIdeal.Value.res_out0 m c j = Cert.KernelIdeal.Attn.attn (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1)) (m ((c : Thread Cert.ReferenceIdeal.nD Cert.ReferenceIdeal.τ).loc Cert.ReferenceIdeal.main_arg2)) (m ((c : Thread Cert.ReferenceIdeal.nD Cert.ReferenceIdeal.τ).loc Cert.ReferenceIdeal.main_arg3)) (j 0) (j 1) := by
  obtain ⟨a, b, rfl⟩ : ∃ (a : Fin 16384) (b : Fin 2048), j = ix2 a b := ⟨j 0, j 1, (ix2_eta j).symm⟩
  rw [Cert.ReferenceIdeal.Attn.res_eq, Cert.ReferenceIdeal.Attn.ref_at]
  rfl

theorem algebraic : Cert.algebraic_KernelIdeal_ReferenceIdeal_pre_finite_args := by
  intro m g m' g' hpre hag
  refine ⟨fun c => (Cert.KernelIdeal.Gen.dats m 0 c).arrAt 4 (Cert.KernelIdeal.cfgs 0).N, Cert.KernelIdeal.Value.run_blocks (F := Ideal) m g, ?_⟩
  refine (θ_run Cert.ReferenceIdeal.defs _ _).mono (fun _ h c => ⟨(h c).1.trans ?_, (h c).2⟩) (Cert.ReferenceIdeal.Value.run (F := Ideal) m' g')
  obtain ⟨r0, r1, r2, r3⟩ := pre_real m hpre c
  obtain ⟨g0, g1, g2, g3⟩ := hag c
  refine Eq.trans (funext fun j => ?_) (Cert.KernelIdeal.Attn.final m c r0 r1 r2 r3).symm
  refine (out_eq m' c j).trans ?_
  rw [← g0, ← g1, ← g2, ← g3]

end Cert.AttnEq
end
-- ==== Proof.EvenSpec.lean ====
module

public import proofs.«01_k».proof.Proof.Gen.EvenIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! What the first call of an even layer computes, entry by entry, from its arguments. -/
namespace Cert.EvenSpec

/-- The logistic function. -/
def sg (x : EReal) : EReal := Ideal.div 1 (1 + Ideal.exp (-x))

/-- The reciprocal root of the mean square of a row. -/
def inv {n : ℕ} (k : EReal) (x : Fin n → EReal) : EReal :=
  Ideal.rsqrt (Ideal.div (∑ d, x d * x d) k + Ideal.ofBits FTy.f32 897988541#32)

/-- A row, normalized and scaled. -/
def nrm {n : ℕ} (k : EReal) (x g : Fin n → EReal) (d : Fin n) : EReal := x d * inv k x * g d

/-- The angle of position `t`, frequency `j`. -/
def ang (t : Fin 2048) (j : ℕ) : EReal :=
  (FloatOps.sitofp (F := Ideal) FTy.f32 (BitVec.ofNat 32 t.val) : EReal) *
    Ideal.pow (Ideal.ofBits FTy.f32 1176256512#32)
      (Ideal.div (-(FloatOps.sitofp (F := Ideal) FTy.f32 (BitVec.ofNat 32 j) : EReal)) (Ideal.ofBits FTy.f32 1098907648#32))

def co (t : Fin 2048) (j : ℕ) : EReal := Ideal.cos (ang t (j % 16))

def si (t : Fin 2048) (j : ℕ) : EReal := if j % 32 < 16 then -Ideal.sin (ang t (j % 16)) else Ideal.sin (ang t (j % 16))

/-- The rotation of one head's 32 entries at position `t`. -/
def rot (x : Fin 32 → EReal) (t : Fin 2048) (j : Fin 32) : EReal :=
  x j * co t j.val + x ⟨(j.val + 16) % 32, by omega⟩ * si t j.val

section
variable (X : FVec Ideal ⟨3, ![8, 2048, 1024]⟩ .f32) (G : FVec Ideal ⟨2, ![2, 1024]⟩ .f32) (W : FVec Ideal ⟨3, ![1, 1024, 3232]⟩ .f32)

/-- The normalized input. -/
def hn (r : Fin 16384) : Fin 1024 → EReal :=
  nrm (Ideal.ofBits FTy.f32 1149239296#32) (fun d => X (ix3 ⟨r.val / 2048, by omega⟩ ⟨r.val % 2048, by omega⟩ d)) (fun d => G (ix2 0 d))

/-- Its projection. -/
def z (r : Fin 16384) (j : Fin 3232) : EReal := ∑ d, hn X G r d * W (ix3 0 d j)

variable (Lg : FVec Ideal ⟨2, ![3, 512]⟩ .f32) (Q : FVec Ideal ⟨2, ![1, 384]⟩ .f32) (K : FVec Ideal ⟨2, ![1, 256]⟩ .f32)
  (U : FVec Ideal ⟨3, ![1, 384, 768]⟩ .f32) (V : FVec Ideal ⟨4, ![1, 8, 64, 256]⟩ .f32)

/-- The lower bound of the forget gate. -/
def lb (j : Fin 512) : EReal :=
  Ideal.div (Ideal.exp (Lg (ix2 0 j) - Finset.univ.fold max (Ideal.ofBits FTy.f32 4286578688#32) fun x : Fin 3 => Lg (ix2 x j)))
    (∑ y : Fin 3, Ideal.exp (Lg (ix2 y j) - Finset.univ.fold max (Ideal.ofBits FTy.f32 4286578688#32) fun x : Fin 3 => Lg (ix2 x j)))

def o0 (r : Fin 16384) (c : Fin 2048) : EReal :=
  if h : c.val < 512 then z X G W r ⟨c.val, by omega⟩ * sg (z X G W r ⟨c.val, by omega⟩)
  else if h1 : c.val < 1024 then
    Ideal.log (lb Lg ⟨c.val - 512, by omega⟩ + (1 - lb Lg ⟨c.val - 512, by omega⟩) * sg (z X G W r ⟨c.val, by omega⟩))
  else if h2 : c.val < 1536 then z X G W r ⟨c.val, by omega⟩
  else z X G W r ⟨c.val, by omega⟩ * sg (z X G W r ⟨c.val, by omega⟩)

/-- The queries of all heads, before they are split and rotated. -/
def qf (r : Fin 16384) (c : Fin 768) : EReal :=
  ∑ e : Fin 384, nrm (Ideal.ofBits FTy.f32 1136656384#32) (fun e => z X G W r ⟨2048 + e.val, by omega⟩) (fun e => Q (ix2 0 e)) e * U (ix3 0 e c)

def o1 (h : Fin 8) (r : Fin 16384) (l : Fin 256) : EReal :=
  (∑ n : Fin 64, qf X G W Q U r ⟨h.val * 96 + n.val, by omega⟩ * V (ix4 0 h n l)) * Ideal.ofBits FTy.f32 1037108716#32

def o2 (h : Fin 8) (r : Fin 16384) (j : Fin 32) : EReal :=
  rot (fun k => qf X G W Q U r ⟨h.val * 96 + 64 + k.val, by omega⟩) ⟨r.val % 2048, by omega⟩ j * Ideal.ofBits FTy.f32 1037108716#32

def o3 (r : Fin 16384) (l : Fin 256) : EReal :=
  nrm (Ideal.ofBits FTy.f32 1132462080#32) (fun e => z X G W r ⟨2432 + e.val, by omega⟩) (fun e => K (ix2 0 e)) l

def o4 (r : Fin 16384) (j : Fin 32) : EReal :=
  rot (fun k => z X G W r ⟨2688 + k.val, by omega⟩) ⟨r.val % 2048, by omega⟩ j

def o7 (r : Fin 16384) (j : Fin 512) : EReal :=
  z X G W r ⟨2720 + j.val, by omega⟩ * sg (z X G W r ⟨2720 + j.val, by omega⟩)

end

end Cert.EvenSpec
end
-- ==== Proof.EvenOps.lean ====
module

public import proofs.«01_k».proof.Proof.EvenSpec
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 16384

noncomputable section

open Idealize.ShloMosaic Idealize.ShloMosaic.StableHlo Idealize.ShloMosaic.TcCoe Idealize.SL.Sem

namespace Cert.EvenIdeal.Even

open Cert.EvenSpec Cert.EvenIdeal Cert.EvenIdeal.Gen

variable (m : (ℓ : Loc nD τ sig) → Buf (Elt Ideal) ℓ)

theorem g_at (c : Dev nD) (d : Fin 1024) : V m c main_v53 (ix2 0 d) = m ((c : Thread nD τ).loc main_arg1) (ix2 0 d) := by
  unfold V
  after_reads_simp
  pointwise
theorem qg_at (c : Dev nD) (d : Fin 384) : V m c main_v55 (ix2 0 d) = m ((c : Thread nD τ).loc main_arg4) (ix2 0 d) := by
  unfold V
  after_reads_simp
  pointwise
theorem kvg_at (c : Dev nD) (d : Fin 256) : V m c main_v57 (ix2 0 d) = m ((c : Thread nD τ).loc main_arg5) (ix2 0 d) := by
  unfold V
  after_reads_simp
  pointwise
theorem x_at (c : Dev nD) (r : Fin 16384) (d : Fin 1024) : V m c main_v26 (ix2 r d) = m ((c : Thread nD τ).loc main_arg0) (ix3 ⟨r.val / 2048, by omega⟩ ⟨r.val % 2048, by omega⟩ d) := by
  unfold V
  after_reads_simp
  pointwise
theorem wuk_at (c : Dev nD) (h : Fin 8) (n : Fin 64) (l : Fin 256) : V m c main_v25 (ix3 h n l) = m ((c : Thread nD τ).loc main_arg7) (ix4 0 h n l) := by
  unfold V
  after_reads_simp
  pointwise
theorem w1_at (c : Dev nD) (d : Fin 1024) (j : Fin 2048) : V m c main_v9 (ix2 d j) = m ((c : Thread nD τ).loc main_arg2) (ix3 0 d ⟨j.val, by omega⟩) := by
  unfold V
  after_reads_simp
  pointwise
theorem w2cq (c : Dev nD) (d : Fin 1024) (j : Fin 384) : V m c main_v14 (ix2 d ⟨0 + j.val, by omega⟩) = m ((c : Thread nD τ).loc main_arg2) (ix3 0 d ⟨2048 + j.val, by omega⟩) := by
  unfold V
  after_reads_simp
  pointwise
  after_reads_simp
  pointwise
theorem w2kv (c : Dev nD) (d : Fin 1024) (j : Fin 256) : V m c main_v14 (ix2 d ⟨384 + j.val, by omega⟩) = m ((c : Thread nD τ).loc main_arg2) (ix3 0 d ⟨2432 + j.val, by omega⟩) := by
  unfold V
  after_reads_simp
  pointwise
  after_reads_simp
  pointwise
theorem w2mg (c : Dev nD) (d : Fin 1024) (j : Fin 512) : V m c main_v14 (ix2 d ⟨640 + j.val, by omega⟩) = m ((c : Thread nD τ).loc main_arg2) (ix3 0 d ⟨2720 + j.val, by omega⟩) := by
  unfold V
  after_reads_simp
  pointwise
  rw [dif_neg (by omega), dif_neg (by omega), dif_pos (by omega)]
  after_reads_simp
  pointwise
  exact congrArg (fun q => m ((c : Thread nD τ).loc main_arg2) (ix3 0 d q)) (Fin.ext (by dsimp only; omega))
theorem w2kr (c : Dev nD) (d : Fin 1024) (j : Fin 32) : V m c main_v14 (ix2 d ⟨1152 + j.val, by omega⟩) = m ((c : Thread nD τ).loc main_arg2) (ix3 0 d ⟨2688 + j.val, by omega⟩) := by
  unfold V
  after_reads_simp
  pointwise
  rw [dif_neg (by omega), dif_neg (by omega), dif_neg (by omega), dif_pos (by omega)]
  after_reads_simp
  pointwise
  exact congrArg (fun q => m ((c : Thread nD τ).loc main_arg2) (ix3 0 d q)) (Fin.ext (by dsimp only; omega))
theorem w2krs (c : Dev nD) (d : Fin 1024) (j : Fin 32) : V m c main_v14 (ix2 d ⟨1184 + j.val, by omega⟩) = m ((c : Thread nD τ).loc main_arg2) (ix3 0 d ⟨2688 + (j.val + 16) % 32, by omega⟩) := by
  unfold V
  after_reads_simp
  pointwise
  iterate 4 rw [dif_neg (by omega)]
  after_reads_simp
  pointwise
  split
  all_goals
    exact congrArg (fun q => m ((c : Thread nD τ).loc main_arg2) (ix3 0 d q)) (Fin.ext (by dsimp only; omega))
theorem wun (c : Dev nD) (d : Fin 384) (j : Fin 512) : V m c main_v23 (ix2 d ⟨0 + j.val, by omega⟩) = m ((c : Thread nD τ).loc main_arg6) (ix3 0 d ⟨j.val / 64 * 96 + j.val % 64, by omega⟩) := by
  unfold V
  after_reads_simp
  pointwise
  after_reads_simp
  pointwise
theorem wur (c : Dev nD) (d : Fin 384) (j : Fin 256) : V m c main_v23 (ix2 d ⟨512 + j.val, by omega⟩) = m ((c : Thread nD τ).loc main_arg6) (ix3 0 d ⟨j.val / 32 * 96 + 64 + j.val % 32, by omega⟩) := by
  unfold V
  after_reads_simp
  pointwise
  after_reads_simp
  pointwise
  exact congrArg (fun q => m ((c : Thread nD τ).loc main_arg6) (ix3 0 d q)) (Fin.ext (by dsimp only; omega))
theorem wus (c : Dev nD) (d : Fin 384) (j : Fin 256) : V m c main_v23 (ix2 d ⟨768 + j.val, by omega⟩) = m ((c : Thread nD τ).loc main_arg6) (ix3 0 d ⟨j.val / 32 * 96 + 64 + (j.val % 32 + 16) % 32, by omega⟩) := by
  unfold V
  after_reads_simp
  pointwise
  iterate 2 rw [dif_neg (by omega)]
  after_reads_simp
  pointwise
  split
  all_goals
    after_reads_simp
    pointwise
    exact congrArg (fun q => m ((c : Thread nD τ).loc main_arg6) (ix3 0 d q)) (Fin.ext (by dsimp only; omega))

theorem cos_at (c : Dev nD) (t : Fin 2048) (j : Fin 256) : V m c main_v45 (ix2 t j) = co t j.val := by
  entry_read
  pointwise
  unfold co ang
  split
  · rw [show j.val % 32 = j.val % 16 by omega]
  · rw [show j.val % 32 - 16 = j.val % 16 by omega]

theorem sin_at (c : Dev nD) (t : Fin 2048) (j : Fin 256) : V m c main_v50 (ix2 t j) = si t j.val := by
  entry_read
  pointwise
  unfold si ang
  split
  · rw [show j.val % 32 = j.val % 16 by omega]
  · rw [show j.val % 32 - 16 = j.val % 16 by omega]

end Cert.EvenIdeal.Even
end
-- ==== Proof.EvenPay.lean ====
module

public import proofs.«01_k».proof.Proof.EvenSpec

@[expose] public section

set_option maxRecDepth 16384

noncomputable section

open Idealize.ShloMosaic Idealize.ShloMosaic.TcCoe Idealize.SL.Sem
open Cert.EvenSpec

namespace Cert.EvenIdeal.Even

open Cert.EvenIdeal Cert.EvenIdeal.Gen

theorem pay4_at (X : Vec Ideal S256x1024 .f32) (G : Vec Ideal S1x1024 .f32) (p : Fin 256) (d : Fin 1024) :
    k0_pay4 X G (ix2 p d) = nrm (Ideal.ofBits FTy.f32 1149239296#32) (fun d => X (ix2 p d)) (fun d => G (ix2 0 d)) d := by
  pointwise [k0_pay4]
  rfl
theorem pay5_at (X : Vec Ideal S256x1024 .f32) (G : Vec Ideal S1x1024 .f32) (W : Vec Ideal S1024x2048 .bf16) (p : Fin 256) (j : Fin 2048) :
    k0_pay5 X G W (ix2 p j) = ∑ d : Fin 1024, k0_pay4 X G (ix2 p d) * W (ix2 d j) := by
  pointwise [k0_pay5]
theorem pay6_at (X : Vec Ideal S256x1024 .f32) (G : Vec Ideal S1x1024 .f32) (W : Vec Ideal S1024x1216 .bf16) (p : Fin 256) (j : Fin 1216) :
    k0_pay6 X G W (ix2 p j) = ∑ d : Fin 1024, k0_pay4 X G (ix2 p d) * W (ix2 d j) := by
  pointwise [k0_pay6]
theorem pay7_at (L : Vec Ideal S3x512 .f32) (j : Fin 512) : k0_pay7 L (ix2 0 j) = lb L j := by
  pointwise [k0_pay7]
  unfold lb
  exact Fin.sum_univ_one _
theorem pay8_at (L : Vec Ideal S3x512 .f32) (j : Fin 512) : k0_pay8 L (ix2 0 j) = (1 : EReal) - lb L j := by
  rw [← pay7_at]
  pointwise [k0_pay8]
theorem pay9_at (X : Vec Ideal S256x1024 .f32) (G : Vec Ideal S1x1024 .f32) (W : Vec Ideal S1024x2048 .bf16) (p : Fin 256) (j : Fin 512) :
    k0_pay9 X G W (ix2 p j) = k0_pay5 X G W (ix2 p ⟨512 + j.val, by omega⟩) := by
  pointwise [k0_pay9]
theorem pay10_at (Z : FVec Ideal S256x2048 .f32) (p : Fin 256) (j : Fin 512) :
    k0_pay10 Z (ix2 p j) = (Z (ix2 p ⟨j.val, by omega⟩) * sg (Z (ix2 p ⟨j.val, by omega⟩)) : EReal) := by
  pointwise [k0_pay10]
  simp only [sg, zero_sub]
theorem pay11_at (A B : FVec Ideal S1x512 .f32) (Z : FVec Ideal S256x512 .f32) (p : Fin 256) (j : Fin 512) :
    k0_pay11 A B Z (Scalar.ofBits .f32 0x00000000#32) (ix2 p j) = Ideal.log (A (ix2 0 j) + B (ix2 0 j) * sg (Z (ix2 p j)) : EReal) := by
  pointwise [k0_pay11]
  simp only [sg, zero_sub]
theorem pay12_at (Z : FVec Ideal S256x2048 .f32) (p : Fin 256) (j : Fin 512) :
    k0_pay12 Z (ix2 p j) = Z (ix2 p ⟨1024 + j.val, by omega⟩) := by
  pointwise [k0_pay12]
theorem pay13_at (Z : FVec Ideal S256x2048 .f32) (p : Fin 256) (j : Fin 512) :
    k0_pay13 Z (ix2 p j) = (Z (ix2 p ⟨1536 + j.val, by omega⟩) * sg (Z (ix2 p ⟨1536 + j.val, by omega⟩)) : EReal) := by
  pointwise [k0_pay13]
  simp only [sg, zero_sub]
theorem pay3_at (Z : FVec Ideal S256x1216 .f32) (p : Fin 256) (j : Fin 512) :
    k0_pay3 Z (ix2 p j) = (Z (ix2 p ⟨640 + j.val, by omega⟩) * sg (Z (ix2 p ⟨640 + j.val, by omega⟩)) : EReal) := by
  pointwise [k0_pay3]
  simp only [sg, zero_sub]
theorem pay14_at (Z : FVec Ideal S256x1216 .f32) (p : Fin 256) (j : Fin 384) :
    k0_pay14 Z (ix2 p j) = Z (ix2 p ⟨0 + j.val, by omega⟩) := by
  pointwise [k0_pay14]
theorem pay15_at (G : Vec Ideal S1x384 .f32) (j : Fin 384) : k0_pay15 G (ix2 0 j) = G (ix2 0 j) := by
  pointwise [k0_pay15]
theorem pay16_at (Z : FVec Ideal S256x384 .f32) (G : FVec Ideal S1x384 .f32) (W : Vec Ideal S384x1024 .bf16) (p : Fin 256) (j : Fin 1024) :
    k0_pay16 Z G W (ix2 p j) = ∑ e : Fin 384, nrm (Ideal.ofBits FTy.f32 1136656384#32) (fun e => Z (ix2 p e)) (fun e => G (ix2 0 e)) e * W (ix2 e j) := by
  pointwise [k0_pay16]
  rfl
theorem pay19_at (Z : FVec Ideal S256x384 .f32) (G : FVec Ideal S1x384 .f32) (W : Vec Ideal S384x1024 .bf16) (C S : Vec Ideal S256x256 .f32) (p j : Fin 256) :
    k0_pay19 Z G W C S (ix2 p j) = ((k0_pay16 Z G W (ix2 p ⟨512 + j.val, by omega⟩) * C (ix2 p j) + k0_pay16 Z G W (ix2 p ⟨768 + j.val, by omega⟩) * S (ix2 p j))
      * Ideal.ofBits FTy.f32 1037108716#32 : EReal) := by
  pointwise [k0_pay19, k0_pay17, k0_pay18]
theorem pay17_at (C : Vec Ideal S256x256 .f32) (p j : Fin 256) : k0_pay17 C (ix2 p j) = C (ix2 p j) ∧ k0_pay18 C (ix2 p j) = C (ix2 p j) := by
  constructor
  · pointwise [k0_pay17]
  · pointwise [k0_pay18]
theorem pay39_at (Z : FVec Ideal S256x1216 .f32) (K : Vec Ideal S1x256 .f32) (p l : Fin 256) :
    k0_pay39 Z K (ix2 p l) = nrm (Ideal.ofBits FTy.f32 1132462080#32) (fun e : Fin 256 => Z (ix2 p ⟨384 + e.val, by omega⟩)) (fun e => K (ix2 0 e)) l := by
  pointwise [k0_pay39]
  rfl
theorem pay40_at (Z : FVec Ideal S256x1216 .f32) (K : Vec Ideal S1x256 .f32) (p l : Fin 256) : k0_pay40 Z K (ix2 p l) = k0_pay39 Z K (ix2 p l) := by
  pointwise [k0_pay40]
theorem pay1_at (Z : FVec Ideal S256x1216 .f32) (C S : FVec Ideal S256x256 .f32) (p : Fin 256) (j : Fin 32) :
    k0_pay1 Z C S (k0_pay41 Z) (ix2 p j) = (Z (ix2 p ⟨1152 + j.val, by omega⟩) * C (ix2 p ⟨j.val, by omega⟩) + Z (ix2 p ⟨1184 + j.val, by omega⟩) * S (ix2 p ⟨j.val, by omega⟩) : EReal) := by
  pointwise [k0_pay1, k0_pay41]
theorem pay2_at (Z : FVec Ideal S256x1216 .f32) (C S : FVec Ideal S256x256 .f32) (U : FVec Ideal S256x32 .f32) (p : Fin 256) (j : Fin 32) :
    k0_pay2 Z C S U (ix2 p j) = k0_pay1 Z C S U (ix2 p j) := by
  pointwise [k0_pay2]

/-- One head's latent query. -/
def lat (Q : FVec Ideal S256x1024 .f32) (W : Fin 64 → EReal) (h : Fin 8) (p : Fin 256) : EReal :=
  (∑ n : Fin 64, Q (ix2 p ⟨64 * h.val + n.val, by omega⟩) * W n) * Ideal.ofBits FTy.f32 1037108716#32

theorem lat_at (Z : FVec Ideal S256x384 .f32) (G : FVec Ideal S1x384 .f32) (U : Vec Ideal S384x1024 .bf16) (Q : FVec Ideal S256x1024 .f32) (W : Vec Ideal S1x64x256 .bf16) (p l : Fin 256) :
    k0_pay22 (k0_pay21 Z G U W) (ix3 0 p l) = lat (k0_pay16 Z G U) (fun n => W (ix3 0 n l)) 0 p
    ∧ k0_pay24 Q W (ix3 0 p l) = lat Q (fun n => W (ix3 0 n l)) 1 p
    ∧ k0_pay27 (k0_pay26 Q W) (ix3 0 p l) = lat Q (fun n => W (ix3 0 n l)) 2 p
    ∧ k0_pay29 Q W (ix3 0 p l) = lat Q (fun n => W (ix3 0 n l)) 3 p
    ∧ k0_pay32 (k0_pay31 Q W) (ix3 0 p l) = lat Q (fun n => W (ix3 0 n l)) 4 p
    ∧ k0_pay34 Q W (ix3 0 p l) = lat Q (fun n => W (ix3 0 n l)) 5 p
    ∧ k0_pay36 Q W (ix3 0 p l) = lat Q (fun n => W (ix3 0 n l)) 6 p
    ∧ k0_pay38 Q W (ix3 0 p l) = lat Q (fun n => W (ix3 0 n l)) 7 p := by
  refine ⟨?_, ?_, ?_, ?_, ?_, ?_, ?_, ?_⟩
  · pointwise [k0_pay22, k0_pay21, lat]
  · pointwise [k0_pay24, lat]
  · pointwise [k0_pay27, k0_pay26, lat]
  · pointwise [k0_pay29, lat]
  · pointwise [k0_pay32, k0_pay31, lat]
  · pointwise [k0_pay34, lat]
  · pointwise [k0_pay36, lat]
  · pointwise [k0_pay38, lat]

theorem rp_at (Z : FVec Ideal S256x384 .f32) (G : FVec Ideal S1x384 .f32) (U : Vec Ideal S384x1024 .bf16) (C S : Vec Ideal S256x256 .f32) (R : FVec Ideal S256x256 .f32) (p : Fin 256) (j : Fin 32) :
    k0_pay20 Z G U C S (ix3 0 p j) = k0_pay19 Z G U C S (ix2 p ⟨32 * (0 : Fin 8).val + j.val, by omega⟩)
    ∧ k0_pay23 R (ix3 0 p j) = R (ix2 p ⟨32 * (1 : Fin 8).val + j.val, by omega⟩)
    ∧ k0_pay25 R (ix3 0 p j) = R (ix2 p ⟨32 * (2 : Fin 8).val + j.val, by omega⟩)
    ∧ k0_pay28 R (ix3 0 p j) = R (ix2 p ⟨32 * (3 : Fin 8).val + j.val, by omega⟩)
    ∧ k0_pay30 R (ix3 0 p j) = R (ix2 p ⟨32 * (4 : Fin 8).val + j.val, by omega⟩)
    ∧ k0_pay33 R (ix3 0 p j) = R (ix2 p ⟨32 * (5 : Fin 8).val + j.val, by omega⟩)
    ∧ k0_pay35 R (ix3 0 p j) = R (ix2 p ⟨32 * (6 : Fin 8).val + j.val, by omega⟩)
    ∧ k0_pay37 R (ix3 0 p j) = R (ix2 p ⟨32 * (7 : Fin 8).val + j.val, by omega⟩) := by
  refine ⟨?_, ?_, ?_, ?_, ?_, ?_, ?_, ?_⟩
  · pointwise [k0_pay20]
  · pointwise [k0_pay23]
  · pointwise [k0_pay25]
  · pointwise [k0_pay28]
  · pointwise [k0_pay30]
  · pointwise [k0_pay33]
  · pointwise [k0_pay35]
  · pointwise [k0_pay37]

end Cert.EvenIdeal.Even
end
-- ==== Proof.EvenBlk.lean ====
module

public import proofs.«01_k».proof.Proof.EvenOps
public import proofs.«01_k».proof.Proof.EvenPay
public import Idealize.ShloMosaic.Lib.Pipeline.ValueKit

@[expose] public section

set_option maxRecDepth 16384

noncomputable section

open Idealize.ShloMosaic Idealize.ShloMosaic.TcCoe Idealize.SL.Sem
open Cert.EvenSpec

namespace Cert.EvenIdeal.Even

open Cert.EvenIdeal Cert.EvenIdeal.Gen

theorem idx : ∀ t : Fin cfg0.N, (win0_0.index t = ![t.val, 0] ∧ win0_1.index t = ![t.val % 8, 0] ∧ win0_2.index t = ![t.val % 8, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0, 0])
    ∧ (win0_11.index t = ![t.val, 0] ∧ win0_12.index t = ![0, t.val, 0] ∧ win0_13.index t = ![0, t.val, 0] ∧ win0_14.index t = ![t.val, 0]
    ∧ win0_15.index t = ![t.val, 0] ∧ win0_16.index t = ![t.val, 0] ∧ win0_17.index t = ![t.val, 0] ∧ win0_18.index t = ![t.val, 0]) ∧ t.val < 64 :=
  (by decide +kernel : ∀ t : Fin grid0.N, _)

variable (m : (ℓ : Loc nD τ sig) → Buf (Elt Ideal) ℓ)

theorem x0_at (c : Dev nD) (t : Fin cfg0.N) (p : Fin 256) (d : Fin 1024) (a : Fin 16384) (ha : a.val = t.val * 256 + p.val) :
    iblk m c 0 t (ix2 p d) = V m c main_v26 (ix2 a d) := by
  blk_ext [iblk, idx t, ha]
theorem x1_at (c : Dev nD) (t : Fin cfg0.N) (p j : Fin 256) (a : Fin 16384) (ha : a.val = t.val * 256 + p.val) :
    iblk m c 1 t (ix2 p j) = V m c main_v45 (ix2 ⟨a.val % 2048, by omega⟩ j) := by
  have h := (idx t).2.2
  blk_ext [iblk, idx t, ha]
theorem x2_at (c : Dev nD) (t : Fin cfg0.N) (p j : Fin 256) (a : Fin 16384) (ha : a.val = t.val * 256 + p.val) :
    iblk m c 2 t (ix2 p j) = V m c main_v50 (ix2 ⟨a.val % 2048, by omega⟩ j) := by
  have h := (idx t).2.2
  blk_ext [iblk, idx t, ha]
theorem x3_at (c : Dev nD) (t : Fin cfg0.N) (d : Fin 1024) : iblk m c 3 t (ix2 0 d) = V m c main_v53 (ix2 0 d) := by
  blk_ext [iblk, idx t]
theorem x4_at (c : Dev nD) (t : Fin cfg0.N) (d : Fin 3) (j : Fin 512) : iblk m c 4 t (ix2 d j) = m ((c : Thread nD τ).loc main_arg3) (ix2 d j) := by
  blk_ext [iblk, V, idx t]
theorem x5_at (c : Dev nD) (t : Fin cfg0.N) (d : Fin 1024) (j : Fin 2048) : iblk m c 5 t (ix2 d j) = V m c main_v9 (ix2 d j) := by
  blk_ext [iblk, idx t]
theorem x6_at (c : Dev nD) (t : Fin cfg0.N) (d : Fin 1024) (j : Fin 1216) : iblk m c 6 t (ix2 d j) = V m c main_v14 (ix2 d j) := by
  blk_ext [iblk, idx t]
theorem x7_at (c : Dev nD) (t : Fin cfg0.N) (d : Fin 384) : iblk m c 7 t (ix2 0 d) = V m c main_v55 (ix2 0 d) := by
  blk_ext [iblk, idx t]
theorem x8_at (c : Dev nD) (t : Fin cfg0.N) (d : Fin 256) : iblk m c 8 t (ix2 0 d) = V m c main_v57 (ix2 0 d) := by
  blk_ext [iblk, idx t]
theorem x9_at (c : Dev nD) (t : Fin cfg0.N) (d : Fin 384) (j : Fin 1024) : iblk m c 9 t (ix2 d j) = V m c main_v23 (ix2 d j) := by
  blk_ext [iblk, idx t]
theorem x10_at (c : Dev nD) (t : Fin cfg0.N) (h : Fin 8) (n : Fin 64) (l : Fin 256) : iblk m c 10 t (ix3 h n l) = V m c main_v25 (ix3 h n l) := by
  blk_ext [iblk, idx t]

theorem ld0 (X : Vec Ideal S256x1024 .f32) : View.ld X r0_0 = X := View.ld_unit_lit _ _ (by decide)
theorem ld1 (X : Vec Ideal S1x1024 .f32) : View.ld X r0_1 = X := View.ld_unit_lit _ _ (by decide)
theorem ld2 (X : Vec Ideal S1024x2048 .bf16) : View.ld X r0_2 = X := View.ld_unit_lit _ _ (by decide)
theorem ld3 (X : Vec Ideal S1024x1216 .bf16) : View.ld X r0_3 = X := View.ld_unit_lit _ _ (by decide)
theorem ld4 (X : Vec Ideal S3x512 .f32) : View.ld X r0_4 = X := View.ld_unit_lit _ _ (by decide)
theorem ld9 (X : Vec Ideal S1x384 .f32) : View.ld X r0_9 = X := View.ld_unit_lit _ _ (by decide)
theorem ld10 (X : Vec Ideal S384x1024 .bf16) : View.ld X r0_10 = X := View.ld_unit_lit _ _ (by decide)
theorem ld11 (X : Vec Ideal S256x256 .f32) : View.ld X r0_11 = X := View.ld_unit_lit _ _ (by decide)
theorem ld36 (X : Vec Ideal S1x256 .f32) : View.ld X r0_36 = X := View.ld_unit_lit _ _ (by decide)
theorem ldh (X : Vec Ideal S8x64x256 .bf16) (n : Fin 64) (l : Fin 256) : View.ld X r0_13 (ix3 0 n l) = X (ix3 0 n l)
    ∧ View.ld X r0_16 (ix3 0 n l) = X (ix3 1 n l)
    ∧ View.ld X r0_19 (ix3 0 n l) = X (ix3 2 n l)
    ∧ View.ld X r0_22 (ix3 0 n l) = X (ix3 3 n l)
    ∧ View.ld X r0_25 (ix3 0 n l) = X (ix3 4 n l)
    ∧ View.ld X r0_28 (ix3 0 n l) = X (ix3 5 n l)
    ∧ View.ld X r0_31 (ix3 0 n l) = X (ix3 6 n l)
    ∧ View.ld X r0_34 (ix3 0 n l) = X (ix3 7 n l) := by
  refine ⟨?_, ?_, ?_, ?_, ?_, ?_, ?_, ?_⟩
  all_goals
    refine View.ld_unit_apply_of _ _ _ _ _ _ fun a => ?_
    fin_cases a <;> simp

/-- The arguments, by name. -/
abbrev A0 (c : Dev nD) : FVec Ideal ⟨3, ![8, 2048, 1024]⟩ .f32 := m ((c : Thread nD τ).loc main_arg0)
abbrev A1 (c : Dev nD) : FVec Ideal ⟨2, ![2, 1024]⟩ .f32 := m ((c : Thread nD τ).loc main_arg1)
abbrev A2 (c : Dev nD) : FVec Ideal ⟨3, ![1, 1024, 3232]⟩ .f32 := m ((c : Thread nD τ).loc main_arg2)
abbrev A3 (c : Dev nD) : FVec Ideal ⟨2, ![3, 512]⟩ .f32 := m ((c : Thread nD τ).loc main_arg3)
abbrev A4 (c : Dev nD) : FVec Ideal ⟨2, ![1, 384]⟩ .f32 := m ((c : Thread nD τ).loc main_arg4)
abbrev A5 (c : Dev nD) : FVec Ideal ⟨2, ![1, 256]⟩ .f32 := m ((c : Thread nD τ).loc main_arg5)
abbrev A6 (c : Dev nD) : FVec Ideal ⟨3, ![1, 384, 768]⟩ .f32 := m ((c : Thread nD τ).loc main_arg6)
abbrev A7 (c : Dev nD) : FVec Ideal ⟨4, ![1, 8, 64, 256]⟩ .f32 := m ((c : Thread nD τ).loc main_arg7)

/-- The values a trip shares between its stores. -/
abbrev Z1 (c : Dev nD) (t : Fin cfg0.N) : FVec Ideal S256x2048 .f32 := k0_pay42 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev Z2 (c : Dev nD) (t : Fin cfg0.N) : FVec Ideal S256x1216 .f32 := k0_pay43 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev QF (c : Dev nD) (t : Fin cfg0.N) : FVec Ideal S256x1024 .f32 := k0_pay46 (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev QR (c : Dev nD) (t : Fin cfg0.N) : FVec Ideal S256x256 .f32 := k0_pay49 (iblk m c 0 t) (iblk m c 1 t) (iblk m c 2 t) (iblk m c 3 t) (iblk m c 4 t) (iblk m c 5 t) (iblk m c 6 t) (iblk m c 7 t) (iblk m c 8 t) (iblk m c 9 t) (iblk m c 10 t)

variable (c : Dev nD) (t : Fin cfg0.N) (p : Fin 256) (a : Fin 16384) (ha : a.val = t.val * 256 + p.val)
include ha

theorem h_at (d : Fin 1024) : k0_pay4 (iblk m c 0 t) (iblk m c 3 t) (ix2 p d) = hn (A0 m c) (A1 m c) a d := by
  refine (pay4_at _ _ _ _).trans ?_
  exact congrFun (congrArg₂ (nrm _) (funext fun d => (x0_at m c t p d a ha).trans (x_at m c a d)) (funext fun d => (x3_at m c t d).trans (g_at m c d))) d

theorem z1_at (j : Fin 2048) : Z1 m c t (ix2 p j) = z (A0 m c) (A1 m c) (A2 m c) a ⟨j.val, by omega⟩ := by
  unfold Z1 k0_pay42
  rw [ld0, ld1, ld2]
  exact (pay5_at _ _ _ _ _).trans (Finset.sum_congr rfl fun d _ => congrArg₂ (fun u v : EReal => u * v) (h_at m c t p a ha d) ((x5_at m c t d j).trans (w1_at m c d j)))

theorem z2_at (j : Fin 1216) (k : Fin 3232) (hw : ∀ d : Fin 1024, V m c main_v14 (ix2 d j) = A2 m c (ix3 0 d k)) :
    Z2 m c t (ix2 p j) = z (A0 m c) (A1 m c) (A2 m c) a k := by
  unfold Z2 k0_pay43
  rw [ld0, ld1, ld3]
  exact (pay6_at _ _ _ _ _).trans (Finset.sum_congr rfl fun d _ => congrArg₂ (fun u v : EReal => u * v) (h_at m c t p a ha d) ((x6_at m c t d j).trans (hw d)))

theorem qf_at (j : Fin 1024) (k : Fin 768) (hw : ∀ d : Fin 384, V m c main_v23 (ix2 d j) = A6 m c (ix3 0 d k)) :
    QF m c t (ix2 p j) = qf (A0 m c) (A1 m c) (A2 m c) (A4 m c) (A6 m c) a k := by
  unfold QF k0_pay46 k0_pay44 k0_pay45
  rw [ld9, ld10]
  refine (pay16_at _ _ _ _ _).trans (Finset.sum_congr rfl fun d _ => congrArg₂ (fun u v : EReal => u * v) ?_ ((x9_at m c t d j).trans (hw d)))
  refine congrFun (congrArg₂ (nrm _) (funext fun e => ?_) (funext fun e => ?_)) d
  · exact (pay14_at _ _ _).trans (z2_at m c t p a ha _ _ fun d => w2cq m c d e)
  · exact (pay15_at _ _).trans ((x7_at m c t e).trans (qg_at m c e))

theorem qr_at (h : Fin 8) (j : Fin 32) :
    QR m c t (ix2 p ⟨32 * h.val + j.val, by omega⟩) = o2 (A0 m c) (A1 m c) (A2 m c) (A4 m c) (A6 m c) h a j := by
  have hh := h.isLt
  have hj := j.isLt
  unfold QR k0_pay49
  refine (pay19_at _ _ _ _ _ _ _).trans ?_
  rw [ld11, ld11]
  unfold o2 rot
  refine congrArg (fun u : EReal => u * _) (congrArg₂ (fun u v : EReal => u + v) (congrArg₂ (fun u v : EReal => u * v) ?_ ?_) (congrArg₂ (fun u v : EReal => u * v) ?_ ?_))
  · exact qf_at m c t p a ha _ ⟨h.val * 96 + 64 + j.val, by omega⟩ fun d => (wur m c d ⟨32 * h.val + j.val, by omega⟩).trans
      (congrArg (fun q => A6 m c (ix3 0 d q)) (Fin.ext (by dsimp only; omega)))
  · refine (x1_at m c t p _ a ha).trans ((cos_at m c _ _).trans ?_)
    unfold co
    dsimp only
    rw [show (32 * h.val + j.val) % 16 = j.val % 16 by omega]
  · exact qf_at m c t p a ha _ ⟨h.val * 96 + 64 + (j.val + 16) % 32, by omega⟩ fun d => (wus m c d ⟨32 * h.val + j.val, by omega⟩).trans
      (congrArg (fun q => A6 m c (ix3 0 d q)) (Fin.ext (by dsimp only; omega)))
  · refine (x2_at m c t p _ a ha).trans ((sin_at m c _ _).trans ?_)
    unfold si
    dsimp only
    rw [show (32 * h.val + j.val) % 16 = j.val % 16 by omega, show (32 * h.val + j.val) % 32 = j.val % 32 by omega]

end Cert.EvenIdeal.Even
end
-- ==== Proof.EvenVal.lean ====
module

public import proofs.«01_k».proof.Proof.EvenBlk

@[expose] public section

set_option maxRecDepth 16384

noncomputable section

open Idealize.ShloMosaic Idealize.ShloMosaic.TcCoe Idealize.SL.Sem
open Cert.EvenSpec

namespace Cert.EvenIdeal.Even

open Cert.EvenIdeal Cert.EvenIdeal.Gen

variable (m : (ℓ : Loc nD τ sig) → Buf (Elt Ideal) ℓ)

section
variable (c : Dev nD) (t : Fin cfg0.N) (p : Fin 256) (a : Fin 16384) (ha : a.val = t.val * 256 + p.val)
include ha

theorem w11_at (y : S256x2048.Idx) (b : Fin 2048) (k0 : (y 0).val = p.val) (k1 : (y 1).val = b.val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o0 (A0 m c) (A1 m c) (A2 m c) (A3 m c) a b := by
  unfold out0_11
  canon_tiles x h
  all_goals
    obtain ⟨x0, x1, rfl⟩ : ∃ (x0 : Fin 256) (x1 : Fin 512), x = ix2 x0 x1 := ⟨x 0, x 1, (ix2_eta x).symm⟩
    obtain rfl : p = x0 := Fin.ext (k0.symm.trans h0)
    have hx := x1.isLt
  case piece0 =>
    have hb : b.val = 1536 + x1.val := k1.symm.trans h1
    unfold o0
    rw [dif_neg (by omega), dif_neg (by omega), dif_neg (by omega)]
    refine (pay13_at _ _ _).trans ?_
    have e := z1_at m c t p a ha ⟨1536 + x1.val, by omega⟩
    rw [show (⟨b.val, by omega⟩ : Fin 3232) = ⟨1536 + x1.val, by omega⟩ from Fin.ext hb]
    exact congrArg (fun u : EReal => u * sg u) e
  case piece1 =>
    have hb : b.val = 1024 + x1.val := k1.symm.trans h1
    unfold o0
    rw [dif_neg (by omega), dif_neg (by omega), dif_pos (by omega)]
    refine (pay12_at _ _ _).trans ?_
    rw [show (⟨b.val, by omega⟩ : Fin 3232) = ⟨1024 + x1.val, by omega⟩ from Fin.ext hb]
    exact z1_at m c t p a ha ⟨1024 + x1.val, by omega⟩
  case piece2 =>
    have hb : b.val = 512 + x1.val := k1.symm.trans h1
    unfold o0
    rw [dif_neg (by omega), dif_pos (by omega)]
    refine (pay11_at _ _ _ _ _).trans ?_
    rw [show (⟨b.val, by omega⟩ : Fin 3232) = ⟨512 + x1.val, by omega⟩ from Fin.ext hb,
      show (⟨b.val - 512, by omega⟩ : Fin 512) = x1 from Fin.ext (by dsimp only; omega), ld4,
      show iblk m c 4 t = A3 m c from funext fun i => by
        obtain ⟨i0, i1, rfl⟩ : ∃ (i0 : Fin 3) (i1 : Fin 512), i = ix2 i0 i1 := ⟨i 0, i 1, (ix2_eta i).symm⟩
        exact x4_at m c t i0 i1]
    have e : k0_pay9 (View.ld (iblk m c 0 t) r0_0) (View.ld (iblk m c 3 t) r0_1) (View.ld (iblk m c 5 t) r0_2) (ix2 p x1) = z (A0 m c) (A1 m c) (A2 m c) a ⟨512 + x1.val, by omega⟩ :=
      (pay9_at _ _ _ _ _).trans (z1_at m c t p a ha ⟨512 + x1.val, by omega⟩)
    exact congrArg Ideal.log (congrArg₂ (fun u v : EReal => u + v) (pay7_at _ _) (congrArg₂ (fun u v : EReal => u * v) (pay8_at _ _) (congrArg sg e)))
  case piece3 =>
    have hb : b.val = x1.val := k1.symm.trans (h1.trans (by simp))
    unfold o0
    rw [dif_pos (by omega)]
    refine (pay10_at _ _ _).trans ?_
    have e := z1_at m c t p a ha ⟨x1.val, by omega⟩
    rw [show (⟨b.val, by omega⟩ : Fin 3232) = ⟨x1.val, by omega⟩ from Fin.ext hb]
    exact congrArg (fun u : EReal => u * sg u) e

theorem lat_o1 (h : Fin 8) (l : Fin 256) (W : Fin 64 → EReal) (hW : ∀ n, W n = V m c main_v25 (ix3 h n l)) :
    lat (QF m c t) W h p = o1 (A0 m c) (A1 m c) (A2 m c) (A4 m c) (A6 m c) (A7 m c) h a l := by
  have hh := h.isLt
  unfold lat o1
  refine congrArg (fun u : EReal => u * _) (Finset.sum_congr rfl fun n _ => congrArg₂ (fun u v : EReal => u * v) ?_ ((hW n).trans (wuk_at m c h n l)))
  have hn := n.isLt
  refine qf_at m c t p a ha _ _ fun d => ?_
  have e := wun m c d ⟨64 * h.val + n.val, by omega⟩
  refine Eq.trans (congrArg (fun q => V m c main_v23 (ix2 d q)) (Fin.ext (by dsimp only; omega))) (e.trans ?_)
  exact congrArg (fun q => A6 m c (ix3 0 d q)) (Fin.ext (by dsimp only; omega))

theorem w12_at (y : S8x256x256.Idx) (h : Fin 8) (l : Fin 256) (k0 : (y 0).val = h.val) (k1 : (y 1).val = p.val) (k2 : (y 2).val = l.val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o1 (A0 m c) (A1 m c) (A2 m c) (A4 m c) (A6 m c) (A7 m c) h a l := by
  unfold out0_12
  canon_tiles x g
  all_goals
    obtain ⟨x0, x1, x2, rfl⟩ : ∃ (x0 : Fin 1) (x1 x2 : Fin 256), x = ix3 x0 x1 x2 := ⟨x 0, x 1, x 2, (ix3_eta x).symm⟩
    obtain rfl : p = x1 := Fin.ext (k1.symm.trans (g1.trans (by simp)))
    obtain rfl : l = x2 := Fin.ext (k2.symm.trans (g2.trans (by simp)))
    obtain rfl : x0 = 0 := Subsingleton.elim _ _
  case piece0 =>
    obtain rfl : h = 7 := Fin.ext (k0.symm.trans (g0.trans (by simp)))
    refine Eq.trans ((lat_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (QF m c t) _ p l).2.2.2.2.2.2.2) ?_
    exact lat_o1 m c t p a ha 7 l _ fun n => ((ldh (iblk m c 10 t) n l).2.2.2.2.2.2.2).trans (x10_at m c t 7 n l)
  case piece1 =>
    obtain rfl : h = 6 := Fin.ext (k0.symm.trans (g0.trans (by simp)))
    refine Eq.trans ((lat_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (QF m c t) _ p l).2.2.2.2.2.2.1) ?_
    exact lat_o1 m c t p a ha 6 l _ fun n => ((ldh (iblk m c 10 t) n l).2.2.2.2.2.2.1).trans (x10_at m c t 6 n l)
  case piece2 =>
    obtain rfl : h = 5 := Fin.ext (k0.symm.trans (g0.trans (by simp)))
    refine Eq.trans ((lat_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (QF m c t) _ p l).2.2.2.2.2.1) ?_
    exact lat_o1 m c t p a ha 5 l _ fun n => ((ldh (iblk m c 10 t) n l).2.2.2.2.2.1).trans (x10_at m c t 5 n l)
  case piece3 =>
    obtain rfl : h = 4 := Fin.ext (k0.symm.trans (g0.trans (by simp)))
    refine Eq.trans ((lat_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (QF m c t) _ p l).2.2.2.2.1) ?_
    exact lat_o1 m c t p a ha 4 l _ fun n => ((ldh (iblk m c 10 t) n l).2.2.2.2.1).trans (x10_at m c t 4 n l)
  case piece4 =>
    obtain rfl : h = 3 := Fin.ext (k0.symm.trans (g0.trans (by simp)))
    refine Eq.trans ((lat_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (QF m c t) _ p l).2.2.2.1) ?_
    exact lat_o1 m c t p a ha 3 l _ fun n => ((ldh (iblk m c 10 t) n l).2.2.2.1).trans (x10_at m c t 3 n l)
  case piece5 =>
    obtain rfl : h = 2 := Fin.ext (k0.symm.trans (g0.trans (by simp)))
    refine Eq.trans ((lat_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (QF m c t) _ p l).2.2.1) ?_
    exact lat_o1 m c t p a ha 2 l _ fun n => ((ldh (iblk m c 10 t) n l).2.2.1).trans (x10_at m c t 2 n l)
  case piece6 =>
    obtain rfl : h = 1 := Fin.ext (k0.symm.trans (g0.trans (by simp)))
    refine Eq.trans ((lat_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (QF m c t) _ p l).2.1) ?_
    exact lat_o1 m c t p a ha 1 l _ fun n => ((ldh (iblk m c 10 t) n l).2.1).trans (x10_at m c t 1 n l)
  case piece7 =>
    obtain rfl : h = 0 := Fin.ext (k0.symm.trans (g0.trans (by simp)))
    refine Eq.trans ((lat_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (QF m c t) _ p l).1) ?_
    exact lat_o1 m c t p a ha 0 l _ fun n => ((ldh (iblk m c 10 t) n l).1).trans (x10_at m c t 0 n l)

theorem w13_at (y : S8x256x32.Idx) (h : Fin 8) (j : Fin 32) (k0 : (y 0).val = h.val) (k1 : (y 1).val = p.val) (k2 : (y 2).val = j.val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y = o2 (A0 m c) (A1 m c) (A2 m c) (A4 m c) (A6 m c) h a j := by
  unfold out0_13
  canon_tiles x g
  all_goals
    obtain ⟨x0, x1, x2, rfl⟩ : ∃ (x0 : Fin 1) (x1 : Fin 256) (x2 : Fin 32), x = ix3 x0 x1 x2 := ⟨x 0, x 1, x 2, (ix3_eta x).symm⟩
    obtain rfl : p = x1 := Fin.ext (k1.symm.trans (g1.trans (by simp)))
    obtain rfl : j = x2 := Fin.ext (k2.symm.trans (g2.trans (by simp)))
    obtain rfl : x0 = 0 := Subsingleton.elim _ _
    have P := rp_at (k0_pay44 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay45 (iblk m c 0 t) (iblk m c 1 t) (iblk m c 2 t) (iblk m c 3 t) (iblk m c 4 t) (iblk m c 5 t) (iblk m c 6 t) (iblk m c 7 t) (iblk m c 8 t) (iblk m c 9 t) (iblk m c 10 t)) (View.ld (iblk m c 9 t) r0_10) (View.ld (iblk m c 1 t) r0_11) (View.ld (iblk m c 2 t) r0_11) (QR m c t) p j
  case piece0 =>
    obtain rfl : h = 7 := Fin.ext (k0.symm.trans (g0.trans (by simp)))
    exact P.2.2.2.2.2.2.2.trans (qr_at m c t p a ha 7 j)
  case piece1 =>
    obtain rfl : h = 6 := Fin.ext (k0.symm.trans (g0.trans (by simp)))
    exact P.2.2.2.2.2.2.1.trans (qr_at m c t p a ha 6 j)
  case piece2 =>
    obtain rfl : h = 5 := Fin.ext (k0.symm.trans (g0.trans (by simp)))
    exact P.2.2.2.2.2.1.trans (qr_at m c t p a ha 5 j)
  case piece3 =>
    obtain rfl : h = 4 := Fin.ext (k0.symm.trans (g0.trans (by simp)))
    exact P.2.2.2.2.1.trans (qr_at m c t p a ha 4 j)
  case piece4 =>
    obtain rfl : h = 3 := Fin.ext (k0.symm.trans (g0.trans (by simp)))
    exact P.2.2.2.1.trans (qr_at m c t p a ha 3 j)
  case piece5 =>
    obtain rfl : h = 2 := Fin.ext (k0.symm.trans (g0.trans (by simp)))
    exact P.2.2.1.trans (qr_at m c t p a ha 2 j)
  case piece6 =>
    obtain rfl : h = 1 := Fin.ext (k0.symm.trans (g0.trans (by simp)))
    exact P.2.1.trans (qr_at m c t p a ha 1 j)
  case piece7 =>
    obtain rfl : h = 0 := Fin.ext (k0.symm.trans (g0.trans (by simp)))
    exact P.1.trans (qr_at m c t p a ha 0 j)

theorem kv_at (l : Fin 256) : k0_pay39 (Z2 m c t) (View.ld (iblk m c 8 t) r0_36) (ix2 p l) = o3 (A0 m c) (A1 m c) (A2 m c) (A5 m c) a l := by
  rw [ld36]
  refine (pay39_at _ _ _ _).trans ?_
  unfold o3
  exact congrFun (congrArg₂ (nrm _) (funext fun e => z2_at m c t p a ha _ _ fun d => w2kv m c d e) (funext fun e => (x8_at m c t e).trans (kvg_at m c e))) l

theorem kr_at (j : Fin 32) : k0_pay1 (Z2 m c t) (k0_pay17 (View.ld (iblk m c 1 t) r0_11)) (k0_pay18 (View.ld (iblk m c 2 t) r0_11)) (k0_pay41 (Z2 m c t)) (ix2 p j)
    = o4 (A0 m c) (A1 m c) (A2 m c) a j := by
  have hj := j.isLt
  rw [ld11, ld11]
  refine (pay1_at _ _ _ _ _).trans ?_
  unfold o4 rot
  refine congrArg₂ (fun u v : EReal => u + v) (congrArg₂ (fun u v : EReal => u * v) ?_ ?_) (congrArg₂ (fun u v : EReal => u * v) ?_ ?_)
  · exact z2_at m c t p a ha _ _ fun d => w2kr m c d j
  · exact (pay17_at _ _ _).1.trans ((x1_at m c t p _ a ha).trans (cos_at m c _ _))
  · exact z2_at m c t p a ha _ _ fun d => w2krs m c d j
  · exact (pay17_at _ _ _).2.trans ((x2_at m c t p _ a ha).trans (sin_at m c _ _))

theorem mg_at (j : Fin 512) : k0_pay3 (Z2 m c t) (ix2 p j) = o7 (A0 m c) (A1 m c) (A2 m c) a j := by
  refine (pay3_at _ _ _).trans ?_
  exact congrArg (fun u : EReal => u * sg u) (z2_at m c t p a ha _ _ fun d => w2mg m c d j)

theorem w14_at (l : Fin 256) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p l) = o3 (A0 m c) (A1 m c) (A2 m c) (A5 m c) a l := by
  unfold out0_14
  exact (congrFun (View.canon_cons_unit_lit _ _ _ (by decide)) _).trans (kv_at m c t p a ha l)
theorem w15_at (j : Fin 32) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j) = o4 (A0 m c) (A1 m c) (A2 m c) a j := by
  unfold out0_15
  exact (congrFun (View.canon_cons_unit_lit _ _ _ (by decide)) _).trans (kr_at m c t p a ha j)
theorem w16_at (l : Fin 256) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p l) = o3 (A0 m c) (A1 m c) (A2 m c) (A5 m c) a l := by
  unfold out0_16
  exact (congrFun (View.canon_cons_unit_lit _ _ _ (by decide)) _).trans ((pay40_at _ _ _ _).trans (kv_at m c t p a ha l))
theorem w17_at (j : Fin 32) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j) = o4 (A0 m c) (A1 m c) (A2 m c) a j := by
  unfold out0_17
  exact (congrFun (View.canon_cons_unit_lit _ _ _ (by decide)) _).trans ((pay2_at _ _ _ _ _ _).trans (kr_at m c t p a ha j))
theorem w18_at (j : Fin 512) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j) = o7 (A0 m c) (A1 m c) (A2 m c) a j := by
  unfold out0_18
  exact (congrFun (View.canon_cons_unit_lit _ _ _ (by decide)) _).trans (mg_at m c t p a ha j)
end

theorem final11 (c : Dev nD) : (dats m 0 c).arrAt 11 cfg0.N = fun j : S16384x2048.Idx => o0 (A0 m c) (A1 m c) (A2 m c) (A3 m c) (j 0) (j 1) := by
  refine (dats m 0 c).arrAt_eq_of_covers 11 _ (by decide +kernel) fun t hf y => ?_
  blk_simp
  rw [after0_11]
  obtain ⟨p, b, rfl⟩ : ∃ (p : Fin 256) (b : Fin 2048), y = ix2 p b := ⟨y 0, y 1, (ix2_eta y).symm⟩
  have hi := (idx t).2.2
  have hp := p.isLt
  have e0 : (win0_11.blk t).view.emb (ix2 p b) 0 = (⟨t.val * 256 + p.val, by omega⟩ : Fin 16384) := by
    apply Fin.ext; blk_simp [idx t]
  have e1 : (win0_11.blk t).view.emb (ix2 p b) 1 = b := by
    apply Fin.ext; blk_simp [idx t]
  rw [e0, e1]
  exact w11_at m c t p _ rfl (ix2 p b) b rfl rfl

theorem final12 (c : Dev nD) : (dats m 0 c).arrAt 12 cfg0.N = fun j : S8x16384x256.Idx => o1 (A0 m c) (A1 m c) (A2 m c) (A4 m c) (A6 m c) (A7 m c) (j 0) (j 1) (j 2) := by
  refine (dats m 0 c).arrAt_eq_of_covers 12 _ (by decide +kernel) fun t hf y => ?_
  blk_simp
  rw [after0_12]
  obtain ⟨h, p, b, rfl⟩ : ∃ (h : Fin 8) (p : Fin 256) (b : Fin 256), y = ix3 h p b := ⟨y 0, y 1, y 2, (ix3_eta y).symm⟩
  have hi := (idx t).2.2
  have hp := p.isLt
  have e0 : (win0_12.blk t).view.emb (ix3 h p b) 0 = h := by
    apply Fin.ext; blk_simp [idx t]
  have e1 : (win0_12.blk t).view.emb (ix3 h p b) 1 = (⟨t.val * 256 + p.val, by omega⟩ : Fin 16384) := by
    apply Fin.ext; blk_simp [idx t]
  have e2 : (win0_12.blk t).view.emb (ix3 h p b) 2 = b := by
    apply Fin.ext; blk_simp [idx t]
  rw [e0, e1, e2]
  exact w12_at m c t p _ rfl (ix3 h p b) h b rfl rfl rfl

theorem final13 (c : Dev nD) : (dats m 0 c).arrAt 13 cfg0.N = fun j : S8x16384x32.Idx => o2 (A0 m c) (A1 m c) (A2 m c) (A4 m c) (A6 m c) (j 0) (j 1) (j 2) := by
  refine (dats m 0 c).arrAt_eq_of_covers 13 _ (by decide +kernel) fun t hf y => ?_
  blk_simp
  rw [after0_13]
  obtain ⟨h, p, b, rfl⟩ : ∃ (h : Fin 8) (p : Fin 256) (b : Fin 32), y = ix3 h p b := ⟨y 0, y 1, y 2, (ix3_eta y).symm⟩
  have hi := (idx t).2.2
  have hp := p.isLt
  have e0 : (win0_13.blk t).view.emb (ix3 h p b) 0 = h := by
    apply Fin.ext; blk_simp [idx t]
  have e1 : (win0_13.blk t).view.emb (ix3 h p b) 1 = (⟨t.val * 256 + p.val, by omega⟩ : Fin 16384) := by
    apply Fin.ext; blk_simp [idx t]
  have e2 : (win0_13.blk t).view.emb (ix3 h p b) 2 = b := by
    apply Fin.ext; blk_simp [idx t]
  rw [e0, e1, e2]
  exact w13_at m c t p _ rfl (ix3 h p b) h b rfl rfl rfl

theorem final14 (c : Dev nD) : (dats m 0 c).arrAt 14 cfg0.N = fun j : S16384x256.Idx => o3 (A0 m c) (A1 m c) (A2 m c) (A5 m c) (j 0) (j 1) := by
  refine (dats m 0 c).arrAt_eq_of_covers 14 _ (by decide +kernel) fun t hf y => ?_
  blk_simp
  rw [after0_14]
  obtain ⟨p, b, rfl⟩ : ∃ (p : Fin 256) (b : Fin 256), y = ix2 p b := ⟨y 0, y 1, (ix2_eta y).symm⟩
  have hi := (idx t).2.2
  have hp := p.isLt
  have e0 : (win0_14.blk t).view.emb (ix2 p b) 0 = (⟨t.val * 256 + p.val, by omega⟩ : Fin 16384) := by
    apply Fin.ext; blk_simp [idx t]
  have e1 : (win0_14.blk t).view.emb (ix2 p b) 1 = b := by
    apply Fin.ext; blk_simp [idx t]
  rw [e0, e1]
  exact w14_at m c t p _ rfl b

theorem final15 (c : Dev nD) : (dats m 0 c).arrAt 15 cfg0.N = fun j : S16384x32.Idx => o4 (A0 m c) (A1 m c) (A2 m c) (j 0) (j 1) := by
  refine (dats m 0 c).arrAt_eq_of_covers 15 _ (by decide +kernel) fun t hf y => ?_
  blk_simp
  rw [after0_15]
  obtain ⟨p, b, rfl⟩ : ∃ (p : Fin 256) (b : Fin 32), y = ix2 p b := ⟨y 0, y 1, (ix2_eta y).symm⟩
  have hi := (idx t).2.2
  have hp := p.isLt
  have e0 : (win0_15.blk t).view.emb (ix2 p b) 0 = (⟨t.val * 256 + p.val, by omega⟩ : Fin 16384) := by
    apply Fin.ext; blk_simp [idx t]
  have e1 : (win0_15.blk t).view.emb (ix2 p b) 1 = b := by
    apply Fin.ext; blk_simp [idx t]
  rw [e0, e1]
  exact w15_at m c t p _ rfl b

theorem final16 (c : Dev nD) : (dats m 0 c).arrAt 16 cfg0.N = fun j : S16384x256.Idx => o3 (A0 m c) (A1 m c) (A2 m c) (A5 m c) (j 0) (j 1) := by
  refine (dats m 0 c).arrAt_eq_of_covers 16 _ (by decide +kernel) fun t hf y => ?_
  blk_simp
  rw [after0_16]
  obtain ⟨p, b, rfl⟩ : ∃ (p : Fin 256) (b : Fin 256), y = ix2 p b := ⟨y 0, y 1, (ix2_eta y).symm⟩
  have hi := (idx t).2.2
  have hp := p.isLt
  have e0 : (win0_16.blk t).view.emb (ix2 p b) 0 = (⟨t.val * 256 + p.val, by omega⟩ : Fin 16384) := by
    apply Fin.ext; blk_simp [idx t]
  have e1 : (win0_16.blk t).view.emb (ix2 p b) 1 = b := by
    apply Fin.ext; blk_simp [idx t]
  rw [e0, e1]
  exact w16_at m c t p _ rfl b

theorem final17 (c : Dev nD) : (dats m 0 c).arrAt 17 cfg0.N = fun j : S16384x32.Idx => o4 (A0 m c) (A1 m c) (A2 m c) (j 0) (j 1) := by
  refine (dats m 0 c).arrAt_eq_of_covers 17 _ (by decide +kernel) fun t hf y => ?_
  blk_simp
  rw [after0_17]
  obtain ⟨p, b, rfl⟩ : ∃ (p : Fin 256) (b : Fin 32), y = ix2 p b := ⟨y 0, y 1, (ix2_eta y).symm⟩
  have hi := (idx t).2.2
  have hp := p.isLt
  have e0 : (win0_17.blk t).view.emb (ix2 p b) 0 = (⟨t.val * 256 + p.val, by omega⟩ : Fin 16384) := by
    apply Fin.ext; blk_simp [idx t]
  have e1 : (win0_17.blk t).view.emb (ix2 p b) 1 = b := by
    apply Fin.ext; blk_simp [idx t]
  rw [e0, e1]
  exact w17_at m c t p _ rfl b

theorem final18 (c : Dev nD) : (dats m 0 c).arrAt 18 cfg0.N = fun j : S16384x512.Idx => o7 (A0 m c) (A1 m c) (A2 m c) (j 0) (j 1) := by
  refine (dats m 0 c).arrAt_eq_of_covers 18 _ (by decide +kernel) fun t hf y => ?_
  blk_simp
  rw [after0_18]
  obtain ⟨p, b, rfl⟩ : ∃ (p : Fin 256) (b : Fin 512), y = ix2 p b := ⟨y 0, y 1, (ix2_eta y).symm⟩
  have hi := (idx t).2.2
  have hp := p.isLt
  have e0 : (win0_18.blk t).view.emb (ix2 p b) 0 = (⟨t.val * 256 + p.val, by omega⟩ : Fin 16384) := by
    apply Fin.ext; blk_simp [idx t]
  have e1 : (win0_18.blk t).view.emb (ix2 p b) 1 = b := by
    apply Fin.ext; blk_simp [idx t]
  rw [e0, e1]
  exact w18_at m c t p _ rfl b

end Cert.EvenIdeal.Even
end
-- ==== Proof.EvenRef.lean ====
module

public import proofs.«01_k».proof.Proof.EvenSpec
public import proofs.«01_k».proof.Proof.Softmax
public import proofs.«01_k».proof.Proof.Gen.EvenRefIdeal.Run

@[expose] public section

set_option maxRecDepth 16384

noncomputable section

open Idealize.ShloMosaic Idealize.ShloMosaic.StableHlo Idealize.ShloMosaic.TcCoe Idealize.SL.Sem
open Cert.EvenSpec Cert.Softmax

namespace Cert.EvenRefIdeal.Even

open Cert.EvenRefIdeal Cert.EvenRefIdeal.Gen Cert.EvenRefIdeal.Value
open Cert.EvenRefIdeal.Facts

/-- The first row of a running sum down three rows is the first row. -/
theorem cum_at (x : FVec Ideal S3x512 .f32) (i : FVec Ideal S_ .f32) (hi : ∀ k, i k = (0 : EReal)) (j : Fin 512) :
    Host.reduceWindowAdd ![3, 1] ![1, 1] ![2, 0] ![0, 0] x i reduceWindows_S3x512_S3x512_w3s1p2_0_w1s1p0_0 h_S_ (ix2 0 j) = x (ix2 0 j) := by
  show Host.reduceWindow (α := EReal) (fun u v : EReal => u + v) ![3, 1] ![1, 1] ![2, 0] ![0, 0] x (fun _ : (⟨0, ![]⟩ : Shape).Idx => i (Shape.Idx.first h_S_)) reduceWindows_S3x512_S3x512_w3s1p2_0_w1s1p0_0 (by decide) (ix2 0 j) = _
  rw [hi]
  unfold Host.reduceWindow
  show List.foldl _ _ (List.finRange 3) = _
  rw [show List.finRange 3 = [0, 1, 2] from rfl]
  simp only [List.foldl]
  have r0 : ((Shape.rowMajor ⟨2, ![3, 1]⟩).symm (0 : Fin 3) 0).val = 0 := by decide
  have r1 : ((Shape.rowMajor ⟨2, ![3, 1]⟩).symm (1 : Fin 3) 0).val = 1 := by decide
  have r2 : ((Shape.rowMajor ⟨2, ![3, 1]⟩).symm (2 : Fin 3) 0).val = 2 := by decide
  have r3 : ((Shape.rowMajor ⟨2, ![3, 1]⟩).symm (2 : Fin 3) 1).val = 0 := by decide
  have hj := j.isLt
  rw [dif_neg, dif_neg, dif_pos]
  · have e : ∀ u v : EReal, u = v → 0 + 0 + 0 + u = v := fun u v h => by rw [h]; simp
    refine e _ _ (congrArg x (funext fun a => ?_))
    fin_cases a
    · apply Fin.ext; simp [r2]
    · apply Fin.ext; simp [r3]
  · intro a
    fin_cases a
    · simp [r2]
    · simp [r3]
  · intro h; have := (h 0).1; simp [r1] at this
  · intro h; have := (h 0).1; simp [r0] at this

theorem rot_lo (x : Fin 32 → EReal) (t : Fin 2048) (j : Fin 32) (h : j.val < 16) :
    rot x t j = x j * Ideal.cos (ang t j.val) - x ⟨16 + j.val, by omega⟩ * Ideal.sin (ang t j.val) := by
  unfold rot co si
  rw [if_pos (by omega), show j.val % 16 = j.val by omega, mul_neg, sub_eq_add_neg]
  exact congrArg (fun q : Fin 32 => x j * Ideal.cos (ang t j.val) + -(x q * Ideal.sin (ang t j.val))) (Fin.ext (by first | rfl | (dsimp only; omega)))

theorem rot_hi (x : Fin 32 → EReal) (t : Fin 2048) (j : Fin 32) (h : ¬ j.val < 16) :
    rot x t j = x j * Ideal.cos (ang t (j.val - 16)) + x ⟨j.val - 16, by omega⟩ * Ideal.sin (ang t (j.val - 16)) := by
  have hj := j.isLt
  unfold rot co si
  rw [if_neg (by omega), show j.val % 16 = j.val - 16 by omega]
  exact congrArg (fun q : Fin 32 => x j * Ideal.cos (ang t (j.val - 16)) + x q * Ideal.sin (ang t (j.val - 16))) (Fin.ext (by first | rfl | (dsimp only; omega)))

section
variable (V : Valuation τ sig (Elt Ideal))

abbrev A0 : FVec Ideal ⟨3, ![8, 2048, 1024]⟩ .f32 := V (Proc.devRef .tc main_arg0)
abbrev A1 : FVec Ideal ⟨2, ![2, 1024]⟩ .f32 := V (Proc.devRef .tc main_arg1)
abbrev A2 : FVec Ideal ⟨3, ![1, 1024, 3232]⟩ .f32 := V (Proc.devRef .tc main_arg2)
abbrev A3 : FVec Ideal ⟨2, ![3, 512]⟩ .f32 := V (Proc.devRef .tc main_arg3)
abbrev A4 : FVec Ideal ⟨2, ![1, 384]⟩ .f32 := V (Proc.devRef .tc main_arg4)
abbrev A5 : FVec Ideal ⟨2, ![1, 256]⟩ .f32 := V (Proc.devRef .tc main_arg5)
abbrev A6 : FVec Ideal ⟨3, ![1, 384, 768]⟩ .f32 := V (Proc.devRef .tc main_arg6)
abbrev A7 : FVec Ideal ⟨4, ![1, 8, 64, 256]⟩ .f32 := V (Proc.devRef .tc main_arg7)

theorem reduce_max {n0 n1 : ℕ} {u : Shape} (v : FVec Ideal ⟨2, ![n0, n1]⟩ .f32) (c : FVec Ideal u .f32)
    (h : (⟨2, ![n0, n1]⟩ : Shape).ReducesTo [0] ⟨1, ![n1]⟩) (hu : 0 < u.numel) (a : Fin n1) :
    Host.reduce FloatOps.maximumf v c h hu (ix1 a) = Finset.univ.fold max (c (Shape.Idx.first hu)) fun k => v (ix2 k a) := by
  simp only [pointwise]

theorem v7_at (k : Fin 3) (j : Fin 512) : res_main_v7 V (ix2 k j) =
    Ideal.exp (A3 V (ix2 k j) - Finset.univ.fold max (Ideal.ofBits FTy.f32 4286578688#32) fun x : Fin 3 => A3 V (ix2 x j)) := by
  have e : ∀ S : FVec Ideal S512 .f32, Host.exp (subf (A3 V) (broadcastInDim S3x512 ![0, 1] bcast_S1x512_S3x512_0_1 (broadcastInDim S1x512 ![1] bcast_S512_S1x512_1 (maximumf (broadcastInDim S512 ![] bcast_S_S512 (constant S_ .f32 0xFF800000#32)) S)))) (ix2 k j)
      = Ideal.exp (A3 V (ix2 k j) - S (ix1 j)) := by
    intro S
    pointwise
    rw [negInf, max_eq_right bot_le]
  refine (e _).trans (congrArg (fun u : EReal => Ideal.exp (A3 V (ix2 k j) - u)) ((reduce_max _ _ _ _ _).trans ?_))
  pointwise

theorem v14_at (j : Fin 512) : res_main_v14 V (ix1 j) = lb (A3 V) j := by
  pointwise [res_main_v14]
  refine (cum_at _ _ (fun k => by pointwise) j).trans ?_
  pointwise
  simp only [v7_at]
  rfl

variable (a : Fin 16384)

theorem v31_at (j : Fin 3232) : res_main_v31 V (ix3 ⟨a.val / 2048, by omega⟩ ⟨a.val % 2048, by omega⟩ j) = z (A0 V) (A1 V) (A2 V) a j := by
  pointwise [res_main_v31]
  rfl
theorem v32_at (j : Fin 512) : res_main_v32 V (ix3 ⟨a.val / 2048, by omega⟩ ⟨a.val % 2048, by omega⟩ j) = z (A0 V) (A1 V) (A2 V) a ⟨j.val, by omega⟩ := by
  rw [← v31_at]
  pointwise [res_main_v32]
theorem v35_at (j : Fin 512) : res_main_v35 V (ix3 ⟨a.val / 2048, by omega⟩ ⟨a.val % 2048, by omega⟩ j) = z (A0 V) (A1 V) (A2 V) a ⟨1536 + j.val, by omega⟩ := by
  rw [← v31_at]
  pointwise [res_main_v35]
theorem v36_at (j : Fin 384) : res_main_v36 V (ix3 ⟨a.val / 2048, by omega⟩ ⟨a.val % 2048, by omega⟩ j) = z (A0 V) (A1 V) (A2 V) a ⟨2048 + j.val, by omega⟩ := by
  rw [← v31_at]
  pointwise [res_main_v36]
theorem v37_at (j : Fin 256) : res_main_v37 V (ix3 ⟨a.val / 2048, by omega⟩ ⟨a.val % 2048, by omega⟩ j) = z (A0 V) (A1 V) (A2 V) a ⟨2432 + j.val, by omega⟩ := by
  rw [← v31_at]
  pointwise [res_main_v37]
theorem v38_at (j : Fin 32) : res_main_v38 V (ix3 ⟨a.val / 2048, by omega⟩ ⟨a.val % 2048, by omega⟩ j) = z (A0 V) (A1 V) (A2 V) a ⟨2688 + j.val, by omega⟩ := by
  rw [← v31_at]
  pointwise [res_main_v38]
theorem v39_at (j : Fin 512) : res_main_v39 V (ix3 ⟨a.val / 2048, by omega⟩ ⟨a.val % 2048, by omega⟩ j) = z (A0 V) (A1 V) (A2 V) a ⟨2720 + j.val, by omega⟩ := by
  rw [← v31_at]
  pointwise [res_main_v39]

theorem v70_at (h : Fin 8) (k : Fin 96) : res_main_v70 V (ix4 ⟨a.val / 2048, by omega⟩ ⟨a.val % 2048, by omega⟩ h k) = qf (A0 V) (A1 V) (A2 V) (A4 V) (A6 V) a ⟨h.val * 96 + k.val, by omega⟩ := by
  pointwise [res_main_v70]
  simp only [v36_at]
  rfl

theorem v122_at (l : Fin 256) : res_main_v122 V (ix3 ⟨a.val / 2048, by omega⟩ ⟨a.val % 2048, by omega⟩ l) = o3 (A0 V) (A1 V) (A2 V) (A5 V) a l := by
  pointwise [res_main_v122]
  simp only [v37_at]
  rfl

theorem v83_at (t : Fin 2048) (j : Fin 16) : res_main_v83 V (ix2 t j) = ang t j.val := by
  pointwise [res_main_v83, res_main_v0]
  rfl
theorem v134_at (t : Fin 2048) (j : Fin 16) : res_main_v134 V (ix2 t j) = ang t j.val := by
  pointwise [res_main_v134, res_main_v0]
  rfl

theorem v151_at (j : Fin 32) : res_main_v151 V (ix3 ⟨a.val / 2048, by omega⟩ ⟨a.val % 2048, by omega⟩ j) = o4 (A0 V) (A1 V) (A2 V) a j := by
  pointwise [res_main_v151, res_main_v139, res_main_v140, res_main_v136, res_main_v138]
  simp only [v134_at, v38_at]
  unfold o4
  split
  · rename_i hc
    refine Eq.trans ?_ (rot_lo _ _ _ hc).symm
    refine congrArg₂ (fun u v : EReal => u - v) (congrArg (fun u : EReal => u * _) ?_) (congrArg (fun u : EReal => u * _) ?_)
    · exact congrArg (z (A0 V) (A1 V) (A2 V) a) (Fin.ext (by first | rfl | (dsimp only; omega)))
    · exact congrArg (z (A0 V) (A1 V) (A2 V) a) (Fin.ext (by first | rfl | (dsimp only; omega)))
  · rename_i hc
    refine Eq.trans ?_ (rot_hi _ _ _ hc).symm
    refine congrArg₂ (fun u v : EReal => u + v) (congrArg (fun u : EReal => u * _) ?_) (congrArg (fun u : EReal => u * _) ?_)
    · exact congrArg (z (A0 V) (A1 V) (A2 V) a) (Fin.ext (by first | rfl | (dsimp only; omega)))
    · exact congrArg (z (A0 V) (A1 V) (A2 V) a) (Fin.ext (by first | rfl | (dsimp only; omega)))

/-- Result 0 of the reference. -/
def R0 : FVec Ideal S16384x2048 .f32 :=
  shapeCast _ ((concatenate S8x2048x2048 2 [⟨S8x2048x512, ((mulf (res_main_v32 V) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (res_main_v32 V)))))) : (⟨S8x2048x512, .f32⟩ : BufTy).Contents (Elt Ideal))⟩, ⟨S8x2048x512, ((Host.log (addf (broadcastInDim S8x2048x512 ![0, 1, 2] bcast_S1x1x512_S8x2048x512_0_1_2 (broadcastInDim S1x1x512 ![2] bcast_S512_S1x1x512_2 (res_main_v14 V))) (mulf (broadcastInDim S8x2048x512 ![0, 1, 2] bcast_S1x1x512_S8x2048x512_0_1_2 (broadcastInDim S1x1x512 ![2] bcast_S512_S1x1x512_2 (subf (broadcastInDim S512 ![] bcast_S_S512 (constant S_ .f32 0x3F800000#32)) (res_main_v14 V)))) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (extractStridedSlice S8x2048x512 ![0, 0, 512] (res_main_v31 V) slices_S8x2048x3232_S8x2048x512_0_0_512)))))))) : (⟨S8x2048x512, .f32⟩ : BufTy).Contents (Elt Ideal))⟩, ⟨S8x2048x512, ((extractStridedSlice S8x2048x512 ![0, 0, 1024] (res_main_v31 V) slices_S8x2048x3232_S8x2048x512_0_0_1024) : (⟨S8x2048x512, .f32⟩ : BufTy).Contents (Elt Ideal))⟩, ⟨S8x2048x512, ((mulf (res_main_v35 V) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (res_main_v35 V)))))) : (⟨S8x2048x512, .f32⟩ : BufTy).Contents (Elt Ideal))⟩] concatenates_S8x2048x512_S8x2048x512_S8x2048x512_S8x2048x512_S8x2048x2048_d2 : (⟨S8x2048x2048, .f32⟩ : BufTy).Contents (Elt Ideal))) shapeCasts_S8x2048x2048_S16384x2048

/-- Result 1 of the reference. -/
def R1 : FVec Ideal S8x16384x256 .bf16 :=
  truncf .bf16 (shapeCast _ (transpose S8x8x2048x256 [2, 0, 1, 3] (mulf (transpose S8x2048x8x256 [2, 3, 0, 1] (Host.dotGeneral (φ₁ := .f32) (φ₂ := .f32) dot_S8x64x256_S8x2048x8x64_S8x256x8x2048_1_3_2_01_0_2 none (shapeCast _ (V (Proc.devRef .tc main_arg7)) shapeCasts_S1x8x64x256_S8x64x256) (extractStridedSlice S8x2048x8x64 ![0, 0, 0, 0] (res_main_v70 V) slices_S8x2048x8x96_S8x2048x8x64_0_0_0_0)) transposes_S8x256x8x2048_S8x2048x8x256_2_3_0_1) (broadcastInDim S8x2048x8x256 ![] bcast_S_S8x2048x8x256 (constant S_ .f32 0x3DD105EC#32))) transposes_S8x2048x8x256_S8x8x2048x256_2_0_1_3) shapeCasts_S8x8x2048x256_S8x16384x256) bitsLt_bf16_f32

/-- Result 2 of the reference. -/
def R2 : FVec Ideal S8x16384x32 .bf16 :=
  truncf .bf16 (shapeCast _ (transpose S8x8x2048x32 [2, 0, 1, 3] (mulf (concatenate S8x2048x8x32 3 [⟨S8x2048x8x16, (subf (mulf (res_main_v88 V) (broadcastInDim S8x2048x8x16 ![0, 1, 2, 3] bcast_S1x2048x1x16_S8x2048x8x16_0_1_2_3 (res_main_v85 V))) (mulf (res_main_v89 V) (broadcastInDim S8x2048x8x16 ![0, 1, 2, 3] bcast_S1x2048x1x16_S8x2048x8x16_0_1_2_3 (res_main_v87 V))))⟩, ⟨S8x2048x8x16, (addf (mulf (res_main_v89 V) (broadcastInDim S8x2048x8x16 ![0, 1, 2, 3] bcast_S1x2048x1x16_S8x2048x8x16_0_1_2_3 (res_main_v85 V))) (mulf (res_main_v88 V) (broadcastInDim S8x2048x8x16 ![0, 1, 2, 3] bcast_S1x2048x1x16_S8x2048x8x16_0_1_2_3 (res_main_v87 V))))⟩] concatenates_S8x2048x8x16_S8x2048x8x16_S8x2048x8x32_d3) (broadcastInDim S8x2048x8x32 ![] bcast_S_S8x2048x8x32 (constant S_ .f32 0x3DD105EC#32))) transposes_S8x2048x8x32_S8x8x2048x32_2_0_1_3) shapeCasts_S8x8x2048x32_S8x16384x32) bitsLt_bf16_f32

/-- Result 3 of the reference. -/
def R3 : FVec Ideal S16384x256 .f32 :=
  shapeCast _ (res_main_v122 V) shapeCasts_S8x2048x256_S16384x256

/-- Result 4 of the reference. -/
def R4 : FVec Ideal S16384x32 .f32 :=
  shapeCast _ (res_main_v151 V) shapeCasts_S8x2048x32_S16384x32

/-- Result 5 of the reference. -/
def R5 : FVec Ideal S16384x256 .bf16 :=
  truncf .bf16 (shapeCast _ (res_main_v122 V) shapeCasts_S8x2048x256_S16384x256) bitsLt_bf16_f32

/-- Result 6 of the reference. -/
def R6 : FVec Ideal S16384x32 .bf16 :=
  truncf .bf16 (shapeCast _ (res_main_v151 V) shapeCasts_S8x2048x32_S16384x32) bitsLt_bf16_f32

/-- Result 7 of the reference. -/
def R7 : FVec Ideal S16384x512 .f32 :=
  shapeCast _ (mulf (res_main_v39 V) (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf (res_main_v39 V)))))) shapeCasts_S8x2048x512_S16384x512

theorem R0_at (b : Fin 2048) : R0 V (ix2 a b) = o0 (A0 V) (A1 V) (A2 V) (A3 V) a b := by
  pointwise [R0]
  simp only [v32_at, v35_at, v31_at, v14_at]
  have e0 : ∀ k : Fin 3232, k.val = b.val → z (A0 V) (A1 V) (A2 V) a k = z (A0 V) (A1 V) (A2 V) a ⟨b.val, by omega⟩ := fun k h => congrArg _ (Fin.ext h)
  have e1 := fun h => e0 ⟨512 + (b.val - 512), h⟩
  have e2 := fun h => e0 ⟨1024 + (b.val - 512 - 512), h⟩
  have e3 := fun h => e0 ⟨1536 + (b.val - 512 - 512 - 512), h⟩
  unfold o0 sg
  by_cases h0 : b.val < 512
  · rw [dif_pos h0, dif_pos h0]
  · rw [dif_neg h0, dif_neg h0]
    by_cases h1 : b.val < 1024
    · rw [dif_pos (by omega), dif_pos h1, e1 (by omega) (by dsimp only; omega)]
    · rw [dif_neg (by omega), dif_neg h1]
      by_cases h2 : b.val < 1536
      · rw [dif_pos (by omega), dif_pos h2, e2 (by omega) (by dsimp only; omega)]
      · rw [dif_neg (by omega), dif_neg h2, e3 (by omega) (by dsimp only; omega)]

theorem R1_at (h : Fin 8) (l : Fin 256) : R1 V (ix3 h a l) = o1 (A0 V) (A1 V) (A2 V) (A4 V) (A6 V) (A7 V) h a l := by
  pointwise [R1]
  simp only [v70_at]
  exact congrArg (fun u : EReal => u * _) (Finset.sum_congr rfl fun n _ => mul_comm _ _)

theorem R2_at (h : Fin 8) (j : Fin 32) : R2 V (ix3 h a j) = o2 (A0 V) (A1 V) (A2 V) (A4 V) (A6 V) h a j := by
  pointwise [R2, res_main_v88, res_main_v89, res_main_v71, res_main_v85, res_main_v87]
  simp only [v70_at, v83_at]
  unfold o2
  refine congrArg (fun u : EReal => u * _) ?_
  split
  · rename_i hc
    refine Eq.trans ?_ (rot_lo _ _ _ hc).symm
    refine congrArg₂ (fun u v : EReal => u - v) (congrArg (fun u : EReal => u * _) ?_) (congrArg (fun u : EReal => u * _) ?_)
    · exact congrArg (qf (A0 V) (A1 V) (A2 V) (A4 V) (A6 V) a) (Fin.ext (by first | rfl | (dsimp only; omega)))
    · exact congrArg (qf (A0 V) (A1 V) (A2 V) (A4 V) (A6 V) a) (Fin.ext (by first | rfl | (dsimp only; omega)))
  · rename_i hc
    refine Eq.trans ?_ (rot_hi _ _ _ hc).symm
    refine congrArg₂ (fun u v : EReal => u + v) (congrArg (fun u : EReal => u * _) ?_) (congrArg (fun u : EReal => u * _) ?_)
    · exact congrArg (qf (A0 V) (A1 V) (A2 V) (A4 V) (A6 V) a) (Fin.ext (by first | rfl | (dsimp only; omega)))
    · exact congrArg (qf (A0 V) (A1 V) (A2 V) (A4 V) (A6 V) a) (Fin.ext (by first | rfl | (dsimp only; omega)))

theorem R3_at (l : Fin 256) : R3 V (ix2 a l) = o3 (A0 V) (A1 V) (A2 V) (A5 V) a l := by
  pointwise [R3]
  exact v122_at V a l

theorem R4_at (j : Fin 32) : R4 V (ix2 a j) = o4 (A0 V) (A1 V) (A2 V) a j := by
  pointwise [R4]
  exact v151_at V a j

theorem R5_at (l : Fin 256) : R5 V (ix2 a l) = o3 (A0 V) (A1 V) (A2 V) (A5 V) a l := by
  pointwise [R5]
  exact v122_at V a l

theorem R6_at (j : Fin 32) : R6 V (ix2 a j) = o4 (A0 V) (A1 V) (A2 V) a j := by
  pointwise [R6]
  exact v151_at V a j

theorem R7_at (j : Fin 512) : R7 V (ix2 a j) = o7 (A0 V) (A1 V) (A2 V) a j := by
  pointwise [R7]
  simp only [v39_at]
  rfl
end

end Cert.EvenRefIdeal.Even
end
-- ==== Proof.EvenEq.lean ====
module

public import proofs.«01_k».proof.Proof.EvenVal
public import proofs.«01_k».proof.Proof.EvenRef
public import proofs.«01_k».proof.Proof.Gen.EvenIdeal.Value
public import proofs.«01_k».proof.Defs

@[expose] public section

set_option maxRecDepth 16384

noncomputable section

open Idealize.ShloMosaic Idealize.ShloMosaic.StableHlo Idealize.ShloMosaic.TcCoe Idealize.SL.Sem
open Cert.EvenSpec

namespace Cert.EvenEq

/-- The plain computation leaves its arguments as they were; it has no semaphore. -/
theorem ref_frame : Cert.quiescent_EvenRefIdeal (hEvenRefIdeal := Cert.EvenRefIdeal.Gen.facts) := fun m g _ =>
  (θ_run Cert.EvenRefIdeal.defs _ _).mono (fun r h => ⟨fun c => (h c).2.2.2.2.2.2.2.2, sem_eq_zero_of_no_sems (by decide) r.2⟩)
    (Cert.EvenRefIdeal.Value.run (F := Ideal) m g)

section
variable (m : (ℓ : Loc Cert.EvenIdeal.nD Cert.EvenIdeal.τ Cert.EvenIdeal.sig) → Buf (Elt Ideal) ℓ) (c : Dev Cert.EvenIdeal.nD)
  (V : Valuation Cert.EvenRefIdeal.τ Cert.EvenRefIdeal.sig (Elt Ideal))

/-- The two programs hold the same arguments. -/
structure Same : Prop where
  q0 : Cert.EvenRefIdeal.Even.A0 V = Cert.EvenIdeal.Even.A0 m c
  q1 : Cert.EvenRefIdeal.Even.A1 V = Cert.EvenIdeal.Even.A1 m c
  q2 : Cert.EvenRefIdeal.Even.A2 V = Cert.EvenIdeal.Even.A2 m c
  q3 : Cert.EvenRefIdeal.Even.A3 V = Cert.EvenIdeal.Even.A3 m c
  q4 : Cert.EvenRefIdeal.Even.A4 V = Cert.EvenIdeal.Even.A4 m c
  q5 : Cert.EvenRefIdeal.Even.A5 V = Cert.EvenIdeal.Even.A5 m c
  q6 : Cert.EvenRefIdeal.Even.A6 V = Cert.EvenIdeal.Even.A6 m c
  q7 : Cert.EvenRefIdeal.Even.A7 V = Cert.EvenIdeal.Even.A7 m c

variable {m c V} (q : Same m c V)
include q

theorem res0 : Cert.EvenRefIdeal.Even.R0 V = (Cert.EvenIdeal.Gen.dats m 0 c).arrAt 11 (Cert.EvenIdeal.cfgs 0).N := by
  refine Eq.trans (funext fun j => ?_) (Cert.EvenIdeal.Even.final11 m c).symm
  obtain ⟨a, b, rfl⟩ : ∃ (a : Fin 16384) (b : Fin 2048), j = ix2 a b := ⟨j 0, j 1, (ix2_eta j).symm⟩
  refine (Cert.EvenRefIdeal.Even.R0_at V a b).trans ?_
  rw [q.q0, q.q1, q.q2, q.q3]
  rfl

theorem res1 : Cert.EvenRefIdeal.Even.R1 V = (Cert.EvenIdeal.Gen.dats m 0 c).arrAt 12 (Cert.EvenIdeal.cfgs 0).N := by
  refine Eq.trans (funext fun j => ?_) (Cert.EvenIdeal.Even.final12 m c).symm
  obtain ⟨u, a, b, rfl⟩ : ∃ (u : Fin 8) (a : Fin 16384) (b : Fin 256), j = ix3 u a b := ⟨j 0, j 1, j 2, (ix3_eta j).symm⟩
  refine (Cert.EvenRefIdeal.Even.R1_at V a u b).trans ?_
  rw [q.q0, q.q1, q.q2, q.q4, q.q6, q.q7]
  rfl

theorem res2 : Cert.EvenRefIdeal.Even.R2 V = (Cert.EvenIdeal.Gen.dats m 0 c).arrAt 13 (Cert.EvenIdeal.cfgs 0).N := by
  refine Eq.trans (funext fun j => ?_) (Cert.EvenIdeal.Even.final13 m c).symm
  obtain ⟨u, a, b, rfl⟩ : ∃ (u : Fin 8) (a : Fin 16384) (b : Fin 32), j = ix3 u a b := ⟨j 0, j 1, j 2, (ix3_eta j).symm⟩
  refine (Cert.EvenRefIdeal.Even.R2_at V a u b).trans ?_
  rw [q.q0, q.q1, q.q2, q.q4, q.q6]
  rfl

theorem res3 : Cert.EvenRefIdeal.Even.R3 V = (Cert.EvenIdeal.Gen.dats m 0 c).arrAt 14 (Cert.EvenIdeal.cfgs 0).N := by
  refine Eq.trans (funext fun j => ?_) (Cert.EvenIdeal.Even.final14 m c).symm
  obtain ⟨a, b, rfl⟩ : ∃ (a : Fin 16384) (b : Fin 256), j = ix2 a b := ⟨j 0, j 1, (ix2_eta j).symm⟩
  refine (Cert.EvenRefIdeal.Even.R3_at V a b).trans ?_
  rw [q.q0, q.q1, q.q2, q.q5]
  rfl

theorem res4 : Cert.EvenRefIdeal.Even.R4 V = (Cert.EvenIdeal.Gen.dats m 0 c).arrAt 15 (Cert.EvenIdeal.cfgs 0).N := by
  refine Eq.trans (funext fun j => ?_) (Cert.EvenIdeal.Even.final15 m c).symm
  obtain ⟨a, b, rfl⟩ : ∃ (a : Fin 16384) (b : Fin 32), j = ix2 a b := ⟨j 0, j 1, (ix2_eta j).symm⟩
  refine (Cert.EvenRefIdeal.Even.R4_at V a b).trans ?_
  rw [q.q0, q.q1, q.q2]
  rfl

theorem res5 : Cert.EvenRefIdeal.Even.R5 V = (Cert.EvenIdeal.Gen.dats m 0 c).arrAt 16 (Cert.EvenIdeal.cfgs 0).N := by
  refine Eq.trans (funext fun j => ?_) (Cert.EvenIdeal.Even.final16 m c).symm
  obtain ⟨a, b, rfl⟩ : ∃ (a : Fin 16384) (b : Fin 256), j = ix2 a b := ⟨j 0, j 1, (ix2_eta j).symm⟩
  refine (Cert.EvenRefIdeal.Even.R5_at V a b).trans ?_
  rw [q.q0, q.q1, q.q2, q.q5]
  rfl

theorem res6 : Cert.EvenRefIdeal.Even.R6 V = (Cert.EvenIdeal.Gen.dats m 0 c).arrAt 17 (Cert.EvenIdeal.cfgs 0).N := by
  refine Eq.trans (funext fun j => ?_) (Cert.EvenIdeal.Even.final17 m c).symm
  obtain ⟨a, b, rfl⟩ : ∃ (a : Fin 16384) (b : Fin 32), j = ix2 a b := ⟨j 0, j 1, (ix2_eta j).symm⟩
  refine (Cert.EvenRefIdeal.Even.R6_at V a b).trans ?_
  rw [q.q0, q.q1, q.q2]
  rfl

theorem res7 : Cert.EvenRefIdeal.Even.R7 V = (Cert.EvenIdeal.Gen.dats m 0 c).arrAt 18 (Cert.EvenIdeal.cfgs 0).N := by
  refine Eq.trans (funext fun j => ?_) (Cert.EvenIdeal.Even.final18 m c).symm
  obtain ⟨a, b, rfl⟩ : ∃ (a : Fin 16384) (b : Fin 512), j = ix2 a b := ⟨j 0, j 1, (ix2_eta j).symm⟩
  refine (Cert.EvenRefIdeal.Even.R7_at V a b).trans ?_
  rw [q.q0, q.q1, q.q2]
  rfl

end

theorem algebraic : Cert.algebraic_EvenIdeal_EvenRefIdeal (hEvenIdeal := Cert.EvenIdeal.Gen.facts) (hEvenRefIdeal := Cert.EvenRefIdeal.Gen.facts) := by
  intro m g m' g' hpre hag
  refine ⟨fun c => (Cert.EvenIdeal.Gen.dats m 0 c).arrAt 11 (Cert.EvenIdeal.cfgs 0).N, fun c => (Cert.EvenIdeal.Gen.dats m 0 c).arrAt 12 (Cert.EvenIdeal.cfgs 0).N, fun c => (Cert.EvenIdeal.Gen.dats m 0 c).arrAt 13 (Cert.EvenIdeal.cfgs 0).N, fun c => (Cert.EvenIdeal.Gen.dats m 0 c).arrAt 14 (Cert.EvenIdeal.cfgs 0).N, fun c => (Cert.EvenIdeal.Gen.dats m 0 c).arrAt 15 (Cert.EvenIdeal.cfgs 0).N, fun c => (Cert.EvenIdeal.Gen.dats m 0 c).arrAt 16 (Cert.EvenIdeal.cfgs 0).N, fun c => (Cert.EvenIdeal.Gen.dats m 0 c).arrAt 17 (Cert.EvenIdeal.cfgs 0).N, fun c => (Cert.EvenIdeal.Gen.dats m 0 c).arrAt 18 (Cert.EvenIdeal.cfgs 0).N,
    Cert.EvenIdeal.Value.run_blocks (F := Ideal) m g, ?_⟩
  refine (θ_run Cert.EvenRefIdeal.defs _ _).mono (fun r h c => ?_) (Cert.EvenRefIdeal.Value.run (F := Ideal) m' g')
  obtain ⟨g0, g1, g2, g3, g4, g5, g6, g7⟩ := hag c
  have q : Same m c (launchContents m' c) := ⟨g0, g1, g2, g3, g4, g5, g6, g7⟩
  have k := h c
  exact ⟨k.1.trans (res0 q), k.2.1.trans (res1 q), k.2.2.1.trans (res2 q), k.2.2.2.1.trans (res3 q), k.2.2.2.2.1.trans (res4 q),
    k.2.2.2.2.2.1.trans (res5 q), k.2.2.2.2.2.2.1.trans (res6 q), k.2.2.2.2.2.2.2.1.trans (res7 q), k.2.2.2.2.2.2.2.2⟩

end Cert.EvenEq
end
-- ==== Proof.MidSpec.lean ====
module

public import proofs.«01_k».proof.Proof.EvenSpec

@[expose] public section

set_option maxRecDepth 16384

noncomputable section

open Idealize.ShloMosaic Idealize.ShloMosaic.TcCoe Idealize.SL.Sem
open Cert.EvenSpec

/-! What the second call of an even layer computes, entry by entry, from its arguments. -/
namespace Cert.MidSpec

/-- The width of a row. -/
abbrev wd : EReal := Ideal.ofBits FTy.f32 1149239296#32

/-- A row plus its gated projection of the per-layer embedding: `h` the row, `n` the norm's weights, `g` the gate, `p` the embedding's row, `q` its projection. -/
def ple (h n : Fin 1024 → EReal) (g : Fin 1024 → Fin 1024 → EReal) (p : Fin 256 → EReal) (q : Fin 256 → Fin 1024 → EReal) (e : Fin 1024) : EReal :=
  h e + sg (∑ d, nrm wd h n d * g d e) * ∑ d, p d * q d e

section
variable (X : FVec Ideal ⟨3, ![8, 2048, 1024]⟩ .f32) (O : FVec Ideal ⟨2, ![16384, 512]⟩ .bf16) (C : FVec Ideal ⟨2, ![16384, 2048]⟩ .bf16)
  (M : FVec Ideal ⟨2, ![16384, 512]⟩ .f32) (P : FVec Ideal ⟨4, ![2, 8, 2048, 256]⟩ .f32) (U : FVec Ideal ⟨4, ![1, 8, 64, 256]⟩ .f32)
  (W : FVec Ideal ⟨3, ![1, 1024, 1024]⟩ .f32) (G : FVec Ideal ⟨2, ![2, 1024]⟩ .f32) (PG : FVec Ideal ⟨3, ![2, 1024, 1024]⟩ .f32)
  (PP : FVec Ideal ⟨3, ![2, 256, 1024]⟩ .f32) (N : FVec Ideal ⟨2, ![2, 1024]⟩ .f32)

/-- The attention's values: each head's context through its value projection, gated. -/
def att (r : Fin 16384) (j : Fin 512) : EReal :=
  (∑ l : Fin 256, C (ix2 r ⟨j.val / 64 * 256 + l.val, by omega⟩) * U (ix4 0 ⟨j.val / 64, by omega⟩ ⟨j.val % 64, by omega⟩ l)) * M (ix2 r j)

/-- The two head groups side by side. -/
def cat (r : Fin 16384) (d : Fin 1024) : EReal := if h : d.val < 512 then O (ix2 r ⟨d.val, h⟩) else att C M U r ⟨d.val - 512, by omega⟩

/-- The layer's sum before the per-layer embedding. -/
def h0 (r : Fin 16384) (e : Fin 1024) : EReal :=
  X (ix3 ⟨r.val / 2048, by omega⟩ ⟨r.val % 2048, by omega⟩ e) + ∑ d, cat O C M U r d * W (ix3 0 d e)

/-- The layer's result. -/
def h1 (r : Fin 16384) (e : Fin 1024) : EReal :=
  ple (h0 X O C M U W r) (fun d => G (ix2 0 d)) (fun d e => PG (ix3 0 d e))
    (fun d => P (ix4 0 ⟨r.val / 2048, by omega⟩ ⟨r.val % 2048, by omega⟩ d)) (fun d e => PP (ix3 0 d e)) e

/-- The next layer's normalized input. -/
def hn (r : Fin 16384) (e : Fin 1024) : EReal := nrm wd (h1 X O C M P U W G PG PP r) (fun d => N (ix2 1 d)) e

end

/-- A sum over eight heads of 256 lanes each, all but one of whose heads are zero. -/
theorem one_head (f : Fin 2048 → EReal) (h : ℕ) (hh : h < 8) (hz : ∀ k : Fin 2048, ¬ k.val / 256 = h → f k = 0) :
    ∑ k, f k = ∑ l : Fin 256, f ⟨h * 256 + l.val, by omega⟩ := by
  rw [← Finset.sum_filter_add_sum_filter_not Finset.univ (fun k : Fin 2048 => k.val / 256 = h),
    Finset.sum_eq_zero (s := Finset.univ.filter fun k : Fin 2048 => ¬ k.val / 256 = h) (fun k hk => hz k (Finset.mem_filter.1 hk).2), add_zero]
  refine Finset.sum_bij' (i := fun a _ => (⟨a.val % 256, by omega⟩ : Fin 256)) (j := fun i _ => (⟨h * 256 + i.val, by omega⟩ : Fin 2048)) ?_ ?_ ?_ ?_ ?_
  · intro a _; exact Finset.mem_univ _
  · intro i _
    have hi := i.isLt
    simp only [Finset.mem_filter, Finset.mem_univ, true_and]
    omega
  · intro a ha
    simp only [Finset.mem_filter, Finset.mem_univ, true_and] at ha
    apply Fin.ext; dsimp only; omega
  · intro i _
    have hi := i.isLt
    apply Fin.ext; dsimp only; omega
  · intro a ha
    simp only [Finset.mem_filter, Finset.mem_univ, true_and] at ha
    congr 1
    apply Fin.ext; dsimp only; omega

/-- A sum over two halves. -/
theorem halves (f : Fin 1024 → EReal) : ∑ k, f k = (∑ i : Fin 512, f ⟨i.val, by omega⟩) + ∑ i : Fin 512, f ⟨512 + i.val, by omega⟩ :=
  Fin.sum_univ_add (a := 512) (b := 512) f

end Cert.MidSpec
end
-- ==== Proof.MidOps.lean ====
module

public import proofs.«01_k».proof.Proof.MidSpec
public import proofs.«01_k».proof.Proof.Gen.MidIdeal.Frame
public import Idealize.ShloMosaic.Lib.Pipeline.ValueKit
public import Idealize.ShloMosaic.Lib.Pointwise
public import Idealize.ShloMosaic.Lib.StableHlo.RunRead
public import Idealize.ShloMosaic.Lib.StableHlo.ReadAt
public import Idealize.ShloMosaic.Lib.Routing.OpsSet

@[expose] public section

set_option maxRecDepth 16384

noncomputable section

open Idealize.ShloMosaic Idealize.ShloMosaic.StableHlo Idealize.ShloMosaic.TcCoe Idealize.SL.Sem

namespace Cert.MidIdeal.Mid

open Cert.MidSpec Cert.MidIdeal Cert.MidIdeal.Gen

/-- Where a head's table lands: on the diagonal of the heads. -/
theorem lands (idx : IVec S8x2 32) (hi : ∀ (a : Fin 8) (b : Fin 2), idx (ix2 a b) = BitVec.ofNat 32 a.val) (a : Fin 8) (l : Fin 256) (v : Fin 64)
    (h : Fin 8) (l' : Fin 256) (h' : Fin 8) (v' : Fin 64) :
    scatter_S8x256x8x64_S8x2_S8x256x64_12_02_02_1.resultIdx? (ix3 a l v) idx = some (ix4 h l' h' v') ↔ a = h ∧ a = h' ∧ l = l' ∧ v = v' := by
  have hint : ∀ a : Fin 8, (BitVec.ofNat 32 a.val).toInt = (a.val : Int) := by decide
  have s0 : scatter_S8x256x8x64_S8x2_S8x256x64_12_02_02_1.start (ix3 a l v) idx 0 = a.val := by
    refine Eq.trans ?_ (hint a)
    refine Eq.trans ?_ (congrArg BitVec.toInt (hi a 0))
    unfold ScatterDims.start
    rw [dif_pos (by decide)]
    refine congrArg (fun q => (idx q).toInt) (funext fun b => Fin.ext ?_)
    fin_cases b <;> rfl
  have s2 : scatter_S8x256x8x64_S8x2_S8x256x64_12_02_02_1.start (ix3 a l v) idx 2 = a.val := by
    refine Eq.trans ?_ (hint a)
    refine Eq.trans ?_ (congrArg BitVec.toInt (hi a 1))
    unfold ScatterDims.start
    rw [dif_pos (by decide)]
    refine congrArg (fun q => (idx q).toInt) (funext fun b => Fin.ext ?_)
    fin_cases b <;> rfl
  have s1 : scatter_S8x256x8x64_S8x2_S8x256x64_12_02_02_1.start (ix3 a l v) idx 1 = 0 := by
    unfold ScatterDims.start
    rw [dif_neg (by decide)]
  have s3 : scatter_S8x256x8x64_S8x2_S8x256x64_12_02_02_1.start (ix3 a l v) idx 3 = 0 := by
    unfold ScatterDims.start
    rw [dif_neg (by decide)]
  have w0 : scatter_S8x256x8x64_S8x2_S8x256x64_12_02_02_1.window (ix3 a l v) 0 = 0 := by
    unfold ScatterDims.window
    rw [dif_neg (by decide)]
  have w2 : scatter_S8x256x8x64_S8x2_S8x256x64_12_02_02_1.window (ix3 a l v) 2 = 0 := by
    unfold ScatterDims.window
    rw [dif_neg (by decide)]
  have w1 : scatter_S8x256x8x64_S8x2_S8x256x64_12_02_02_1.window (ix3 a l v) 1 = l.val := by
    unfold ScatterDims.window
    rw [dif_pos (by decide)]
    rfl
  have w3 : scatter_S8x256x8x64_S8x2_S8x256x64_12_02_02_1.window (ix3 a l v) 3 = v.val := by
    unfold ScatterDims.window
    rw [dif_pos (by decide)]
    rfl
  rw [Routing.resultIdx?_eq_some]
  constructor
  · intro q
    have q0 := q 0
    have q1 := q 1
    have q2 := q 2
    have q3 := q 3
    rw [s0, w0] at q0
    rw [s1, w1] at q1
    rw [s2, w2] at q2
    rw [s3, w3] at q3
    change (a.val : Int) + ((0 : ℕ) : Int) = (h.val : Int) at q0
    change (0 : Int) + (l.val : Int) = (l'.val : Int) at q1
    change (a.val : Int) + ((0 : ℕ) : Int) = (h'.val : Int) at q2
    change (0 : Int) + (v.val : Int) = (v'.val : Int) at q3
    exact ⟨Fin.ext (by omega), Fin.ext (by omega), Fin.ext (by omega), Fin.ext (by omega)⟩
  · rintro ⟨rfl, rfl, rfl, rfl⟩ x
    match x with
    | ⟨0, _⟩ =>
      refine (congrArg₂ (fun (u : Int) (w : ℕ) => u + (w : Int)) s0 w0).trans ?_
      exact Int.add_zero _
    | ⟨1, _⟩ =>
      refine (congrArg₂ (fun (u : Int) (w : ℕ) => u + (w : Int)) s1 w1).trans ?_
      exact Int.zero_add _
    | ⟨2, _⟩ =>
      refine (congrArg₂ (fun (u : Int) (w : ℕ) => u + (w : Int)) s2 w2).trans ?_
      exact Int.add_zero _
    | ⟨3, _⟩ =>
      refine (congrArg₂ (fun (u : Int) (w : ℕ) => u + (w : Int)) s3 w3).trans ?_
      exact Int.zero_add _

/-- The table of all heads, entry by entry. -/
theorem table (x0 : FVec Ideal S8x256x8x64 .f32) (idx : IVec S8x2 32) (hi : ∀ (a : Fin 8) (b : Fin 2), idx (ix2 a b) = BitVec.ofNat 32 a.val) (upd : FVec Ideal S8x256x64 .f32)
    (h : Fin 8) (l : Fin 256) (h' : Fin 8) (v : Fin 64) :
    Host.scatter scatter_S8x256x8x64_S8x2_S8x256x64_12_02_02_1 (fun _ b => b) x0 idx upd (ix4 h l h' v) = if h = h' then upd (ix3 h l v) else x0 (ix4 h l h' v) := by
  have key : ∀ k : S8x256x64.Idx, scatter_S8x256x8x64_S8x2_S8x256x64_12_02_02_1.resultIdx? k idx = some (ix4 h l h' v) → h = h' ∧ k = ix3 h l v := by
    intro k hk
    obtain ⟨a, b, d, rfl⟩ : ∃ (a : Fin 8) (b : Fin 256) (d : Fin 64), k = ix3 a b d := ⟨k 0, k 1, k 2, (ix3_eta k).symm⟩
    obtain ⟨rfl, rfl, rfl, rfl⟩ := (lands idx hi a b d h l h' v).1 hk
    exact ⟨rfl, rfl⟩
  by_cases e : h = h'
  · rw [if_pos e]
    refine Routing.scatter_set_hit _ x0 idx upd _ _ (fun k hk => congrArg upd (key k hk).2) (ix3 h l v) ((lands idx hi h l v h l h' v).2 ⟨rfl, e, rfl, rfl⟩)
  · rw [if_neg e]
    exact Routing.scatter_set_miss _ x0 idx upd _ fun k hk => e (key k hk).1

variable (m : (ℓ : Loc nD τ sig) → Buf (Elt Ideal) ℓ)

/-- The arguments, by name. -/
abbrev A0 (c : Dev nD) : FVec Ideal ⟨3, ![8, 2048, 1024]⟩ .f32 := m ((c : Thread nD τ).loc main_arg0)
abbrev A1 (c : Dev nD) : FVec Ideal ⟨2, ![16384, 512]⟩ .bf16 := m ((c : Thread nD τ).loc main_arg1)
abbrev A2 (c : Dev nD) : FVec Ideal ⟨2, ![16384, 2048]⟩ .bf16 := m ((c : Thread nD τ).loc main_arg2)
abbrev A3 (c : Dev nD) : FVec Ideal ⟨2, ![16384, 512]⟩ .f32 := m ((c : Thread nD τ).loc main_arg3)
abbrev A4 (c : Dev nD) : FVec Ideal ⟨4, ![2, 8, 2048, 256]⟩ .f32 := m ((c : Thread nD τ).loc main_arg4)
abbrev A5 (c : Dev nD) : FVec Ideal ⟨4, ![1, 8, 64, 256]⟩ .f32 := m ((c : Thread nD τ).loc main_arg5)
abbrev A6 (c : Dev nD) : FVec Ideal ⟨3, ![1, 1024, 1024]⟩ .f32 := m ((c : Thread nD τ).loc main_arg6)
abbrev A7 (c : Dev nD) : FVec Ideal ⟨2, ![2, 1024]⟩ .f32 := m ((c : Thread nD τ).loc main_arg7)
abbrev A8 (c : Dev nD) : FVec Ideal ⟨3, ![2, 1024, 1024]⟩ .f32 := m ((c : Thread nD τ).loc main_arg8)
abbrev A9 (c : Dev nD) : FVec Ideal ⟨3, ![2, 256, 1024]⟩ .f32 := m ((c : Thread nD τ).loc main_arg9)
abbrev A10 (c : Dev nD) : FVec Ideal ⟨2, ![2, 1024]⟩ .f32 := m ((c : Thread nD τ).loc main_arg10)

theorem x_at (c : Dev nD) (r : Fin 16384) (d : Fin 1024) : V m c main_v25 (ix2 r d) = A0 m c (ix3 ⟨r.val / 2048, by omega⟩ ⟨r.val % 2048, by omega⟩ d) := by
  unfold V
  after_reads_simp
  pointwise
theorem p_at (c : Dev nD) (r : Fin 16384) (d : Fin 256) : V m c main_v28 (ix2 r d) = A4 m c (ix4 0 ⟨r.val / 2048, by omega⟩ ⟨r.val % 2048, by omega⟩ d) := by
  unfold V
  after_reads_simp
  pointwise
theorem w_at (c : Dev nD) (d e : Fin 1024) : V m c main_v22 (ix2 d e) = A6 m c (ix3 0 d e) := by
  unfold V
  after_reads_simp
  pointwise
theorem n_at (c : Dev nD) (d : Fin 1024) : V m c main_v31 (ix2 0 d) = A7 m c (ix2 0 d) := by
  unfold V
  after_reads_simp
  pointwise
theorem g_at (c : Dev nD) (d e : Fin 1024) : V m c main_v33 (ix2 d e) = A8 m c (ix3 0 d e) := by
  unfold V
  after_reads_simp
  pointwise
theorem q_at (c : Dev nD) (d : Fin 256) (e : Fin 1024) : V m c main_v35 (ix2 d e) = A9 m c (ix3 0 d e) := by
  unfold V
  after_reads_simp
  pointwise
theorem f_at (c : Dev nD) (d : Fin 1024) : V m c main_v38 (ix2 0 d) = A10 m c (ix2 1 d) := by
  unfold V
  after_reads_simp
  pointwise

theorem b_at (c : Dev nD) (k : Fin 2048) (j : Fin 512) : V m c main_v20 (ix2 k j)
    = if k.val / 256 = j.val / 64 then A5 m c (ix4 0 ⟨k.val / 256, by omega⟩ ⟨j.val % 64, by omega⟩ ⟨k.val % 256, by omega⟩) else (0 : EReal) := by
  unfold V
  after_reads_simp
  pointwise
  refine (table _ _ ?_ _ _ _ _ _).trans ?_
  · intro a b
    fin_cases a <;> fin_cases b <;> rfl
  · by_cases h : k.val / 256 = j.val / 64
    · rw [if_pos h]
      refine (if_pos (Fin.ext h)).trans ?_
      pointwise
    · rw [if_neg h]
      refine (if_neg fun q => h (congrArg Fin.val q)).trans ?_
      pointwise

end Cert.MidIdeal.Mid
end
-- ==== Proof.MidPay.lean ====
module

public import proofs.«01_k».proof.Proof.MidSpec
public import proofs.«01_k».proof.Proof.Gen.MidIdeal.Frame

@[expose] public section

set_option maxRecDepth 16384

noncomputable section

open Idealize.ShloMosaic Idealize.ShloMosaic.TcCoe Idealize.SL.Sem
open Cert.EvenSpec Cert.MidSpec

namespace Cert.MidIdeal.Mid

open Cert.MidIdeal Cert.MidIdeal.Gen

theorem pay3_at (C : Vec Ideal S256x2048 .bf16) (B : Vec Ideal S2048x512 .bf16) (M : Vec Ideal S256x512 .f32) (X : Vec Ideal S256x1024 .f32) (O : Vec Ideal S256x512 .bf16)
    (W W' : Vec Ideal S512x1024 .bf16) (p : Fin 256) (e : Fin 1024) :
    k0_pay3 C B M X O W W' (ix2 p e) = ((X (ix2 p e) + ∑ d : Fin 512, O (ix2 p d) * W (ix2 d e))
      + ∑ d : Fin 512, (∑ k : Fin 2048, C (ix2 p k) * B (ix2 k d)) * M (ix2 p d) * W' (ix2 d e) : EReal) := by
  pointwise [k0_pay3]
theorem pay8_at (C : Vec Ideal S256x2048 .bf16) (B : Vec Ideal S2048x512 .bf16) (M : Vec Ideal S256x512 .f32) (X : Vec Ideal S256x1024 .f32) (O : Vec Ideal S256x512 .bf16)
    (W W' : Vec Ideal S512x1024 .bf16) (p : Fin 256) :
    k0_pay8 C B M X O W W' (ix2 p 0) = (Ideal.div (∑ d : Fin 1024, k0_pay3 C B M X O W W' (ix2 p d) * k0_pay3 C B M X O W W' (ix2 p d)) wd : EReal) := by
  pointwise [k0_pay8]
theorem pay4_at (X : Vec Ideal S256x256 .f32) (p q : Fin 256) : k0_pay4 X (ix2 p q) = X (ix2 p q) := by
  pointwise [k0_pay4]
theorem pay5_at (X : Vec Ideal S1x1024 .f32) (q : Fin 1024) : k0_pay5 X (ix2 0 q) = X (ix2 0 q) := by
  pointwise [k0_pay5]
theorem pay6_at (X : Vec Ideal S1024x1024 .bf16) (p q : Fin 1024) : k0_pay6 X (ix2 p q) = X (ix2 p q) := by
  pointwise [k0_pay6]
theorem pay7_at (X : Vec Ideal S256x1024 .bf16) (p : Fin 256) (q : Fin 1024) : k0_pay7 X (ix2 p q) = X (ix2 p q) := by
  pointwise [k0_pay7]

theorem pay1_at (H : FVec Ideal S256x1024 .f32) (P : FVec Ideal S256x256 .f32) (N : FVec Ideal S1x1024 .f32) (G : FVec Ideal S1024x1024 .bf16) (Q : FVec Ideal S256x1024 .bf16)
    (S : FVec Ideal S256x1 .f32) (p : Fin 256) (hS : S (ix2 p 0) = (Ideal.div (∑ d : Fin 1024, H (ix2 p d) * H (ix2 p d)) wd : EReal)) (e : Fin 1024) :
    k0_pay1 H P N G Q S (Scalar.ofBits .f32 0x358637BD#32) (ix2 p e)
      = ple (fun d => H (ix2 p d)) (fun d => N (ix2 0 d)) (fun d e => G (ix2 d e)) (fun d => P (ix2 p d)) (fun d e => Q (ix2 d e)) e := by
  pointwise [k0_pay1]
  simp only [hS, zero_sub]
  rfl
theorem pay2_at (H : FVec Ideal S256x1024 .f32) (P : FVec Ideal S256x256 .f32) (N : FVec Ideal S1x1024 .f32) (G : FVec Ideal S1024x1024 .bf16) (Q : FVec Ideal S256x1024 .bf16)
    (S : FVec Ideal S256x1 .f32) (F : Vec Ideal S1x1024 .f32) (p : Fin 256) (e : Fin 1024) :
    k0_pay2 H P N G Q S (Scalar.ofBits .f32 0x358637BD#32) F (ix2 p e)
      = nrm wd (fun d => k0_pay1 H P N G Q S (Scalar.ofBits .f32 0x358637BD#32) (ix2 p d)) (fun d => F (ix2 0 d)) e := by
  pointwise [k0_pay2]
  rfl

end Cert.MidIdeal.Mid
end
-- ==== Proof.MidBlk.lean ====
module

public import proofs.«01_k».proof.Proof.MidOps
public import proofs.«01_k».proof.Proof.MidPay
public import Idealize.ShloMosaic.Lib.Pipeline.ValueKit

@[expose] public section

set_option maxRecDepth 16384

noncomputable section

open Idealize.ShloMosaic Idealize.ShloMosaic.TcCoe Idealize.SL.Sem
open Cert.EvenSpec Cert.MidSpec

namespace Cert.MidIdeal.Mid

open Cert.MidIdeal Cert.MidIdeal.Gen

theorem idx : ∀ t : Fin cfg0.N, (win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![0, 0])
    ∧ (win0_11.index t = ![t.val, 0] ∧ win0_12.index t = ![t.val, 0]) ∧ t.val < 64 :=
  (by decide +kernel : ∀ t : Fin grid0.N, _)

variable (m : (ℓ : Loc nD τ sig) → Buf (Elt Ideal) ℓ)

theorem x0_at (c : Dev nD) (t : Fin cfg0.N) (p : Fin 256) (d : Fin 1024) (a : Fin 16384) (ha : a.val = t.val * 256 + p.val) : iblk m c 0 t (ix2 p d) = V m c main_v25 (ix2 a d) := by
  blk_ext [iblk, idx t, ha]
theorem x4_at (c : Dev nD) (t : Fin cfg0.N) (p : Fin 256) (d : Fin 256) (a : Fin 16384) (ha : a.val = t.val * 256 + p.val) : iblk m c 4 t (ix2 p d) = V m c main_v28 (ix2 a d) := by
  blk_ext [iblk, idx t, ha]
theorem x1_at (c : Dev nD) (t : Fin cfg0.N) (p : Fin 256) (d : Fin 512) (a : Fin 16384) (ha : a.val = t.val * 256 + p.val) : iblk m c 1 t (ix2 p d) = A1 m c (ix2 a d) := by
  blk_ext [iblk, V, idx t, ha]
theorem x2_at (c : Dev nD) (t : Fin cfg0.N) (p : Fin 256) (d : Fin 2048) (a : Fin 16384) (ha : a.val = t.val * 256 + p.val) : iblk m c 2 t (ix2 p d) = A2 m c (ix2 a d) := by
  blk_ext [iblk, V, idx t, ha]
theorem x3_at (c : Dev nD) (t : Fin cfg0.N) (p : Fin 256) (d : Fin 512) (a : Fin 16384) (ha : a.val = t.val * 256 + p.val) : iblk m c 3 t (ix2 p d) = A3 m c (ix2 a d) := by
  blk_ext [iblk, V, idx t, ha]
theorem x5_at (c : Dev nD) (t : Fin cfg0.N) (d : Fin 2048) (j : Fin 512) : iblk m c 5 t (ix2 d j) = V m c main_v20 (ix2 d j) := by
  unfold iblk
  generalize V m c main_v20 = f
  blk_ext [idx t]
theorem x6_at (c : Dev nD) (t : Fin cfg0.N) (d : Fin 1024) (j : Fin 1024) : iblk m c 6 t (ix2 d j) = V m c main_v22 (ix2 d j) := by
  blk_ext [iblk, idx t]
theorem x7_at (c : Dev nD) (t : Fin cfg0.N) (d : Fin 1) (j : Fin 1024) : iblk m c 7 t (ix2 d j) = V m c main_v31 (ix2 d j) := by
  blk_ext [iblk, idx t]
theorem x8_at (c : Dev nD) (t : Fin cfg0.N) (d : Fin 1024) (j : Fin 1024) : iblk m c 8 t (ix2 d j) = V m c main_v33 (ix2 d j) := by
  blk_ext [iblk, idx t]
theorem x9_at (c : Dev nD) (t : Fin cfg0.N) (d : Fin 256) (j : Fin 1024) : iblk m c 9 t (ix2 d j) = V m c main_v35 (ix2 d j) := by
  blk_ext [iblk, idx t]
theorem x10_at (c : Dev nD) (t : Fin cfg0.N) (d : Fin 1) (j : Fin 1024) : iblk m c 10 t (ix2 d j) = V m c main_v38 (ix2 d j) := by
  blk_ext [iblk, idx t]

theorem ld0 (X : Vec Ideal S256x2048 .bf16) : View.ld X r0_0 = X := View.ld_unit_lit _ _ (by decide)
theorem ld1 (X : Vec Ideal S2048x512 .bf16) : View.ld X r0_1 = X := View.ld_unit_lit _ _ (by decide)
theorem ld2 (X : Vec Ideal S256x512 .f32) : View.ld X r0_2 = X := View.ld_unit_lit _ _ (by decide)
theorem ld2b (X : Vec Ideal S256x512 .bf16) : View.ld X r0_2 = X := View.ld_unit_lit _ _ (by decide)
theorem ld3 (X : Vec Ideal S256x1024 .f32) : View.ld X r0_3 = X := View.ld_unit_lit _ _ (by decide)
theorem ld3b (X : Vec Ideal S256x1024 .bf16) : View.ld X r0_3 = X := View.ld_unit_lit _ _ (by decide)
theorem ld6 (X : Vec Ideal S256x256 .f32) : View.ld X r0_6 = X := View.ld_unit_lit _ _ (by decide)
theorem ld7 (X : Vec Ideal S1x1024 .f32) : View.ld X r0_7 = X := View.ld_unit_lit _ _ (by decide)
theorem ld8 (X : Vec Ideal S1024x1024 .bf16) : View.ld X r0_8 = X := View.ld_unit_lit _ _ (by decide)
theorem ldw (X : Vec Ideal S1024x1024 .bf16) (d : Fin 512) (e : Fin 1024) : View.ld X r0_4 (ix2 d e) = X (ix2 ⟨d.val, by omega⟩ e)
    ∧ View.ld X r0_5 (ix2 d e) = X (ix2 ⟨512 + d.val, by omega⟩ e) := by
  refine ⟨?_, ?_⟩
  all_goals
    refine View.ld_unit_apply_of _ _ _ _ _ _ fun a => ?_
    fin_cases a <;> simp

/-- The layer's sum before the embedding, as a trip holds it. -/
abbrev HX (c : Dev nD) (t : Fin cfg0.N) : FVec Ideal S256x1024 .f32 := k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem hsq (c : Dev nD) (t : Fin cfg0.N) (p : Fin 256) : k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p 0)
    = (Ideal.div (∑ d : Fin 1024, HX m c t (ix2 p d) * HX m c t (ix2 p d)) wd : EReal) := by
  unfold k0_pay14 HX k0_pay9
  exact pay8_at _ _ _ _ _ _ _ _

theorem att_at (c : Dev nD) (p : Fin 256) (a : Fin 16384) (C : Vec Ideal S256x2048 .bf16) (B : Vec Ideal S2048x512 .bf16) (M : Vec Ideal S256x512 .f32)
    (hC : ∀ k : Fin 2048, C (ix2 p k) = A2 m c (ix2 a k)) (hB : ∀ (k : Fin 2048) (j : Fin 512), B (ix2 k j) = V m c main_v20 (ix2 k j))
    (hM : ∀ j : Fin 512, M (ix2 p j) = A3 m c (ix2 a j)) (j : Fin 512) :
    ((∑ k : Fin 2048, C (ix2 p k) * B (ix2 k j)) * M (ix2 p j) : EReal) = att (A2 m c) (A3 m c) (A5 m c) a j := by
  unfold att
  refine congrArg₂ (fun u v : EReal => u * v) ?_ (hM j)
  refine (one_head _ (j.val / 64) (by omega) fun k hk => ?_).trans (Finset.sum_congr rfl fun l _ => ?_)
  · refine (congrArg (fun u : EReal => C (ix2 p k) * u) ((hB k j).trans ((b_at m c k j).trans (if_neg hk)))).trans ?_
    exact mul_zero _
  · have hl := l.isLt
    refine congrArg₂ (fun u v : EReal => u * v) (hC _) ((hB _ j).trans ((b_at m c _ j).trans ((if_pos (by dsimp only; omega)).trans ?_)))
    exact congrArg₂ (fun u v => A5 m c (ix4 0 u ⟨j.val % 64, by omega⟩ v)) (Fin.ext (by dsimp only; omega)) (Fin.ext (by dsimp only; omega))

variable (c : Dev nD) (t : Fin cfg0.N) (p : Fin 256) (a : Fin 16384) (ha : a.val = t.val * 256 + p.val)
include ha

theorem hx_at (e : Fin 1024) : HX m c t (ix2 p e) = h0 (A0 m c) (A1 m c) (A2 m c) (A3 m c) (A5 m c) (A6 m c) a e := by
  unfold HX k0_pay9
  rw [ld0, ld1, ld2, ld3, ld2b]
  refine (pay3_at _ _ _ _ _ _ _ _ _).trans ?_
  unfold h0
  rw [halves, ← add_assoc]
  refine congrArg₂ (fun u v : EReal => u + v) (congrArg₂ (fun u v : EReal => u + v) ((x0_at m c t p e a ha).trans (x_at m c a e)) (Finset.sum_congr rfl fun d _ => ?_))
    (Finset.sum_congr rfl fun d _ => ?_)
  · refine congrArg₂ (fun u v : EReal => u * v) ?_ (((ldw _ d e).1.trans (x6_at m c t _ e)).trans (w_at m c _ e))
    unfold cat
    refine Eq.trans ?_ (dif_pos (show (⟨d.val, by omega⟩ : Fin 1024).val < 512 from d.isLt)).symm
    exact x1_at m c t p d a ha
  · refine congrArg₂ (fun u v : EReal => u * v) ?_ (((ldw _ d e).2.trans (x6_at m c t _ e)).trans (w_at m c _ e))
    refine (att_at m c p a _ _ _ (fun k => x2_at m c t p k a ha) (fun k j => x5_at m c t k j) (fun j => x3_at m c t p j a ha) d).trans ?_
    unfold cat
    refine Eq.trans ?_ (dif_neg (show ¬ 512 + d.val < 512 by omega)).symm
    exact congrArg (fun q => (att (A2 m c) (A3 m c) (A5 m c) a q : EReal)) (Fin.ext (by dsimp only; omega))

theorem o11 (e : Fin 1024) : k0_pay1 (k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t)) (Scalar.ofBits .f32 0x358637BD#32) (ix2 p e)
    = h1 (A0 m c) (A1 m c) (A2 m c) (A3 m c) (A4 m c) (A5 m c) (A6 m c) (A7 m c) (A8 m c) (A9 m c) a e := by
  refine (pay1_at _ _ _ _ _ _ p (hsq m c t p) e).trans ?_
  unfold h1
  have e1 : (fun d => HX m c t (ix2 p d)) = h0 (A0 m c) (A1 m c) (A2 m c) (A3 m c) (A5 m c) (A6 m c) a := funext fun d => hx_at m c t p a ha d
  have e2 : (fun d : Fin 1024 => k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 0 d)) = fun d => A7 m c (ix2 0 d) := funext fun d => by
    unfold k0_pay11
    rw [ld7]
    exact (pay5_at _ _).trans ((x7_at m c t 0 d).trans (n_at m c d))
  have e3 : (fun d e : Fin 1024 => k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 d e)) = fun d e => A8 m c (ix3 0 d e) := funext fun d => funext fun e => by
    unfold k0_pay12
    rw [ld8]
    exact (pay6_at _ _ _).trans ((x8_at m c t d e).trans (g_at m c d e))
  have e4 : (fun d : Fin 256 => k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p d)) = fun d => A4 m c (ix4 0 ⟨a.val / 2048, by omega⟩ ⟨a.val % 2048, by omega⟩ d) := funext fun d => by
    unfold k0_pay10
    rw [ld6]
    exact (pay4_at _ _ _).trans ((x4_at m c t p d a ha).trans (p_at m c a d))
  have e5 : (fun (d : Fin 256) (e : Fin 1024) => k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 d e)) = fun d e => A9 m c (ix3 0 d e) := funext fun d => funext fun e => by
    unfold k0_pay13
    rw [ld3b]
    exact (pay7_at _ _ _).trans ((x9_at m c t d e).trans (q_at m c d e))
  exact (congrArg (fun f => ple f _ _ _ _ e) e1).trans ((congrArg (fun f => ple _ f _ _ _ e) e2).trans ((congrArg (fun f => ple _ _ f _ _ e) e3).trans
    ((congrArg (fun f => ple _ _ _ f _ e) e4).trans (congrArg (fun f => ple _ _ _ _ f e) e5))))

theorem w11_at (e : Fin 1024) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p e) = h1 (A0 m c) (A1 m c) (A2 m c) (A3 m c) (A4 m c) (A5 m c) (A6 m c) (A7 m c) (A8 m c) (A9 m c) a e := by
  unfold out0_11
  exact (congrFun (View.canon_cons_unit_lit _ _ _ (by decide)) _).trans (o11 m c t p a ha e)
theorem w12_at (e : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p e) = MidSpec.hn (A0 m c) (A1 m c) (A2 m c) (A3 m c) (A4 m c) (A5 m c) (A6 m c) (A7 m c) (A8 m c) (A9 m c) (A10 m c) a e := by
  unfold out0_12
  refine (congrFun (View.canon_cons_unit_lit _ _ _ (by decide)) _).trans ((pay2_at _ _ _ _ _ _ _ _ _).trans ?_)
  unfold MidSpec.hn
  refine (congrArg (fun f => nrm wd f _ e) (funext fun d => o11 m c t p a ha d)).trans (congrArg (fun f => nrm wd _ f e) (funext fun d => ?_))
  rw [ld7]
  exact (x10_at m c t 0 d).trans (f_at m c d)

end Cert.MidIdeal.Mid
end
-- ==== Proof.MidVal.lean ====
module

public import proofs.«01_k».proof.Proof.MidBlk

@[expose] public section

set_option maxRecDepth 16384

noncomputable section

open Idealize.ShloMosaic Idealize.ShloMosaic.TcCoe Idealize.SL.Sem
open Cert.EvenSpec Cert.MidSpec

namespace Cert.MidIdeal.Mid

open Cert.MidIdeal Cert.MidIdeal.Gen

variable (m : (ℓ : Loc nD τ sig) → Buf (Elt Ideal) ℓ)

theorem final11 (c : Dev nD) : (dats m 0 c).arrAt 11 cfg0.N = fun j : S16384x1024.Idx => h1 (A0 m c) (A1 m c) (A2 m c) (A3 m c) (A4 m c) (A5 m c) (A6 m c) (A7 m c) (A8 m c) (A9 m c) (j 0) (j 1) := by
  refine (dats m 0 c).arrAt_eq_of_covers 11 _ (by decide +kernel) fun t hf y => ?_
  blk_simp
  rw [after0_11]
  obtain ⟨p, b, rfl⟩ : ∃ (p : Fin 256) (b : Fin 1024), y = ix2 p b := ⟨y 0, y 1, (ix2_eta y).symm⟩
  have hi := (idx t).2.2
  have hp := p.isLt
  have e0 : (win0_11.blk t).view.emb (ix2 p b) 0 = (⟨t.val * 256 + p.val, by omega⟩ : Fin 16384) := by
    apply Fin.ext; blk_simp [idx t]
  have e1 : (win0_11.blk t).view.emb (ix2 p b) 1 = b := by
    apply Fin.ext; blk_simp [idx t]
  rw [e0, e1]
  exact w11_at m c t p _ rfl b

theorem final12 (c : Dev nD) : (dats m 0 c).arrAt 12 cfg0.N = fun j : S16384x1024.Idx => MidSpec.hn (A0 m c) (A1 m c) (A2 m c) (A3 m c) (A4 m c) (A5 m c) (A6 m c) (A7 m c) (A8 m c) (A9 m c) (A10 m c) (j 0) (j 1) := by
  refine (dats m 0 c).arrAt_eq_of_covers 12 _ (by decide +kernel) fun t hf y => ?_
  blk_simp
  rw [after0_12]
  obtain ⟨p, b, rfl⟩ : ∃ (p : Fin 256) (b : Fin 1024), y = ix2 p b := ⟨y 0, y 1, (ix2_eta y).symm⟩
  have hi := (idx t).2.2
  have hp := p.isLt
  have e0 : (win0_12.blk t).view.emb (ix2 p b) 0 = (⟨t.val * 256 + p.val, by omega⟩ : Fin 16384) := by
    apply Fin.ext; blk_simp [idx t]
  have e1 : (win0_12.blk t).view.emb (ix2 p b) 1 = b := by
    apply Fin.ext; blk_simp [idx t]
  rw [e0, e1]
  exact w12_at m c t p _ rfl b

end Cert.MidIdeal.Mid
end
-- ==== Proof.MidRef.lean ====
module

public import proofs.«01_k».proof.Proof.MidSpec
public import proofs.«01_k».proof.Proof.Gen.MidRefIdeal.Run
public import Idealize.ShloMosaic.Lib.Pointwise

@[expose] public section

set_option maxRecDepth 16384

noncomputable section

open Idealize.ShloMosaic Idealize.ShloMosaic.StableHlo Idealize.ShloMosaic.TcCoe Idealize.SL.Sem
open Cert.EvenSpec Cert.MidSpec

namespace Cert.MidRefIdeal.Mid

open Cert.MidRefIdeal Cert.MidRefIdeal.Gen Cert.MidRefIdeal.Value
open Cert.MidRefIdeal.Facts

variable (m : (ℓ : Loc nD τ sig) → Buf (Elt Ideal) ℓ) (c : Dev nD)

abbrev A0 : FVec Ideal ⟨3, ![8, 2048, 1024]⟩ .f32 := m ((c.tc : Thread nD τ).loc main_arg0)
abbrev A1 : FVec Ideal ⟨2, ![16384, 512]⟩ .bf16 := m ((c.tc : Thread nD τ).loc main_arg1)
abbrev A2 : FVec Ideal ⟨2, ![16384, 2048]⟩ .bf16 := m ((c.tc : Thread nD τ).loc main_arg2)
abbrev A3 : FVec Ideal ⟨2, ![16384, 512]⟩ .f32 := m ((c.tc : Thread nD τ).loc main_arg3)
abbrev A4 : FVec Ideal ⟨4, ![2, 8, 2048, 256]⟩ .f32 := m ((c.tc : Thread nD τ).loc main_arg4)
abbrev A5 : FVec Ideal ⟨4, ![1, 8, 64, 256]⟩ .f32 := m ((c.tc : Thread nD τ).loc main_arg5)
abbrev A6 : FVec Ideal ⟨3, ![1, 1024, 1024]⟩ .f32 := m ((c.tc : Thread nD τ).loc main_arg6)
abbrev A7 : FVec Ideal ⟨2, ![2, 1024]⟩ .f32 := m ((c.tc : Thread nD τ).loc main_arg7)
abbrev A8 : FVec Ideal ⟨3, ![2, 1024, 1024]⟩ .f32 := m ((c.tc : Thread nD τ).loc main_arg8)
abbrev A9 : FVec Ideal ⟨3, ![2, 256, 1024]⟩ .f32 := m ((c.tc : Thread nD τ).loc main_arg9)
abbrev A10 : FVec Ideal ⟨2, ![2, 1024]⟩ .f32 := m ((c.tc : Thread nD τ).loc main_arg10)

/-! The values of the plain computation. -/
def UV (m : (ℓ : Loc nD τ sig) → Buf (Elt Ideal) ℓ) (c : Dev nD) : FVec Ideal S8x64x8x2048 .f32 := (Host.dotGeneral (φ₁ := .f32) (φ₂ := .f32) dot_S8x64x256_S8x2048x8x256_S8x64x8x2048_2_3_1_01_0_2 none (shapeCast _ (A5 m c) shapeCasts_S1x8x64x256_S8x64x256) (shapeCast _ (extf .f32 (A2 m c) bitsLt_bf16_f32) shapeCasts_S16384x2048_S8x2048x8x256))
def OM (m : (ℓ : Loc nD τ sig) → Buf (Elt Ideal) ℓ) (c : Dev nD) : FVec Ideal S8x2048x512 .f32 := (mulf (shapeCast _ (transpose S8x2048x8x64 [2, 3, 0, 1] (UV m c) transposes_S8x64x8x2048_S8x2048x8x64_2_3_0_1) shapeCasts_S8x2048x8x64_S8x2048x512) (shapeCast _ (A3 m c) shapeCasts_S16384x512_S8x2048x512))
def CT (m : (ℓ : Loc nD τ sig) → Buf (Elt Ideal) ℓ) (c : Dev nD) : FVec Ideal S8x2048x1024 .f32 := (concatenate S8x2048x1024 2 [⟨S8x2048x512, (extf .f32 (shapeCast _ (A1 m c) shapeCasts_S16384x512_S8x2048x512) bitsLt_bf16_f32)⟩, ⟨S8x2048x512, (OM m c)⟩] concatenates_S8x2048x512_S8x2048x512_S8x2048x1024_d2)
def H0 (m : (ℓ : Loc nD τ sig) → Buf (Elt Ideal) ℓ) (c : Dev nD) : FVec Ideal S8x2048x1024 .f32 := (addf (A0 m c) (Host.dotGeneral (φ₁ := .f32) (φ₂ := .f32) dot_S8x2048x1024_S1024x1024_S8x2048x1024_2_0_01_1_n_n none (CT m c) (shapeCast _ (A6 m c) shapeCasts_S1x1024x1024_S1024x1024)))
def NM (m : (ℓ : Loc nD τ sig) → Buf (Elt Ideal) ℓ) (c : Dev nD) : FVec Ideal S8x2048x1024 .f32 := (mulf (mulf (H0 m c) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (H0 m c) (H0 m c)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] (A7 m c) slices_S2x1024_S1x1024_0_0) shapeCasts_S1x1024_S1024))))
def H1 (m : (ℓ : Loc nD τ sig) → Buf (Elt Ideal) ℓ) (c : Dev nD) : FVec Ideal S8x2048x1024 .f32 := (addf (H0 m c) (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (Host.dotGeneral (φ₁ := .f32) (φ₂ := .f32) dot_S8x2048x1024_S1024x1024_S8x2048x1024_2_0_01_1_n_n none (NM m c) (shapeCast _ (extractStridedSlice S1x1024x1024 ![0, 0, 0] (A8 m c) slices_S2x1024x1024_S1x1024x1024_0_0_0) shapeCasts_S1x1024x1024_S1024x1024)))))) (Host.dotGeneral (φ₁ := .f32) (φ₂ := .f32) dot_S8x2048x256_S256x1024_S8x2048x1024_2_0_01_1_n_n none (shapeCast _ (extractStridedSlice S1x8x2048x256 ![0, 0, 0, 0] (A4 m c) slices_S2x8x2048x256_S1x8x2048x256_0_0_0_0) shapeCasts_S1x8x2048x256_S8x2048x256) (shapeCast _ (extractStridedSlice S1x256x1024 ![0, 0, 0] (A9 m c) slices_S2x256x1024_S1x256x1024_0_0_0) shapeCasts_S1x256x1024_S256x1024))))
def R0 (m : (ℓ : Loc nD τ sig) → Buf (Elt Ideal) ℓ) (c : Dev nD) : FVec Ideal S16384x1024 .f32 := (shapeCast _ (H1 m c) shapeCasts_S8x2048x1024_S16384x1024)
def R1 (m : (ℓ : Loc nD τ sig) → Buf (Elt Ideal) ℓ) (c : Dev nD) : FVec Ideal S16384x1024 .f32 := (shapeCast _ (mulf (mulf (H1 m c) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (H1 m c) (H1 m c)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] (A10 m c) slices_S2x1024_S1x1024_1_0) shapeCasts_S1x1024_S1024)))) shapeCasts_S8x2048x1024_S16384x1024)

variable (a : Fin 16384)

theorem uv_at (h : Fin 8) (v : Fin 64) : UV m c (ix4 h v ⟨a.val / 2048, by omega⟩ ⟨a.val % 2048, by omega⟩)
    = (∑ l : Fin 256, A2 m c (ix2 a ⟨h.val * 256 + l.val, by omega⟩) * A5 m c (ix4 0 h v l) : EReal) := by
  pointwise [UV]
  exact Finset.sum_congr rfl fun l _ => mul_comm _ _
theorem om_at (j : Fin 512) : OM m c (ix3 ⟨a.val / 2048, by omega⟩ ⟨a.val % 2048, by omega⟩ j) = att (A2 m c) (A3 m c) (A5 m c) a j := by
  pointwise [OM]
  rw [uv_at]
  rfl
theorem ct_at (d : Fin 1024) : CT m c (ix3 ⟨a.val / 2048, by omega⟩ ⟨a.val % 2048, by omega⟩ d) = cat (A1 m c) (A2 m c) (A3 m c) (A5 m c) a d := by
  pointwise [CT]
  unfold cat
  simp only [om_at]
theorem h0_at (e : Fin 1024) : H0 m c (ix3 ⟨a.val / 2048, by omega⟩ ⟨a.val % 2048, by omega⟩ e) = h0 (A0 m c) (A1 m c) (A2 m c) (A3 m c) (A5 m c) (A6 m c) a e := by
  pointwise [H0]
  simp only [ct_at]
  rfl
theorem nm_at (e : Fin 1024) : NM m c (ix3 ⟨a.val / 2048, by omega⟩ ⟨a.val % 2048, by omega⟩ e)
    = nrm wd (h0 (A0 m c) (A1 m c) (A2 m c) (A3 m c) (A5 m c) (A6 m c) a) (fun d => A7 m c (ix2 0 d)) e := by
  pointwise [NM]
  simp only [h0_at]
  rfl
theorem h1_at (e : Fin 1024) : H1 m c (ix3 ⟨a.val / 2048, by omega⟩ ⟨a.val % 2048, by omega⟩ e)
    = h1 (A0 m c) (A1 m c) (A2 m c) (A3 m c) (A4 m c) (A5 m c) (A6 m c) (A7 m c) (A8 m c) (A9 m c) a e := by
  pointwise [H1]
  simp only [h0_at, nm_at]
  rfl

theorem R0_at (e : Fin 1024) : R0 m c (ix2 a e) = h1 (A0 m c) (A1 m c) (A2 m c) (A3 m c) (A4 m c) (A5 m c) (A6 m c) (A7 m c) (A8 m c) (A9 m c) a e := by
  rw [← h1_at]
  pointwise [R0]
theorem R1_at (e : Fin 1024) : R1 m c (ix2 a e) = hn (A0 m c) (A1 m c) (A2 m c) (A3 m c) (A4 m c) (A5 m c) (A6 m c) (A7 m c) (A8 m c) (A9 m c) (A10 m c) a e := by
  pointwise [R1]
  simp only [h1_at]
  rfl

end Cert.MidRefIdeal.Mid
end
-- ==== Proof.MidEq.lean ====
module

public import proofs.«01_k».proof.Proof.MidVal
public import proofs.«01_k».proof.Proof.MidRef
public import proofs.«01_k».proof.Proof.Gen.MidIdeal.Value
public import proofs.«01_k».proof.Defs

@[expose] public section

set_option maxRecDepth 16384

noncomputable section

open Idealize.ShloMosaic Idealize.ShloMosaic.StableHlo Idealize.ShloMosaic.TcCoe Idealize.SL.Sem
open Cert.MidSpec

namespace Cert.MidEq

/-- The plain computation leaves its arguments as they were; it has no semaphore. -/
theorem ref_frame : Cert.quiescent_MidRefIdeal (hMidRefIdeal := Cert.MidRefIdeal.Gen.facts) := fun m g _ =>
  (θ_run Cert.MidRefIdeal.defs _ _).mono (fun r h => ⟨fun c => (h c).2.2, sem_eq_zero_of_no_sems (by decide) r.2⟩)
    (Cert.MidRefIdeal.Value.run (F := Ideal) m g)

section
variable (m : (ℓ : Loc Cert.MidIdeal.nD Cert.MidIdeal.τ Cert.MidIdeal.sig) → Buf (Elt Ideal) ℓ) (c : Dev Cert.MidIdeal.nD)
  (m' : (ℓ : Loc Cert.MidRefIdeal.nD Cert.MidRefIdeal.τ Cert.MidRefIdeal.sig) → Buf (Elt Ideal) ℓ)

/-- The two programs hold the same arguments. -/
structure Same : Prop where
  q0 : Cert.MidRefIdeal.Mid.A0 m' c = Cert.MidIdeal.Mid.A0 m c
  q1 : Cert.MidRefIdeal.Mid.A1 m' c = Cert.MidIdeal.Mid.A1 m c
  q2 : Cert.MidRefIdeal.Mid.A2 m' c = Cert.MidIdeal.Mid.A2 m c
  q3 : Cert.MidRefIdeal.Mid.A3 m' c = Cert.MidIdeal.Mid.A3 m c
  q4 : Cert.MidRefIdeal.Mid.A4 m' c = Cert.MidIdeal.Mid.A4 m c
  q5 : Cert.MidRefIdeal.Mid.A5 m' c = Cert.MidIdeal.Mid.A5 m c
  q6 : Cert.MidRefIdeal.Mid.A6 m' c = Cert.MidIdeal.Mid.A6 m c
  q7 : Cert.MidRefIdeal.Mid.A7 m' c = Cert.MidIdeal.Mid.A7 m c
  q8 : Cert.MidRefIdeal.Mid.A8 m' c = Cert.MidIdeal.Mid.A8 m c
  q9 : Cert.MidRefIdeal.Mid.A9 m' c = Cert.MidIdeal.Mid.A9 m c
  q10 : Cert.MidRefIdeal.Mid.A10 m' c = Cert.MidIdeal.Mid.A10 m c

variable {m c m'} (q : Same m c m')
include q

theorem res0 : Cert.MidRefIdeal.Mid.R0 m' c = (Cert.MidIdeal.Gen.dats m 0 c).arrAt 11 (Cert.MidIdeal.cfgs 0).N := by
  refine Eq.trans (funext fun j => ?_) (Cert.MidIdeal.Mid.final11 m c).symm
  obtain ⟨a, b, rfl⟩ : ∃ (a : Fin 16384) (b : Fin 1024), j = ix2 a b := ⟨j 0, j 1, (ix2_eta j).symm⟩
  refine (Cert.MidRefIdeal.Mid.R0_at m' c a b).trans ?_
  rw [q.q0, q.q1, q.q2, q.q3, q.q4, q.q5, q.q6, q.q7, q.q8, q.q9]
  rfl

theorem res1 : Cert.MidRefIdeal.Mid.R1 m' c = (Cert.MidIdeal.Gen.dats m 0 c).arrAt 12 (Cert.MidIdeal.cfgs 0).N := by
  refine Eq.trans (funext fun j => ?_) (Cert.MidIdeal.Mid.final12 m c).symm
  obtain ⟨a, b, rfl⟩ : ∃ (a : Fin 16384) (b : Fin 1024), j = ix2 a b := ⟨j 0, j 1, (ix2_eta j).symm⟩
  refine (Cert.MidRefIdeal.Mid.R1_at m' c a b).trans ?_
  rw [q.q0, q.q1, q.q2, q.q3, q.q4, q.q5, q.q6, q.q7, q.q8, q.q9, q.q10]
  rfl

end

theorem algebraic : Cert.algebraic_MidIdeal_MidRefIdeal (hMidIdeal := Cert.MidIdeal.Gen.facts) (hMidRefIdeal := Cert.MidRefIdeal.Gen.facts) := by
  intro m g m' g' hpre hag
  refine ⟨fun c => (Cert.MidIdeal.Gen.dats m 0 c).arrAt 11 (Cert.MidIdeal.cfgs 0).N, fun c => (Cert.MidIdeal.Gen.dats m 0 c).arrAt 12 (Cert.MidIdeal.cfgs 0).N,
    Cert.MidIdeal.Value.run_blocks (F := Ideal) m g, ?_⟩
  refine (θ_run Cert.MidRefIdeal.defs _ _).mono (fun r h c => ?_) (Cert.MidRefIdeal.Value.run (F := Ideal) m' g')
  obtain ⟨g0, g1, g2, g3, g4, g5, g6, g7, g8, g9, g10⟩ := hag c
  have q : Same m c m' := ⟨g0, g1, g2, g3, g4, g5, g6, g7, g8, g9, g10⟩
  have k := h c
  exact ⟨k.1.trans (res0 q), k.2.1.trans (res1 q), k.2.2⟩

end Cert.MidEq
end
-- ==== Proof.HeadSum.lean ====
module

public import proofs.«01_k».proof.Proof.Softmax
public import Idealize.ShloMosaic.Lib.Pointwise

@[expose] public section

set_option maxRecDepth 16384

noncomputable section

open Idealize.ShloMosaic Idealize.SL.Sem
open Cert.Softmax

/-! Sums over a head of 64 lanes, and the block table that takes them. -/
namespace Cert.HeadSum

/-- One entry of the block table: lanes of the same head have a one. -/
def bdE (a b : Fin 256) : EReal := if a.val / 64 = b.val / 64 then 1 else 0

/-- The sum of the lanes of the head that lane `e` is in. -/
def hs (q : Fin 1024 → EReal) (e : Fin 1024) : EReal := ∑ i : Fin 64, q ⟨e.val / 64 * 64 + i.val, by omega⟩

/-- A column of the block table picks the lanes of one head. -/
theorem block (f : Fin 256 → EReal) (j : Fin 256) : ∑ a, f a * bdE a j = ∑ i : Fin 64, f ⟨j.val / 64 * 64 + i.val, by omega⟩ := by
  unfold bdE
  simp only [mul_ite, mul_one, mul_zero]
  rw [← Finset.sum_filter]
  refine Finset.sum_bij' (i := fun a _ => (⟨a.val % 64, by omega⟩ : Fin 64)) (j := fun i _ => (⟨j.val / 64 * 64 + i.val, by omega⟩ : Fin 256)) ?_ ?_ ?_ ?_ ?_
  · intro a _; exact Finset.mem_univ _
  · intro i _
    have hi := i.isLt
    simp only [Finset.mem_filter, Finset.mem_univ, true_and]
    omega
  · intro a ha
    simp only [Finset.mem_filter, Finset.mem_univ, true_and] at ha
    apply Fin.ext; dsimp only; omega
  · intro i _
    have hi := i.isLt
    apply Fin.ext; dsimp only; omega
  · intro a ha
    simp only [Finset.mem_filter, Finset.mem_univ, true_and] at ha
    congr 1
    apply Fin.ext; dsimp only; omega

theorem real_sub_self (x : EReal) (h : Real' x) : x - x = 0 := by
  obtain ⟨a, rfl⟩ := h
  rw [← EReal.coe_sub]; simp

/-- One quarter of a row: the whole part and the remainder, each through the table. -/
theorem quarter (q : Fin 1024 → EReal) (hq : ∀ e, Real' (q e)) (B : Fin 256 → Fin 256 → EReal) (hB : ∀ a b, B a b = bdE a b)
    (o : ℕ) (ho : o + 256 ≤ 1024) (h64 : o % 64 = 0) (j : Fin 256) (e : Fin 1024) (he : e.val = o + j.val) :
    (∑ a : Fin 256, q ⟨o + a.val, by omega⟩ * B a j) + (∑ a : Fin 256, (q ⟨o + a.val, by omega⟩ - q ⟨o + a.val, by omega⟩) * B a j) = hs q e := by
  simp only [hB]
  rw [block (fun a => q ⟨o + a.val, by omega⟩) j, block (fun a => q ⟨o + a.val, by omega⟩ - q ⟨o + a.val, by omega⟩) j]
  rw [Finset.sum_eq_zero (s := Finset.univ) (f := fun i : Fin 64 => q ⟨o + (j.val / 64 * 64 + i.val), _⟩ - q ⟨o + (j.val / 64 * 64 + i.val), _⟩) (fun i _ => real_sub_self _ (hq _)), add_zero]
  unfold hs
  refine Finset.sum_congr rfl fun i _ => congrArg q (Fin.ext ?_)
  dsimp only
  omega

end Cert.HeadSum
end
-- ==== Proof.MixSpec.lean ====
module

public import proofs.«01_k».proof.Proof.HeadSum
public import proofs.«01_k».proof.Proof.EvenSpec

@[expose] public section

set_option maxRecDepth 16384

noncomputable section

open Idealize.ShloMosaic Idealize.SL.Sem

/-! What the call before the recurrence computes, entry by entry, from its arguments. -/
namespace Cert.MixSpec
open Cert.EvenSpec Cert.HeadSum

/-- The logarithm of one plus the exponential. -/
def sp (y : EReal) : EReal := max y 0 + Ideal.log (1 + Ideal.exp (-(max y (-y))))

section
variable (X : FVec Ideal ⟨2, ![16384, 1024]⟩ .f32) (MU : FVec Ideal ⟨3, ![1, 6, 1024]⟩ .f32) (W : FVec Ideal ⟨4, ![1, 4, 1024, 1024]⟩ .f32)

/-- The row before, within its sequence; the first has a zero row before it. -/
def prev (r : Fin 16384) (d : Fin 1024) : EReal := if r.val % 2048 = 0 then 0 else X (ix2 ⟨r.val - 1, by omega⟩ d)

/-- The row, moved towards the one before. -/
def mix (j : Fin 6) (r : Fin 16384) (d : Fin 1024) : EReal := X (ix2 r d) + (prev X r d - X (ix2 r d)) * MU (ix3 0 j d)

def proj (j : Fin 4) (r : Fin 16384) (e : Fin 1024) : EReal := ∑ d, mix X MU ⟨j.val, by omega⟩ r d * W (ix4 0 j d e)

variable (W0 : FVec Ideal ⟨2, ![1, 1024]⟩ .f32) (W1 : FVec Ideal ⟨3, ![1, 1024, 64]⟩ .f32) (W2 : FVec Ideal ⟨3, ![1, 64, 1024]⟩ .f32)

def wl (r : Fin 16384) (e : Fin 1024) : EReal :=
  W0 (ix2 0 e) + ∑ n : Fin 64, Ideal.tanh (∑ d, mix X MU 4 r d * W1 (ix3 0 d n)) * W2 (ix3 0 n e)

/-- The decay. -/
def dec (r : Fin 16384) (e : Fin 1024) : EReal :=
  Ideal.exp (-Ideal.exp (-sp (-wl X MU W0 W1 W2 r e) - Ideal.ofBits FTy.f32 0x3F000000#32))

def al (r : Fin 16384) (e : Fin 1024) : EReal :=
  sg (W0 (ix2 0 e) + ∑ n : Fin 64, (∑ d, mix X MU 5 r d * W1 (ix3 0 d n)) * W2 (ix3 0 n e))

variable (KK KA : FVec Ideal ⟨2, ![1, 1024]⟩ .f32)

def kk0 (r : Fin 16384) (e : Fin 1024) : EReal := proj X MU W 1 r e * KK (ix2 0 e)

/-- The key of a head at length one. -/
def kk (r : Fin 16384) (e : Fin 1024) : EReal :=
  Ideal.div (kk0 X MU W KK r e) (max (Ideal.sqrt (hs (fun e => kk0 X MU W KK r e * kk0 X MU W KK r e) e)) (Ideal.ofBits FTy.f32 0x2B8CBCCC#32))

def nkk (r : Fin 16384) (e : Fin 1024) : EReal := -kk X MU W KK r e

def bkk (r : Fin 16384) (e : Fin 1024) : EReal := kk X MU W KK r e * al X MU W0 W1 W2 r e

def kmod (r : Fin 16384) (e : Fin 1024) : EReal := proj X MU W 1 r e * (1 + (al X MU W0 W1 W2 r e - 1) * KA (ix2 0 e))

def gt (r : Fin 16384) (e : Fin 1024) : EReal := proj X MU W 3 r e * sg (proj X MU W 3 r e)

end
end Cert.MixSpec
end
-- ==== Proof.MixOps.lean ====
module

public import proofs.«01_k».proof.Proof.MixSpec
public import proofs.«01_k».proof.Proof.Gen.MixIdeal.Frame
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 16384

noncomputable section

open Idealize.ShloMosaic Idealize.ShloMosaic.StableHlo Idealize.ShloMosaic.TcCoe Idealize.SL.Sem

namespace Cert.MixIdeal.Mix

open Cert.MixSpec Cert.HeadSum Cert.MixIdeal Cert.MixIdeal.Gen

variable (m : (ℓ : Loc nD τ sig) → Buf (Elt Ideal) ℓ)

/-- The arguments, by name. -/
abbrev A0 (c : Dev nD) : FVec Ideal ⟨2, ![16384, 1024]⟩ .f32 := m ((c : Thread nD τ).loc main_arg0)
abbrev A1 (c : Dev nD) : FVec Ideal ⟨3, ![1, 6, 1024]⟩ .f32 := m ((c : Thread nD τ).loc main_arg1)
abbrev A2 (c : Dev nD) : FVec Ideal ⟨4, ![1, 4, 1024, 1024]⟩ .f32 := m ((c : Thread nD τ).loc main_arg2)
abbrev A3 (c : Dev nD) : FVec Ideal ⟨2, ![1, 1024]⟩ .f32 := m ((c : Thread nD τ).loc main_arg3)
abbrev A4 (c : Dev nD) : FVec Ideal ⟨3, ![1, 1024, 64]⟩ .f32 := m ((c : Thread nD τ).loc main_arg4)
abbrev A5 (c : Dev nD) : FVec Ideal ⟨3, ![1, 64, 1024]⟩ .f32 := m ((c : Thread nD τ).loc main_arg5)
abbrev A6 (c : Dev nD) : FVec Ideal ⟨2, ![1, 1024]⟩ .f32 := m ((c : Thread nD τ).loc main_arg6)
abbrev A7 (c : Dev nD) : FVec Ideal ⟨3, ![1, 1024, 64]⟩ .f32 := m ((c : Thread nD τ).loc main_arg7)
abbrev A8 (c : Dev nD) : FVec Ideal ⟨3, ![1, 64, 1024]⟩ .f32 := m ((c : Thread nD τ).loc main_arg8)
abbrev A9 (c : Dev nD) : FVec Ideal ⟨2, ![1, 1024]⟩ .f32 := m ((c : Thread nD τ).loc main_arg9)
abbrev A10 (c : Dev nD) : FVec Ideal ⟨2, ![1, 1024]⟩ .f32 := m ((c : Thread nD τ).loc main_arg10)

theorem prev_at (c : Dev nD) (r : Fin 16384) (d : Fin 1024) : V m c main_v14 (ix2 r d) = prev (A0 m c) r d := by
  unfold V prev
  after_reads_simp
  pointwise
  split
  · rename_i h
    refine Eq.trans ?_ (if_pos (show r.val % 2048 = 0 by omega)).symm
    after_reads_simp
    pointwise
  · rename_i h
    refine Eq.trans ?_ (if_neg (show ¬ r.val % 2048 = 0 by omega)).symm
    after_reads_simp
    pointwise
    exact congrArg (fun q => A0 m c (ix2 q d)) (Fin.ext (by dsimp only; omega))
theorem mu_at (c : Dev nD) (j : Fin 6) (d : Fin 1024) : V m c main_v15 (ix2 j d) = A1 m c (ix3 0 j d) := by
  unfold V
  after_reads_simp
  pointwise
theorem w_at (c : Dev nD) (d e : Fin 1024) : V m c main_v18 (ix2 d e) = A2 m c (ix4 0 0 d e) ∧ V m c main_v21 (ix2 d e) = A2 m c (ix4 0 1 d e)
    ∧ V m c main_v24 (ix2 d e) = A2 m c (ix4 0 2 d e) ∧ V m c main_v27 (ix2 d e) = A2 m c (ix4 0 3 d e) := by
  refine ⟨?_, ?_, ?_, ?_⟩
  all_goals
    unfold V
    after_reads_simp
    pointwise
theorem w0_at (c : Dev nD) (d : Fin 1024) : V m c main_v29 (ix2 0 d) = A3 m c (ix2 0 d) := by
  unfold V
  after_reads_simp
  pointwise
theorem w1_at (c : Dev nD) (d : Fin 1024) (n : Fin 64) : V m c main_v31 (ix2 d n) = A4 m c (ix3 0 d n) := by
  unfold V
  after_reads_simp
  pointwise
theorem w2_at (c : Dev nD) (d : Fin 1024) (n : Fin 64) : V m c main_v33 (ix2 n d) = A5 m c (ix3 0 n d) := by
  unfold V
  after_reads_simp
  pointwise
theorem a0_at (c : Dev nD) (d : Fin 1024) : V m c main_v35 (ix2 0 d) = A6 m c (ix2 0 d) := by
  unfold V
  after_reads_simp
  pointwise
theorem a1_at (c : Dev nD) (d : Fin 1024) (n : Fin 64) : V m c main_v37 (ix2 d n) = A7 m c (ix3 0 d n) := by
  unfold V
  after_reads_simp
  pointwise
theorem a2_at (c : Dev nD) (d : Fin 1024) (n : Fin 64) : V m c main_v39 (ix2 n d) = A8 m c (ix3 0 n d) := by
  unfold V
  after_reads_simp
  pointwise
theorem kk_at (c : Dev nD) (d : Fin 1024) : V m c main_v41 (ix2 0 d) = A9 m c (ix2 0 d) := by
  unfold V
  after_reads_simp
  pointwise
theorem ka_at (c : Dev nD) (d : Fin 1024) : V m c main_v43 (ix2 0 d) = A10 m c (ix2 0 d) := by
  unfold V
  after_reads_simp
  pointwise
theorem div_at : ∀ a : Fin 256, IntOp.divsi ArithUnit.host (BitVec.ofNat 32 a.val) 64#32 = BitVec.ofNat 32 (a.val / 64) := by decide
theorem bd_at (c : Dev nD) (a b : Fin 256) : V m c main_v9 (ix2 a b) = bdE a b := by
  entry_read
  pointwise
  rw [div_at, div_at]
  unfold bdE
  have key : ∀ u v : Fin 4, (FloatOps.uitofp (F := Ideal) FTy.bf16 (IntOp.cmpi CmpIPredicate.eq (BitVec.ofNat 32 u.val) (BitVec.ofNat 32 v.val)) : EReal) = if u.val = v.val then 1 else 0 := by
    intro u v
    fin_cases u <;> fin_cases v <;> simp [FloatOps.uitofp, IntOp.cmpi]
  exact key ⟨a.val / 64, by omega⟩ ⟨b.val / 64, by omega⟩

end Cert.MixIdeal.Mix
end
-- ==== Proof.MixPay.lean ====
module

public import proofs.«01_k».proof.Proof.MixSpec
public import proofs.«01_k».proof.Proof.Gen.MixIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.EvenSpec Cert.MixSpec Cert.HeadSum Cert.Softmax

namespace Cert.MixIdeal.Mix

open Cert.MixIdeal Cert.MixIdeal.Gen

/-- A row moved towards another. -/
def mx (x y u : EReal) : EReal := x + (y - x) * u

theorem pay3_at (X Y : Vec Ideal S256x1024 .f32) (p : Fin 256) (d : Fin 1024) : k0_pay3 X Y (ix2 p d) = (Y (ix2 p d) - X (ix2 p d) : EReal) := by
  pointwise [k0_pay3]
theorem pay4_at (X Y : Vec Ideal S256x1024 .f32) (U : Vec Ideal S1x1024 .f32) (W : Vec Ideal S1024x1024 .bf16) (p : Fin 256) (e : Fin 1024) :
    k0_pay4 X Y U W (ix2 p e) = ∑ d : Fin 1024, mx (X (ix2 p d)) (Y (ix2 p d)) (U (ix2 0 d)) * W (ix2 d e) := by
  pointwise [k0_pay4, k0_pay3]
  rfl
theorem pay5_at (X Y : Vec Ideal S256x1024 .f32) (U : Vec Ideal S1x1024 .f32) (W : Vec Ideal S1024x1024 .bf16) (p : Fin 256) (e : Fin 1024) :
    k0_pay5 X Y U W (ix2 p e) = ∑ d : Fin 1024, mx (X (ix2 p d)) (Y (ix2 p d)) (U (ix2 0 d)) * W (ix2 d e) := by
  pointwise [k0_pay5, k0_pay3]
  rfl
theorem pay6_at (X Y : Vec Ideal S256x1024 .f32) (U : Vec Ideal S1x1024 .f32) (W : Vec Ideal S1024x1024 .bf16) (p : Fin 256) (e : Fin 1024) :
    k0_pay6 X Y U W (ix2 p e) = ∑ d : Fin 1024, mx (X (ix2 p d)) (Y (ix2 p d)) (U (ix2 0 d)) * W (ix2 d e) := by
  pointwise [k0_pay6, k0_pay3]
  rfl
theorem pay8_at (X Y : Vec Ideal S256x1024 .f32) (U : Vec Ideal S1x1024 .f32) (W : Vec Ideal S1024x1024 .bf16) (p : Fin 256) (e : Fin 1024) :
    k0_pay8 (k0_pay7 X Y U) W (ix2 p e) = ∑ d : Fin 1024, mx (X (ix2 p d)) (Y (ix2 p d)) (U (ix2 0 d)) * W (ix2 d e) := by
  pointwise [k0_pay8, k0_pay7, k0_pay3]
  rfl
theorem sp_neg (w : EReal) : -(max (-w) 0 + Ideal.log (1 + Ideal.exp (-max w (-w)))) = -sp (-w) := by
  unfold sp
  rw [neg_neg, max_comm w]
theorem pay9_at (X Y : Vec Ideal S256x1024 .f32) (O U : Vec Ideal S1x1024 .f32) (W : Vec Ideal S1024x64 .bf16) (Z : Vec Ideal S64x1024 .bf16) (p : Fin 256) (e : Fin 1024) :
    k0_pay9 X (k0_pay3 X Y) O U W Z (ix2 p e)
      = (-sp (-(O (ix2 0 e) + ∑ n : Fin 64, Ideal.tanh (∑ d : Fin 1024, mx (X (ix2 p d)) (Y (ix2 p d)) (U (ix2 0 d)) * W (ix2 d n)) * Z (ix2 n e)))
          - Ideal.ofBits FTy.f32 0x3F000000#32 : EReal) := by
  pointwise [k0_pay9, k0_pay3]
  simp only [zero_sub]
  exact congrArg (fun u : EReal => u - Ideal.ofBits FTy.f32 0x3F000000#32) (sp_neg _)
theorem pay11_at (X Y : Vec Ideal S256x1024 .f32) (O U : Vec Ideal S1x1024 .f32) (W : Vec Ideal S1024x64 .bf16) (Z : Vec Ideal S64x1024 .bf16) (p : Fin 256) (e : Fin 1024) :
    k0_pay11 X (k0_pay3 X Y) (k0_pay10 O) U W Z (ix2 p e)
      = sg (O (ix2 0 e) + ∑ n : Fin 64, (∑ d : Fin 1024, mx (X (ix2 p d)) (Y (ix2 p d)) (U (ix2 0 d)) * W (ix2 d n)) * Z (ix2 n e)) := by
  pointwise [k0_pay11, k0_pay10, k0_pay3]
  simp only [zero_sub, sg, mx]
theorem pay12_at (K : FVec Ideal S256x1024 .f32) (U : Vec Ideal S1x1024 .f32) (p : Fin 256) (e : Fin 1024) :
    k0_pay12 K U (ix2 p e) = (K (ix2 p e) * U (ix2 0 e) : EReal) := by
  pointwise [k0_pay12]
theorem pay21_at (K : FVec Ideal S256x1024 .f32) (p : Fin 256) (e : Fin 1024) :
    k0_pay21 K (ix2 p e) = Ideal.exp (-Ideal.exp (K (ix2 p e)) : EReal) := by
  pointwise [k0_pay21]
  simp only [zero_sub]
theorem pay22_at (K A : FVec Ideal S256x1024 .f32) (U : Vec Ideal S1x1024 .f32) (p : Fin 256) (e : Fin 1024) :
    k0_pay22 K A U (ix2 p e) = (K (ix2 p e) * (1 + (A (ix2 p e) - 1) * U (ix2 0 e)) : EReal) := by
  pointwise [k0_pay22]
theorem pay2_at (K : FVec Ideal S256x1024 .f32) (p : Fin 256) (e : Fin 1024) :
    k0_pay2 K (ix2 p e) = (K (ix2 p e) * sg (K (ix2 p e)) : EReal) := by
  pointwise [k0_pay2]
  simp only [zero_sub, sg]
theorem pay1_at (A : FVec Ideal S256x1024 .f32) (v101 : FVec Ideal S256x1024 .f32) (v104 : FVec Ideal S256x256 .bf16) (v105 v108 : FVec Ideal S256x1024 .bf16) (v113 v115 v117 : FVec Ideal S256x256 .f32) (p : Fin 256) (e : Fin 1024) :
    k0_pay1 A (k0_pay20 v101 v104 v105 v108 v113 v115 v117) (ix2 p e) = (k0_pay20 v101 v104 v105 v108 v113 v115 v117 (ix2 p e) * A (ix2 p e) : EReal) := by
  pointwise [k0_pay1]
theorem pay23_at (v101 : FVec Ideal S256x1024 .f32) (v104 : FVec Ideal S256x256 .bf16) (v105 v108 : FVec Ideal S256x1024 .bf16) (v113 v115 v117 : FVec Ideal S256x256 .f32) (p : Fin 256) (e : Fin 1024) :
    k0_pay23 v101 v104 v105 v108 v113 v115 v117 (ix2 p e) = (-k0_pay20 v101 v104 v105 v108 v113 v115 v117 (ix2 p e) : EReal) := by
  pointwise [k0_pay23]
  simp only [zero_sub]

/-- The key at length one, its squares being numbers. -/
theorem pay20_at (K : FVec Ideal S256x1024 .f32) (U : Vec Ideal S1x1024 .f32) (B : Vec Ideal S256x256 .bf16) (hB : ∀ a b : Fin 256, B (ix2 a b) = bdE a b)
    (p : Fin 256) (q : Fin 1024 → EReal) (hk : ∀ e, (K (ix2 p e) * U (ix2 0 e) : EReal) = q e) (hq : ∀ e, Real' (q e * q e)) (e : Fin 1024) :
    k0_pay20 (k0_pay12 K U) (k0_pay14 B) (k0_pay15 K U) (k0_pay16 K U) (k0_pay17 K U B) (k0_pay18 K U B) (k0_pay19 K U B) (ix2 p e)
      = Ideal.div (q e) (max (Ideal.sqrt (hs (fun e => q e * q e) e)) (Ideal.ofBits FTy.f32 0x2B8CBCCC#32)) := by
  pointwise [k0_pay20, k0_pay12, k0_pay13, k0_pay14, k0_pay15, k0_pay16, k0_pay17, k0_pay18, k0_pay19]
  rw [hk e]
  refine congrArg (fun u : EReal => Ideal.div (q e) (max (Ideal.sqrt u) (Ideal.ofBits FTy.f32 0x2B8CBCCC#32))) ?_
  simp only [hk]
  have he := e.isLt
  have G := fun (o : ℕ) (ho : o + 256 ≤ 1024) (h64 : o % 64 = 0) (j : Fin 256) (h : e.val = o + j.val) =>
    quarter (fun e => q e * q e) hq (fun a b => B (ix2 a b)) hB o ho h64 j e h
  split
  · rename_i h
    have := G 0 (by omega) (by omega) ⟨e.val, h⟩ (by dsimp only; omega)
    simpa only [Nat.zero_add] using this
  · split
    · rename_i h1 h
      exact G 256 (by omega) (by omega) ⟨e.val - 256, h⟩ (by dsimp only; omega)
    · split
      · rename_i h2 h1 h
        exact G 512 (by omega) (by omega) ⟨e.val - 256 - 256, h⟩ (by dsimp only; omega)
      · rename_i h3 h2 h1
        exact G 768 (by omega) (by omega) ⟨e.val - 256 - 256 - 256, by omega⟩ (by dsimp only; omega)

end Cert.MixIdeal.Mix
end
-- ==== Proof.MixBlk.lean ====
module

public import proofs.«01_k».proof.Proof.MixOps
public import proofs.«01_k».proof.Proof.MixPay
public import Idealize.ShloMosaic.Lib.Pipeline.ValueKit

@[expose] public section

set_option maxRecDepth 16384

noncomputable section

open Idealize.ShloMosaic Idealize.ShloMosaic.TcCoe Idealize.SL.Sem
open Cert.EvenSpec Cert.MixSpec Cert.HeadSum Cert.Softmax

namespace Cert.MixIdeal.Mix

open Cert.MixIdeal Cert.MixIdeal.Gen

theorem idx : ∀ t : Fin cfg0.N, (win0_0.index t = ![t.val, 0] ∧ win0_1.index t = ![t.val, 0]
    ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0])
    ∧ (win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0]) ∧ t.val < 64 :=
  (by decide +kernel : ∀ t : Fin grid0.N, _)

variable (m : (ℓ : Loc nD τ sig) → Buf (Elt Ideal) ℓ)

theorem x0_at (c : Dev nD) (t : Fin cfg0.N) (p : Fin 256) (d : Fin 1024) (a : Fin 16384) (ha : a.val = t.val * 256 + p.val) :
    iblk m c 0 t (ix2 p d) = A0 m c (ix2 a d) := by
  blk_ext [iblk, V, idx t, ha]
theorem x1_at (c : Dev nD) (t : Fin cfg0.N) (p : Fin 256) (d : Fin 1024) (a : Fin 16384) (ha : a.val = t.val * 256 + p.val) :
    iblk m c 1 t (ix2 p d) = prev (A0 m c) a d := by
  rw [← prev_at]
  blk_ext [iblk, idx t, ha]
theorem x2_at (c : Dev nD) (t : Fin cfg0.N) (d : Fin 6) (j : Fin 1024) : iblk m c 2 t (ix2 d j) = V m c main_v15 (ix2 d j) := by
  blk_ext [iblk, idx t]
theorem x3_at (c : Dev nD) (t : Fin cfg0.N) (d : Fin 1024) (j : Fin 1024) : iblk m c 3 t (ix2 d j) = V m c main_v18 (ix2 d j) := by
  blk_ext [iblk, idx t]
theorem x4_at (c : Dev nD) (t : Fin cfg0.N) (d : Fin 1024) (j : Fin 1024) : iblk m c 4 t (ix2 d j) = V m c main_v21 (ix2 d j) := by
  blk_ext [iblk, idx t]
theorem x5_at (c : Dev nD) (t : Fin cfg0.N) (d : Fin 1024) (j : Fin 1024) : iblk m c 5 t (ix2 d j) = V m c main_v24 (ix2 d j) := by
  blk_ext [iblk, idx t]
theorem x6_at (c : Dev nD) (t : Fin cfg0.N) (d : Fin 1024) (j : Fin 1024) : iblk m c 6 t (ix2 d j) = V m c main_v27 (ix2 d j) := by
  blk_ext [iblk, idx t]
theorem x7_at (c : Dev nD) (t : Fin cfg0.N) (d : Fin 1) (j : Fin 1024) : iblk m c 7 t (ix2 d j) = V m c main_v29 (ix2 d j) := by
  blk_ext [iblk, idx t]
theorem x8_at (c : Dev nD) (t : Fin cfg0.N) (d : Fin 1024) (j : Fin 64) : iblk m c 8 t (ix2 d j) = V m c main_v31 (ix2 d j) := by
  blk_ext [iblk, idx t]
theorem x9_at (c : Dev nD) (t : Fin cfg0.N) (d : Fin 64) (j : Fin 1024) : iblk m c 9 t (ix2 d j) = V m c main_v33 (ix2 d j) := by
  blk_ext [iblk, idx t]
theorem x10_at (c : Dev nD) (t : Fin cfg0.N) (d : Fin 1) (j : Fin 1024) : iblk m c 10 t (ix2 d j) = V m c main_v35 (ix2 d j) := by
  blk_ext [iblk, idx t]
theorem x11_at (c : Dev nD) (t : Fin cfg0.N) (d : Fin 1024) (j : Fin 64) : iblk m c 11 t (ix2 d j) = V m c main_v37 (ix2 d j) := by
  blk_ext [iblk, idx t]
theorem x12_at (c : Dev nD) (t : Fin cfg0.N) (d : Fin 64) (j : Fin 1024) : iblk m c 12 t (ix2 d j) = V m c main_v39 (ix2 d j) := by
  blk_ext [iblk, idx t]
theorem x13_at (c : Dev nD) (t : Fin cfg0.N) (d : Fin 1) (j : Fin 1024) : iblk m c 13 t (ix2 d j) = V m c main_v41 (ix2 d j) := by
  blk_ext [iblk, idx t]
theorem x14_at (c : Dev nD) (t : Fin cfg0.N) (d : Fin 1) (j : Fin 1024) : iblk m c 14 t (ix2 d j) = V m c main_v43 (ix2 d j) := by
  blk_ext [iblk, idx t]
theorem x15_at (c : Dev nD) (t : Fin cfg0.N) (d : Fin 256) (j : Fin 256) : iblk m c 15 t (ix2 d j) = V m c main_v9 (ix2 d j) := by
  blk_ext [iblk, idx t]

theorem ld0 (X : Vec Ideal S256x1024 .f32) : View.ld X r0_0 = X := View.ld_unit_lit _ _ (by decide)
theorem ld2 (X : Vec Ideal S1024x1024 .bf16) : View.ld X r0_2 = X := View.ld_unit_lit _ _ (by decide)
theorem ld6 (X : Vec Ideal S1x1024 .f32) : View.ld X r0_6 = X := View.ld_unit_lit _ _ (by decide)
theorem ld8 (X : Vec Ideal S1024x64 .bf16) : View.ld X r0_8 = X := View.ld_unit_lit _ _ (by decide)
theorem ld9 (X : Vec Ideal S64x1024 .bf16) : View.ld X r0_9 = X := View.ld_unit_lit _ _ (by decide)
theorem ld11 (X : Vec Ideal S256x256 .bf16) : View.ld X r0_11 = X := View.ld_unit_lit _ _ (by decide)
theorem ldm (X : Vec Ideal S6x1024 .f32) (n : Fin 1024) : View.ld X r0_1 (ix2 0 n) = X (ix2 0 n)
    ∧ View.ld X r0_3 (ix2 0 n) = X (ix2 1 n)
    ∧ View.ld X r0_4 (ix2 0 n) = X (ix2 2 n)
    ∧ View.ld X r0_5 (ix2 0 n) = X (ix2 3 n)
    ∧ View.ld X r0_7 (ix2 0 n) = X (ix2 4 n)
    ∧ View.ld X r0_10 (ix2 0 n) = X (ix2 5 n) := by
  refine ⟨?_, ?_, ?_, ?_, ?_, ?_⟩
  all_goals
    refine View.ld_unit_apply_of _ _ _ _ _ _ fun a => ?_
    fin_cases a <;> simp

/-- The values a trip shares between its stores. -/
abbrev KX (c : Dev nD) (t : Fin cfg0.N) : FVec Ideal S256x1024 .f32 := k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
abbrev AX (c : Dev nD) (t : Fin cfg0.N) : FVec Ideal S256x1024 .f32 := k0_pay26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

variable (c : Dev nD) (t : Fin cfg0.N) (p : Fin 256) (a : Fin 16384) (ha : a.val = t.val * 256 + p.val)
include ha

theorem mx_at (d : Fin 1024) (j : Fin 6) (U : Vec Ideal S1x1024 .f32) (hU : ∀ d : Fin 1024, U (ix2 0 d) = iblk m c 2 t (ix2 j d)) :
    mx (iblk m c 0 t (ix2 p d)) (iblk m c 1 t (ix2 p d)) (U (ix2 0 d)) = mix (A0 m c) (A1 m c) j a d := by
  rw [hU, x0_at m c t p d a ha, x1_at m c t p d a ha, x2_at, mu_at]
  rfl

theorem kx_at (e : Fin 1024) : KX m c t (ix2 p e) = proj (A0 m c) (A1 m c) (A2 m c) 1 a e := by
  unfold KX k0_pay25
  rw [ld0, ld0, ld2]
  exact (pay5_at _ _ _ _ _ _).trans (Finset.sum_congr rfl fun d _ => congrArg₂ (fun u v : EReal => u * v)
    (mx_at m c t p a ha d 1 _ fun d => (ldm _ d).2.1) ((x4_at m c t d e).trans (w_at m c d e).2.1))
theorem rx_at (e : Fin 1024) : k0_pay4 (View.ld (iblk m c 0 t) r0_0) (View.ld (iblk m c 1 t) r0_0) (View.ld (iblk m c 2 t) r0_1) (View.ld (iblk m c 3 t) r0_2) (ix2 p e)
    = proj (A0 m c) (A1 m c) (A2 m c) 0 a e := by
  rw [ld0, ld0, ld2]
  exact (pay4_at _ _ _ _ _ _).trans (Finset.sum_congr rfl fun d _ => congrArg₂ (fun u v : EReal => u * v)
    (mx_at m c t p a ha d 0 _ fun d => (ldm _ d).1) ((x3_at m c t d e).trans (w_at m c d e).1))
theorem vx_at (e : Fin 1024) : k0_pay6 (View.ld (iblk m c 0 t) r0_0) (View.ld (iblk m c 1 t) r0_0) (View.ld (iblk m c 2 t) r0_4) (View.ld (iblk m c 5 t) r0_2) (ix2 p e)
    = proj (A0 m c) (A1 m c) (A2 m c) 2 a e := by
  rw [ld0, ld0, ld2]
  exact (pay6_at _ _ _ _ _ _).trans (Finset.sum_congr rfl fun d _ => congrArg₂ (fun u v : EReal => u * v)
    (mx_at m c t p a ha d 2 _ fun d => (ldm _ d).2.2.1) ((x5_at m c t d e).trans (w_at m c d e).2.2.1))
theorem gx_at (e : Fin 1024) : k0_pay8 (k0_pay7 (View.ld (iblk m c 0 t) r0_0) (View.ld (iblk m c 1 t) r0_0) (View.ld (iblk m c 2 t) r0_5)) (View.ld (iblk m c 6 t) r0_2) (ix2 p e)
    = proj (A0 m c) (A1 m c) (A2 m c) 3 a e := by
  rw [ld0, ld0, ld2]
  exact (pay8_at _ _ _ _ _ _).trans (Finset.sum_congr rfl fun d _ => congrArg₂ (fun u v : EReal => u * v)
    (mx_at m c t p a ha d 3 _ fun d => (ldm _ d).2.2.2.1) ((x6_at m c t d e).trans (w_at m c d e).2.2.2))

theorem wx_at (e : Fin 1024) : k0_pay9 (View.ld (iblk m c 0 t) r0_0) (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (View.ld (iblk m c 7 t) r0_6) (View.ld (iblk m c 2 t) r0_7) (View.ld (iblk m c 8 t) r0_8) (View.ld (iblk m c 9 t) r0_9) (ix2 p e)
    = (-sp (-wl (A0 m c) (A1 m c) (A3 m c) (A4 m c) (A5 m c) a e) - Ideal.ofBits FTy.f32 0x3F000000#32 : EReal) := by
  unfold k0_pay24
  rw [ld0, ld0, ld6, ld8, ld9]
  refine (pay9_at _ _ _ _ _ _ _ _).trans ?_
  unfold wl
  refine congrArg (fun u : EReal => -sp (-u) - Ideal.ofBits FTy.f32 0x3F000000#32) (congrArg₂ (fun u v : EReal => u + v) ((x7_at m c t 0 e).trans (w0_at m c e))
    (Finset.sum_congr rfl fun n _ => congrArg₂ (fun u v : EReal => u * v) (congrArg Ideal.tanh (Finset.sum_congr rfl fun d _ => congrArg₂ (fun u v : EReal => u * v) ?_ ?_)) ?_))
  · exact mx_at m c t p a ha d 4 _ fun d => (ldm _ d).2.2.2.2.1
  · exact (x8_at m c t d n).trans (w1_at m c d n)
  · exact (x9_at m c t n e).trans (w2_at m c e n)

theorem ax_at (e : Fin 1024) : AX m c t (ix2 p e) = al (A0 m c) (A1 m c) (A6 m c) (A7 m c) (A8 m c) a e := by
  unfold AX k0_pay26 k0_pay24
  rw [ld0, ld0, ld6, ld8, ld9]
  refine (pay11_at _ _ _ _ _ _ _ _).trans ?_
  unfold al
  refine congrArg sg (congrArg₂ (fun u v : EReal => u + v) ((x10_at m c t 0 e).trans (a0_at m c e))
    (Finset.sum_congr rfl fun n _ => congrArg₂ (fun u v : EReal => u * v) (Finset.sum_congr rfl fun d _ => congrArg₂ (fun u v : EReal => u * v) ?_ ?_) ?_))
  · exact mx_at m c t p a ha d 5 _ fun d => (ldm _ d).2.2.2.2.2
  · exact (x11_at m c t d n).trans (a1_at m c d n)
  · exact (x12_at m c t n e).trans (a2_at m c e n)

theorem kn_at (hq : ∀ e, Real' (kk0 (A0 m c) (A1 m c) (A2 m c) (A9 m c) a e * kk0 (A0 m c) (A1 m c) (A2 m c) (A9 m c) a e)) (e : Fin 1024) :
    k0_pay20 (k0_pay27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (ix2 p e)
    = kk (A0 m c) (A1 m c) (A2 m c) (A9 m c) a e := by
  unfold k0_pay27 k0_pay28 k0_pay29 k0_pay30 k0_pay31 k0_pay32 k0_pay33
  rw [ld6, ld11]
  exact pay20_at _ _ _ (fun a b => (x15_at m c t a b).trans (bd_at m c a b)) p (kk0 (A0 m c) (A1 m c) (A2 m c) (A9 m c) a)
    (fun e => congrArg₂ (fun u v : EReal => u * v) (kx_at m c t p a ha e) ((x13_at m c t 0 e).trans (kk_at m c e))) hq e

theorem kmod_at (b : Fin 1024) : k0_pay22 (k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (k0_pay26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (View.ld (iblk m c 14 t) r0_6) (ix2 p b) = kmod (A0 m c) (A1 m c) (A2 m c) (A6 m c) (A7 m c) (A8 m c) (A10 m c) a b := by
  rw [ld6]
  refine (pay22_at _ _ _ _ _).trans ?_
  have e1 := kx_at m c t p a ha b
  have e2 := ax_at m c t p a ha b
  have e3 := (x14_at m c t 0 b).trans (ka_at m c b)
  exact congrArg₂ (fun u v : EReal => u * (1 + v)) e1 (congrArg₂ (fun u v : EReal => (u - 1) * v) e2 e3)

theorem w16_at (b : Fin 1024) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p b) = proj (A0 m c) (A1 m c) (A2 m c) 0 a b := by
  unfold out0_16
  exact (congrFun (View.canon_cons_unit_lit _ _ _ (by decide)) _).trans (rx_at m c t p a ha b)
theorem w17_at (b : Fin 1024) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p b) = dec (A0 m c) (A1 m c) (A3 m c) (A4 m c) (A5 m c) a b := by
  unfold out0_17
  exact (congrFun (View.canon_cons_unit_lit _ _ _ (by decide)) _).trans ((pay21_at _ _ _).trans (congrArg (fun u : EReal => Ideal.exp (-Ideal.exp u)) (wx_at m c t p a ha b)))
theorem w18_at (b : Fin 1024) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p b) = kmod (A0 m c) (A1 m c) (A2 m c) (A6 m c) (A7 m c) (A8 m c) (A10 m c) a b := by
  unfold out0_18
  exact (congrFun (View.canon_cons_unit_lit _ _ _ (by decide)) _).trans ((kmod_at m c t p a ha b))
theorem w19_at (b : Fin 1024) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p b) = proj (A0 m c) (A1 m c) (A2 m c) 2 a b := by
  unfold out0_19
  exact (congrFun (View.canon_cons_unit_lit _ _ _ (by decide)) _).trans (vx_at m c t p a ha b)
theorem w20_at (hq : ∀ e, Real' (kk0 (A0 m c) (A1 m c) (A2 m c) (A9 m c) a e * kk0 (A0 m c) (A1 m c) (A2 m c) (A9 m c) a e)) (b : Fin 1024) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p b) = nkk (A0 m c) (A1 m c) (A2 m c) (A9 m c) a b := by
  unfold out0_20
  exact (congrFun (View.canon_cons_unit_lit _ _ _ (by decide)) _).trans ((pay23_at _ _ _ _ _ _ _ _ _).trans (congrArg (fun u : EReal => -u) (kn_at m c t p a ha hq b)))
theorem w21_at (hq : ∀ e, Real' (kk0 (A0 m c) (A1 m c) (A2 m c) (A9 m c) a e * kk0 (A0 m c) (A1 m c) (A2 m c) (A9 m c) a e)) (b : Fin 1024) : out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p b) = bkk (A0 m c) (A1 m c) (A2 m c) (A6 m c) (A7 m c) (A8 m c) (A9 m c) a b := by
  unfold out0_21
  exact (congrFun (View.canon_cons_unit_lit _ _ _ (by decide)) _).trans ((pay1_at _ _ _ _ _ _ _ _ _ _).trans (congrArg₂ (fun u v : EReal => u * v) (kn_at m c t p a ha hq b) (ax_at m c t p a ha b)))
theorem w22_at (b : Fin 1024) : out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p b) = gt (A0 m c) (A1 m c) (A2 m c) a b := by
  unfold out0_22
  exact (congrFun (View.canon_cons_unit_lit _ _ _ (by decide)) _).trans ((pay2_at _ _ _).trans (congrArg (fun u : EReal => u * sg u) (gx_at m c t p a ha b)))

end Cert.MixIdeal.Mix
end
-- ==== Proof.MixVal.lean ====
module

public import proofs.«01_k».proof.Proof.MixBlk

@[expose] public section

set_option maxRecDepth 16384

noncomputable section

open Idealize.ShloMosaic Idealize.ShloMosaic.TcCoe Idealize.SL.Sem
open Cert.EvenSpec Cert.MixSpec Cert.HeadSum Cert.Softmax

namespace Cert.MixIdeal.Mix

open Cert.MixIdeal Cert.MixIdeal.Gen

variable (m : (ℓ : Loc nD τ sig) → Buf (Elt Ideal) ℓ)

theorem final16 (c : Dev nD) : (dats m 0 c).arrAt 16 cfg0.N = fun j : S16384x1024.Idx => proj (A0 m c) (A1 m c) (A2 m c) 0 (j 0) (j 1) := by
  refine (dats m 0 c).arrAt_eq_of_covers 16 _ (by decide +kernel) fun t hf y => ?_
  blk_simp
  rw [after0_16]
  obtain ⟨p, b, rfl⟩ : ∃ (p : Fin 256) (b : Fin 1024), y = ix2 p b := ⟨y 0, y 1, (ix2_eta y).symm⟩
  have hi := (idx t).2.2
  have hp := p.isLt
  have e0 : (win0_16.blk t).view.emb (ix2 p b) 0 = (⟨t.val * 256 + p.val, by omega⟩ : Fin 16384) := by
    apply Fin.ext; blk_simp [idx t]
  have e1 : (win0_16.blk t).view.emb (ix2 p b) 1 = b := by
    apply Fin.ext; blk_simp [idx t]
  rw [e0, e1]
  exact w16_at m c t p _ rfl b

theorem final17 (c : Dev nD) : (dats m 0 c).arrAt 17 cfg0.N = fun j : S16384x1024.Idx => dec (A0 m c) (A1 m c) (A3 m c) (A4 m c) (A5 m c) (j 0) (j 1) := by
  refine (dats m 0 c).arrAt_eq_of_covers 17 _ (by decide +kernel) fun t hf y => ?_
  blk_simp
  rw [after0_17]
  obtain ⟨p, b, rfl⟩ : ∃ (p : Fin 256) (b : Fin 1024), y = ix2 p b := ⟨y 0, y 1, (ix2_eta y).symm⟩
  have hi := (idx t).2.2
  have hp := p.isLt
  have e0 : (win0_17.blk t).view.emb (ix2 p b) 0 = (⟨t.val * 256 + p.val, by omega⟩ : Fin 16384) := by
    apply Fin.ext; blk_simp [idx t]
  have e1 : (win0_17.blk t).view.emb (ix2 p b) 1 = b := by
    apply Fin.ext; blk_simp [idx t]
  rw [e0, e1]
  exact w17_at m c t p _ rfl b

theorem final18 (c : Dev nD) : (dats m 0 c).arrAt 18 cfg0.N = fun j : S16384x1024.Idx => kmod (A0 m c) (A1 m c) (A2 m c) (A6 m c) (A7 m c) (A8 m c) (A10 m c) (j 0) (j 1) := by
  refine (dats m 0 c).arrAt_eq_of_covers 18 _ (by decide +kernel) fun t hf y => ?_
  blk_simp
  rw [after0_18]
  obtain ⟨p, b, rfl⟩ : ∃ (p : Fin 256) (b : Fin 1024), y = ix2 p b := ⟨y 0, y 1, (ix2_eta y).symm⟩
  have hi := (idx t).2.2
  have hp := p.isLt
  have e0 : (win0_18.blk t).view.emb (ix2 p b) 0 = (⟨t.val * 256 + p.val, by omega⟩ : Fin 16384) := by
    apply Fin.ext; blk_simp [idx t]
  have e1 : (win0_18.blk t).view.emb (ix2 p b) 1 = b := by
    apply Fin.ext; blk_simp [idx t]
  rw [e0, e1]
  exact w18_at m c t p _ rfl b

theorem final19 (c : Dev nD) : (dats m 0 c).arrAt 19 cfg0.N = fun j : S16384x1024.Idx => proj (A0 m c) (A1 m c) (A2 m c) 2 (j 0) (j 1) := by
  refine (dats m 0 c).arrAt_eq_of_covers 19 _ (by decide +kernel) fun t hf y => ?_
  blk_simp
  rw [after0_19]
  obtain ⟨p, b, rfl⟩ : ∃ (p : Fin 256) (b : Fin 1024), y = ix2 p b := ⟨y 0, y 1, (ix2_eta y).symm⟩
  have hi := (idx t).2.2
  have hp := p.isLt
  have e0 : (win0_19.blk t).view.emb (ix2 p b) 0 = (⟨t.val * 256 + p.val, by omega⟩ : Fin 16384) := by
    apply Fin.ext; blk_simp [idx t]
  have e1 : (win0_19.blk t).view.emb (ix2 p b) 1 = b := by
    apply Fin.ext; blk_simp [idx t]
  rw [e0, e1]
  exact w19_at m c t p _ rfl b

theorem final20 (c : Dev nD) (hq : ∀ a e, Real' (kk0 (A0 m c) (A1 m c) (A2 m c) (A9 m c) a e * kk0 (A0 m c) (A1 m c) (A2 m c) (A9 m c) a e)) : (dats m 0 c).arrAt 20 cfg0.N = fun j : S16384x1024.Idx => nkk (A0 m c) (A1 m c) (A2 m c) (A9 m c) (j 0) (j 1) := by
  refine (dats m 0 c).arrAt_eq_of_covers 20 _ (by decide +kernel) fun t hf y => ?_
  blk_simp
  rw [after0_20]
  obtain ⟨p, b, rfl⟩ : ∃ (p : Fin 256) (b : Fin 1024), y = ix2 p b := ⟨y 0, y 1, (ix2_eta y).symm⟩
  have hi := (idx t).2.2
  have hp := p.isLt
  have e0 : (win0_20.blk t).view.emb (ix2 p b) 0 = (⟨t.val * 256 + p.val, by omega⟩ : Fin 16384) := by
    apply Fin.ext; blk_simp [idx t]
  have e1 : (win0_20.blk t).view.emb (ix2 p b) 1 = b := by
    apply Fin.ext; blk_simp [idx t]
  rw [e0, e1]
  exact w20_at m c t p _ rfl (hq _) b

theorem final21 (c : Dev nD) (hq : ∀ a e, Real' (kk0 (A0 m c) (A1 m c) (A2 m c) (A9 m c) a e * kk0 (A0 m c) (A1 m c) (A2 m c) (A9 m c) a e)) : (dats m 0 c).arrAt 21 cfg0.N = fun j : S16384x1024.Idx => bkk (A0 m c) (A1 m c) (A2 m c) (A6 m c) (A7 m c) (A8 m c) (A9 m c) (j 0) (j 1) := by
  refine (dats m 0 c).arrAt_eq_of_covers 21 _ (by decide +kernel) fun t hf y => ?_
  blk_simp
  rw [after0_21]
  obtain ⟨p, b, rfl⟩ : ∃ (p : Fin 256) (b : Fin 1024), y = ix2 p b := ⟨y 0, y 1, (ix2_eta y).symm⟩
  have hi := (idx t).2.2
  have hp := p.isLt
  have e0 : (win0_21.blk t).view.emb (ix2 p b) 0 = (⟨t.val * 256 + p.val, by omega⟩ : Fin 16384) := by
    apply Fin.ext; blk_simp [idx t]
  have e1 : (win0_21.blk t).view.emb (ix2 p b) 1 = b := by
    apply Fin.ext; blk_simp [idx t]
  rw [e0, e1]
  exact w21_at m c t p _ rfl (hq _) b

theorem final22 (c : Dev nD) : (dats m 0 c).arrAt 22 cfg0.N = fun j : S16384x1024.Idx => gt (A0 m c) (A1 m c) (A2 m c) (j 0) (j 1) := by
  refine (dats m 0 c).arrAt_eq_of_covers 22 _ (by decide +kernel) fun t hf y => ?_
  blk_simp
  rw [after0_22]
  obtain ⟨p, b, rfl⟩ : ∃ (p : Fin 256) (b : Fin 1024), y = ix2 p b := ⟨y 0, y 1, (ix2_eta y).symm⟩
  have hi := (idx t).2.2
  have hp := p.isLt
  have e0 : (win0_22.blk t).view.emb (ix2 p b) 0 = (⟨t.val * 256 + p.val, by omega⟩ : Fin 16384) := by
    apply Fin.ext; blk_simp [idx t]
  have e1 : (win0_22.blk t).view.emb (ix2 p b) 1 = b := by
    apply Fin.ext; blk_simp [idx t]
  rw [e0, e1]
  exact w22_at m c t p _ rfl b

end Cert.MixIdeal.Mix
end
-- ==== Proof.MixRef.lean ====
module

public import proofs.«01_k».proof.Proof.MixSpec
public import proofs.«01_k».proof.Proof.Gen.MixRefIdeal.Run
public import Idealize.ShloMosaic.Lib.Pointwise

@[expose] public section

set_option maxRecDepth 16384

noncomputable section

open Idealize.ShloMosaic Idealize.ShloMosaic.StableHlo Idealize.ShloMosaic.TcCoe Idealize.SL.Sem
open Cert.EvenSpec Cert.MixSpec Cert.HeadSum

namespace Cert.MixRefIdeal.Mix

open Cert.MixRefIdeal Cert.MixRefIdeal.Gen Cert.MixRefIdeal.Value
open Cert.MixRefIdeal.Facts

variable (m : (ℓ : Loc nD τ sig) → Buf (Elt Ideal) ℓ) (c : Dev nD)

abbrev A0 : FVec Ideal ⟨2, ![16384, 1024]⟩ .f32 := m ((c.tc : Thread nD τ).loc main_arg0)
abbrev A1 : FVec Ideal ⟨3, ![1, 6, 1024]⟩ .f32 := m ((c.tc : Thread nD τ).loc main_arg1)
abbrev A2 : FVec Ideal ⟨4, ![1, 4, 1024, 1024]⟩ .f32 := m ((c.tc : Thread nD τ).loc main_arg2)
abbrev A3 : FVec Ideal ⟨2, ![1, 1024]⟩ .f32 := m ((c.tc : Thread nD τ).loc main_arg3)
abbrev A4 : FVec Ideal ⟨3, ![1, 1024, 64]⟩ .f32 := m ((c.tc : Thread nD τ).loc main_arg4)
abbrev A5 : FVec Ideal ⟨3, ![1, 64, 1024]⟩ .f32 := m ((c.tc : Thread nD τ).loc main_arg5)
abbrev A6 : FVec Ideal ⟨2, ![1, 1024]⟩ .f32 := m ((c.tc : Thread nD τ).loc main_arg6)
abbrev A7 : FVec Ideal ⟨3, ![1, 1024, 64]⟩ .f32 := m ((c.tc : Thread nD τ).loc main_arg7)
abbrev A8 : FVec Ideal ⟨3, ![1, 64, 1024]⟩ .f32 := m ((c.tc : Thread nD τ).loc main_arg8)
abbrev A9 : FVec Ideal ⟨2, ![1, 1024]⟩ .f32 := m ((c.tc : Thread nD τ).loc main_arg9)
abbrev A10 : FVec Ideal ⟨2, ![1, 1024]⟩ .f32 := m ((c.tc : Thread nD τ).loc main_arg10)

/-! The values of the plain computation. -/
def HN (m : (ℓ : Loc nD τ sig) → Buf (Elt Ideal) ℓ) (c : Dev nD) : FVec Ideal S8x2048x1024 .f32 := (shapeCast _ (A0 m c) shapeCasts_S16384x1024_S8x2048x1024)
def DL (m : (ℓ : Loc nD τ sig) → Buf (Elt Ideal) ℓ) (c : Dev nD) : FVec Ideal S8x2048x1024 .f32 := (subf (concatenate S8x2048x1024 1 [⟨S8x1x1024, (broadcastInDim S8x1x1024 ![] bcast_S_S8x1x1024 (constant S_ .f32 0x00000000#32))⟩, ⟨S8x2047x1024, (extractStridedSlice S8x2047x1024 ![0, 0, 0] (HN m c) slices_S8x2048x1024_S8x2047x1024_0_0_0)⟩] concatenates_S8x1x1024_S8x2047x1024_S8x2048x1024_d1) (HN m c))
def XS (m : (ℓ : Loc nD τ sig) → Buf (Elt Ideal) ℓ) (c : Dev nD) : FVec Ideal S6x8x2048x1024 .f32 := (addf (broadcastInDim S6x8x2048x1024 ![0, 1, 2, 3] bcast_S1x8x2048x1024_S6x8x2048x1024_0_1_2_3 (broadcastInDim S1x8x2048x1024 ![1, 2, 3] bcast_S8x2048x1024_S1x8x2048x1024_1_2_3 (HN m c))) (mulf (broadcastInDim S6x8x2048x1024 ![0, 1, 2, 3] bcast_S1x8x2048x1024_S6x8x2048x1024_0_1_2_3 (broadcastInDim S1x8x2048x1024 ![1, 2, 3] bcast_S8x2048x1024_S1x8x2048x1024_1_2_3 (DL m c))) (broadcastInDim S6x8x2048x1024 ![0, 1, 2, 3] bcast_S6x1x1x1024_S6x8x2048x1024_0_1_2_3 (broadcastInDim S6x1x1x1024 ![0, 3] bcast_S6x1024_S6x1x1x1024_0_3 (shapeCast _ (A1 m c) shapeCasts_S1x6x1024_S6x1024)))))
def DG (m : (ℓ : Loc nD τ sig) → Buf (Elt Ideal) ℓ) (c : Dev nD) : FVec Ideal S4x8x2048x1024 .f32 := (Host.dotGeneral (φ₁ := .f32) (φ₂ := .f32) dot_S4x8x2048x1024_S4x1024x1024_S4x8x2048x1024_3_1_12_2_0_0 none (extractStridedSlice S4x8x2048x1024 ![0, 0, 0, 0] (XS m c) slices_S6x8x2048x1024_S4x8x2048x1024_0_0_0_0) (shapeCast _ (A2 m c) shapeCasts_S1x4x1024x1024_S4x1024x1024))
def KX (m : (ℓ : Loc nD τ sig) → Buf (Elt Ideal) ℓ) (c : Dev nD) : FVec Ideal S8x2048x1024 .f32 := (shapeCast _ (extractStridedSlice S1x8x2048x1024 ![1, 0, 0, 0] (DG m c) slices_S4x8x2048x1024_S1x8x2048x1024_1_0_0_0) shapeCasts_S1x8x2048x1024_S8x2048x1024)
def WL (m : (ℓ : Loc nD τ sig) → Buf (Elt Ideal) ℓ) (c : Dev nD) : FVec Ideal S8x2048x1024 .f32 := (Host.negf (addf (broadcastInDim S8x2048x1024 ![0, 1, 2] bcast_S1x1x1024_S8x2048x1024_0_1_2 (broadcastInDim S1x1x1024 ![2] bcast_S1024_S1x1x1024_2 (shapeCast _ (A3 m c) shapeCasts_S1x1024_S1024))) (Host.dotGeneral (φ₁ := .f32) (φ₂ := .f32) dot_S8x2048x64_S64x1024_S8x2048x1024_2_0_01_1_n_n none (Host.tanh (Host.dotGeneral (φ₁ := .f32) (φ₂ := .f32) dot_S8x2048x1024_S1024x64_S8x2048x64_2_0_01_1_n_n none (shapeCast _ (extractStridedSlice S1x8x2048x1024 ![4, 0, 0, 0] (XS m c) slices_S6x8x2048x1024_S1x8x2048x1024_4_0_0_0) shapeCasts_S1x8x2048x1024_S8x2048x1024) (shapeCast _ (A4 m c) shapeCasts_S1x1024x64_S1024x64))) (shapeCast _ (A5 m c) shapeCasts_S1x64x1024_S64x1024))))
def AX (m : (ℓ : Loc nD τ sig) → Buf (Elt Ideal) ℓ) (c : Dev nD) : FVec Ideal S8x2048x1024 .f32 := (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (addf (broadcastInDim S8x2048x1024 ![0, 1, 2] bcast_S1x1x1024_S8x2048x1024_0_1_2 (broadcastInDim S1x1x1024 ![2] bcast_S1024_S1x1x1024_2 (shapeCast _ (A6 m c) shapeCasts_S1x1024_S1024))) (Host.dotGeneral (φ₁ := .f32) (φ₂ := .f32) dot_S8x2048x64_S64x1024_S8x2048x1024_2_0_01_1_n_n none (Host.dotGeneral (φ₁ := .f32) (φ₂ := .f32) dot_S8x2048x1024_S1024x64_S8x2048x64_2_0_01_1_n_n none (shapeCast _ (extractStridedSlice S1x8x2048x1024 ![5, 0, 0, 0] (XS m c) slices_S6x8x2048x1024_S1x8x2048x1024_5_0_0_0) shapeCasts_S1x8x2048x1024_S8x2048x1024) (shapeCast _ (A7 m c) shapeCasts_S1x1024x64_S1024x64)) (shapeCast _ (A8 m c) shapeCasts_S1x64x1024_S64x1024)))))))
def KH (m : (ℓ : Loc nD τ sig) → Buf (Elt Ideal) ℓ) (c : Dev nD) : FVec Ideal S8x2048x16x64 .f32 := (shapeCast _ (mulf (KX m c) (broadcastInDim S8x2048x1024 ![0, 1, 2] bcast_S1x1x1024_S8x2048x1024_0_1_2 (broadcastInDim S1x1x1024 ![2] bcast_S1024_S1x1x1024_2 (shapeCast _ (A9 m c) shapeCasts_S1x1024_S1024)))) shapeCasts_S8x2048x1024_S8x2048x16x64)
def KN (m : (ℓ : Loc nD τ sig) → Buf (Elt Ideal) ℓ) (c : Dev nD) : FVec Ideal S8x2048x16x64 .f32 := (Host.divf (KH m c) (broadcastInDim S8x2048x16x64 ![0, 1, 2, 3] bcast_S8x2048x16x1_S8x2048x16x64_0_1_2_3 (maximumf (Host.sqrt (broadcastInDim S8x2048x16x1 ![0, 1, 2] bcast_S8x2048x16_S8x2048x16x1_0_1_2 (Host.reduceAdd (mulf (KH m c) (KH m c)) (constant S_ .f32 0x00000000#32) reducesTo_S8x2048x16x64_S8x2048x16_d3 h_S_))) (broadcastInDim S8x2048x16x1 ![] bcast_S_S8x2048x16x1 (constant S_ .f32 0x2B8CBCCC#32)))))
def GX (m : (ℓ : Loc nD τ sig) → Buf (Elt Ideal) ℓ) (c : Dev nD) : FVec Ideal S8x2048x1024 .f32 := (shapeCast _ (extractStridedSlice S1x8x2048x1024 ![3, 0, 0, 0] (DG m c) slices_S4x8x2048x1024_S1x8x2048x1024_3_0_0_0) shapeCasts_S1x8x2048x1024_S8x2048x1024)
def R0 (m : (ℓ : Loc nD τ sig) → Buf (Elt Ideal) ℓ) (c : Dev nD) : FVec Ideal S16384x1024 .f32 := shapeCast _ (shapeCast _ (extractStridedSlice S1x8x2048x1024 ![0, 0, 0, 0] (DG m c) slices_S4x8x2048x1024_S1x8x2048x1024_0_0_0_0) shapeCasts_S1x8x2048x1024_S8x2048x1024) shapeCasts_S8x2048x1024_S16384x1024
def R1 (m : (ℓ : Loc nD τ sig) → Buf (Elt Ideal) ℓ) (c : Dev nD) : FVec Ideal S16384x1024 .f32 := (shapeCast _ (Host.exp (Host.negf (Host.exp (subf (Host.negf (select (cmpf .une (subf (WL m c) (broadcastInDim S8x2048x1024 ![] bcast_S_S8x2048x1024 (constant S_ .f32 0x00000000#32))) (subf (WL m c) (broadcastInDim S8x2048x1024 ![] bcast_S_S8x2048x1024 (constant S_ .f32 0x00000000#32)))) (addf (WL m c) (broadcastInDim S8x2048x1024 ![] bcast_S_S8x2048x1024 (constant S_ .f32 0x00000000#32))) (addf (maximumf (WL m c) (broadcastInDim S8x2048x1024 ![] bcast_S_S8x2048x1024 (constant S_ .f32 0x00000000#32))) (Host.log1p (Host.exp (Host.negf (Host.absf (subf (WL m c) (broadcastInDim S8x2048x1024 ![] bcast_S_S8x2048x1024 (constant S_ .f32 0x00000000#32)))))))))) (broadcastInDim S8x2048x1024 ![] bcast_S_S8x2048x1024 (constant S_ .f32 0x3F000000#32)))))) shapeCasts_S8x2048x1024_S16384x1024)
def R2 (m : (ℓ : Loc nD τ sig) → Buf (Elt Ideal) ℓ) (c : Dev nD) : FVec Ideal S16384x1024 .f32 := (shapeCast _ (mulf (KX m c) (addf (broadcastInDim S8x2048x1024 ![] bcast_S_S8x2048x1024 (constant S_ .f32 0x3F800000#32)) (mulf (subf (AX m c) (broadcastInDim S8x2048x1024 ![] bcast_S_S8x2048x1024 (constant S_ .f32 0x3F800000#32))) (broadcastInDim S8x2048x1024 ![0, 1, 2] bcast_S1x1x1024_S8x2048x1024_0_1_2 (broadcastInDim S1x1x1024 ![2] bcast_S1024_S1x1x1024_2 (shapeCast _ (A10 m c) shapeCasts_S1x1024_S1024)))))) shapeCasts_S8x2048x1024_S16384x1024)
def R3 (m : (ℓ : Loc nD τ sig) → Buf (Elt Ideal) ℓ) (c : Dev nD) : FVec Ideal S16384x1024 .f32 := shapeCast _ (shapeCast _ (extractStridedSlice S1x8x2048x1024 ![2, 0, 0, 0] (DG m c) slices_S4x8x2048x1024_S1x8x2048x1024_2_0_0_0) shapeCasts_S1x8x2048x1024_S8x2048x1024) shapeCasts_S8x2048x1024_S16384x1024
def R4 (m : (ℓ : Loc nD τ sig) → Buf (Elt Ideal) ℓ) (c : Dev nD) : FVec Ideal S16384x1024 .f32 := (shapeCast _ (Host.negf (KN m c)) shapeCasts_S8x2048x16x64_S16384x1024)
def R5 (m : (ℓ : Loc nD τ sig) → Buf (Elt Ideal) ℓ) (c : Dev nD) : FVec Ideal S16384x1024 .f32 := (shapeCast _ (mulf (KN m c) (shapeCast _ (AX m c) shapeCasts_S8x2048x1024_S8x2048x16x64)) shapeCasts_S8x2048x16x64_S16384x1024)
def R6 (m : (ℓ : Loc nD τ sig) → Buf (Elt Ideal) ℓ) (c : Dev nD) : FVec Ideal S16384x1024 .f32 := shapeCast _ (mulf (GX m c) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (GX m c)))))) shapeCasts_S8x2048x1024_S16384x1024

variable (a : Fin 16384)

theorem hn_at (d : Fin 1024) : HN m c (ix3 ⟨a.val / 2048, by omega⟩ ⟨a.val % 2048, by omega⟩ d) = A0 m c (ix2 a d) := by
  pointwise [HN]
theorem dl_at (d : Fin 1024) : DL m c (ix3 ⟨a.val / 2048, by omega⟩ ⟨a.val % 2048, by omega⟩ d) = (prev (A0 m c) a d - A0 m c (ix2 a d) : EReal) := by
  pointwise [DL]
  rw [hn_at]
  unfold prev
  refine congrArg (fun u : EReal => u - A0 m c (ix2 a d)) ?_
  split
  · rename_i h
    exact (if_pos (show a.val % 2048 = 0 by omega)).symm
  · rename_i h
    refine Eq.trans ?_ (if_neg (show ¬ a.val % 2048 = 0 by omega)).symm
    refine Eq.trans ?_ (hn_at m c ⟨a.val - 1, by omega⟩ d)
    exact congrArg₂ (fun u v => HN m c (ix3 u v d)) (Fin.ext (by dsimp only; omega)) (Fin.ext (by dsimp only; omega))
theorem xs_at (j : Fin 6) (d : Fin 1024) : XS m c (ix4 j ⟨a.val / 2048, by omega⟩ ⟨a.val % 2048, by omega⟩ d) = mix (A0 m c) (A1 m c) j a d := by
  pointwise [XS]
  simp only [hn_at, dl_at]
  rfl

theorem dg_at (j : Fin 4) (e : Fin 1024) : DG m c (ix4 j ⟨a.val / 2048, by omega⟩ ⟨a.val % 2048, by omega⟩ e) = proj (A0 m c) (A1 m c) (A2 m c) j a e := by
  pointwise [DG]
  simp only [xs_at]
  rfl
theorem kx_at (e : Fin 1024) : KX m c (ix3 ⟨a.val / 2048, by omega⟩ ⟨a.val % 2048, by omega⟩ e) = proj (A0 m c) (A1 m c) (A2 m c) 1 a e := by
  rw [← dg_at]
  pointwise [KX]
theorem gx_at (e : Fin 1024) : GX m c (ix3 ⟨a.val / 2048, by omega⟩ ⟨a.val % 2048, by omega⟩ e) = proj (A0 m c) (A1 m c) (A2 m c) 3 a e := by
  rw [← dg_at]
  pointwise [GX]
theorem wl_at (e : Fin 1024) : WL m c (ix3 ⟨a.val / 2048, by omega⟩ ⟨a.val % 2048, by omega⟩ e) = (-wl (A0 m c) (A1 m c) (A3 m c) (A4 m c) (A5 m c) a e : EReal) := by
  pointwise [WL]
  simp only [xs_at]
  rfl
theorem ax_at (e : Fin 1024) : AX m c (ix3 ⟨a.val / 2048, by omega⟩ ⟨a.val % 2048, by omega⟩ e) = al (A0 m c) (A1 m c) (A6 m c) (A7 m c) (A8 m c) a e := by
  pointwise [AX]
  simp only [xs_at]
  rfl
theorem kh_at (h : Fin 16) (n : Fin 64) : KH m c (ix4 ⟨a.val / 2048, by omega⟩ ⟨a.val % 2048, by omega⟩ h n) = kk0 (A0 m c) (A1 m c) (A2 m c) (A9 m c) a ⟨h.val * 64 + n.val, by omega⟩ := by
  pointwise [KH]
  simp only [kx_at]
  rfl
theorem kn_at (h : Fin 16) (n : Fin 64) : KN m c (ix4 ⟨a.val / 2048, by omega⟩ ⟨a.val % 2048, by omega⟩ h n) = kk (A0 m c) (A1 m c) (A2 m c) (A9 m c) a ⟨h.val * 64 + n.val, by omega⟩ := by
  pointwise [KN]
  simp only [kh_at]
  unfold kk hs
  have hn := n.isLt
  refine congrArg (fun u : EReal => Ideal.div _ (max (Ideal.sqrt u) _)) (Finset.sum_congr rfl fun i _ => ?_)
  exact congrArg (fun q => (kk0 (A0 m c) (A1 m c) (A2 m c) (A9 m c) a q * kk0 (A0 m c) (A1 m c) (A2 m c) (A9 m c) a q : EReal)) (Fin.ext (by dsimp only; omega))

theorem R0_at (e : Fin 1024) : R0 m c (ix2 a e) = proj (A0 m c) (A1 m c) (A2 m c) 0 a e := by
  rw [← dg_at]
  pointwise [R0]
theorem R1_at (e : Fin 1024) : R1 m c (ix2 a e) = dec (A0 m c) (A1 m c) (A3 m c) (A4 m c) (A5 m c) a e := by
  pointwise [R1]
  simp only [wl_at]
  unfold dec sp
  rw [if_neg (fun h => h rfl)]
  rfl
theorem R2_at (e : Fin 1024) : R2 m c (ix2 a e) = kmod (A0 m c) (A1 m c) (A2 m c) (A6 m c) (A7 m c) (A8 m c) (A10 m c) a e := by
  pointwise [R2]
  simp only [kx_at, ax_at]
  rfl
theorem R3_at (e : Fin 1024) : R3 m c (ix2 a e) = proj (A0 m c) (A1 m c) (A2 m c) 2 a e := by
  rw [← dg_at]
  pointwise [R3]
theorem R4_at (e : Fin 1024) : R4 m c (ix2 a e) = nkk (A0 m c) (A1 m c) (A2 m c) (A9 m c) a e := by
  pointwise [R4]
  simp only [kn_at]
  exact congrArg (fun q => (-kk (A0 m c) (A1 m c) (A2 m c) (A9 m c) a q : EReal)) (Fin.ext (by dsimp only; omega))
theorem R5_at (e : Fin 1024) : R5 m c (ix2 a e) = bkk (A0 m c) (A1 m c) (A2 m c) (A6 m c) (A7 m c) (A8 m c) (A9 m c) a e := by
  pointwise [R5]
  simp only [kn_at, ax_at]
  exact congrArg (fun q => (kk (A0 m c) (A1 m c) (A2 m c) (A9 m c) a q * al (A0 m c) (A1 m c) (A6 m c) (A7 m c) (A8 m c) a e : EReal)) (Fin.ext (by dsimp only; omega))
theorem R6_at (e : Fin 1024) : R6 m c (ix2 a e) = gt (A0 m c) (A1 m c) (A2 m c) a e := by
  pointwise [R6]
  simp only [gx_at]
  rfl

end Cert.MixRefIdeal.Mix
end
-- ==== Proof.MixEq.lean ====
module

public import proofs.«01_k».proof.Proof.MixVal
public import proofs.«01_k».proof.Proof.MixRef
public import proofs.«01_k».proof.Proof.AttnEq
public import proofs.«01_k».proof.Proof.Gen.MixIdeal.Value
public import proofs.«01_k».proof.Defs

@[expose] public section

set_option maxRecDepth 16384

noncomputable section

open Idealize.ShloMosaic Idealize.ShloMosaic.StableHlo Idealize.ShloMosaic.TcCoe Idealize.SL.Sem
open Cert.EvenSpec Cert.MixSpec Cert.Softmax

namespace Cert.MixEq

/-- The side conditions of the precondition's own operations. -/
theorem preFacts : Cert.Pre_finite_keys.Facts where
  bcast_S_S16384x1024 := by decide
  bcast_S_S1x6x1024 := by decide
  bcast_S_S1x4x1024x1024 := by decide
  bcast_S_S1x1024 := by decide

/-- The plain computation leaves its arguments as they were; it has no semaphore. -/
theorem ref_frame : Cert.quiescent_MixRefIdeal (hMixRefIdeal := Cert.MixRefIdeal.Gen.facts) := fun m g _ =>
  (θ_run Cert.MixRefIdeal.defs _ _).mono (fun r h => ⟨fun c => (h c).2.2.2.2.2.2.2, sem_eq_zero_of_no_sems (by decide) r.2⟩)
    (Cert.MixRefIdeal.Value.run (F := Ideal) m g)

/-- The keys made of numbers are numbers. -/
theorem real_kk0 (X : FVec Ideal ⟨2, ![16384, 1024]⟩ .f32) (MU : FVec Ideal ⟨3, ![1, 6, 1024]⟩ .f32) (W : FVec Ideal ⟨4, ![1, 4, 1024, 1024]⟩ .f32) (K : FVec Ideal ⟨2, ![1, 1024]⟩ .f32)
    (hX : ∀ j, Real' (X j)) (hM : ∀ j, Real' (MU j)) (hW : ∀ j, Real' (W j)) (hK : ∀ j, Real' (K j)) (a : Fin 16384) (e : Fin 1024) : Real' (kk0 X MU W K a e * kk0 X MU W K a e) := by
  have neg : ∀ x y : EReal, Real' x → Real' y → Real' (x - y) := by
    rintro x y ⟨u, rfl⟩ ⟨v, rfl⟩
    exact ⟨u - v, rfl⟩
  have hp : ∀ d, Real' (prev X a d) := by
    intro d
    unfold prev
    split
    · exact ⟨0, rfl⟩
    · exact hX _
  have hk : Real' (kk0 X MU W K a e) :=
    Real'.mul (Real'.sum fun d => Real'.mul (Real'.add (hX _) (Real'.mul (neg _ _ (hp d) (hX _)) (hM _))) (hW _)) (hK _)
  exact Real'.mul hk hk

section
variable [Cert.Pre_finite_keys.Facts]

theorem pre_real (m : (ℓ : Loc Cert.MixIdeal.nD Cert.MixIdeal.τ Cert.MixIdeal.sig) → Buf (Elt Ideal) ℓ) (h : Cert.Pre_MixIdeal_finite_keys m) (c : Dev Cert.MixIdeal.nD) (a : Fin 16384) (e : Fin 1024) :
    Real' (kk0 (Cert.MixIdeal.Mix.A0 m c) (Cert.MixIdeal.Mix.A1 m c) (Cert.MixIdeal.Mix.A2 m c) (Cert.MixIdeal.Mix.A9 m c) a e * kk0 (Cert.MixIdeal.Mix.A0 m c) (Cert.MixIdeal.Mix.A1 m c) (Cert.MixIdeal.Mix.A2 m c) (Cert.MixIdeal.Mix.A9 m c) a e) := by
  obtain ⟨a0, a1, a2, a3⟩ := h c
  refine real_kk0 _ _ _ _ (fun j => Cert.AttnEq.real_of_pre _ ?_) (fun j => Cert.AttnEq.real_of_pre _ ?_) (fun j => Cert.AttnEq.real_of_pre _ ?_) (fun j => Cert.AttnEq.real_of_pre _ ?_) a e
  · exact congrFun a0 j
  · exact congrFun a1 j
  · exact congrFun a2 j
  · exact congrFun a3 j

end

section
variable (m : (ℓ : Loc Cert.MixIdeal.nD Cert.MixIdeal.τ Cert.MixIdeal.sig) → Buf (Elt Ideal) ℓ) (c : Dev Cert.MixIdeal.nD)
  (m' : (ℓ : Loc Cert.MixRefIdeal.nD Cert.MixRefIdeal.τ Cert.MixRefIdeal.sig) → Buf (Elt Ideal) ℓ)

/-- The two programs hold the same arguments. -/
structure Same : Prop where
  q0 : Cert.MixRefIdeal.Mix.A0 m' c = Cert.MixIdeal.Mix.A0 m c
  q1 : Cert.MixRefIdeal.Mix.A1 m' c = Cert.MixIdeal.Mix.A1 m c
  q2 : Cert.MixRefIdeal.Mix.A2 m' c = Cert.MixIdeal.Mix.A2 m c
  q3 : Cert.MixRefIdeal.Mix.A3 m' c = Cert.MixIdeal.Mix.A3 m c
  q4 : Cert.MixRefIdeal.Mix.A4 m' c = Cert.MixIdeal.Mix.A4 m c
  q5 : Cert.MixRefIdeal.Mix.A5 m' c = Cert.MixIdeal.Mix.A5 m c
  q6 : Cert.MixRefIdeal.Mix.A6 m' c = Cert.MixIdeal.Mix.A6 m c
  q7 : Cert.MixRefIdeal.Mix.A7 m' c = Cert.MixIdeal.Mix.A7 m c
  q8 : Cert.MixRefIdeal.Mix.A8 m' c = Cert.MixIdeal.Mix.A8 m c
  q9 : Cert.MixRefIdeal.Mix.A9 m' c = Cert.MixIdeal.Mix.A9 m c
  q10 : Cert.MixRefIdeal.Mix.A10 m' c = Cert.MixIdeal.Mix.A10 m c

variable {m c m'} (q : Same m c m')
include q

theorem res0 : Cert.MixRefIdeal.Mix.R0 m' c = (Cert.MixIdeal.Gen.dats m 0 c).arrAt 16 (Cert.MixIdeal.cfgs 0).N := by
  refine Eq.trans (funext fun j => ?_) (Cert.MixIdeal.Mix.final16 m c).symm
  obtain ⟨a, b, rfl⟩ : ∃ (a : Fin 16384) (b : Fin 1024), j = ix2 a b := ⟨j 0, j 1, (ix2_eta j).symm⟩
  refine (Cert.MixRefIdeal.Mix.R0_at m' c a b).trans ?_
  rw [q.q0, q.q1, q.q2]
  rfl

theorem res1 : Cert.MixRefIdeal.Mix.R1 m' c = (Cert.MixIdeal.Gen.dats m 0 c).arrAt 17 (Cert.MixIdeal.cfgs 0).N := by
  refine Eq.trans (funext fun j => ?_) (Cert.MixIdeal.Mix.final17 m c).symm
  obtain ⟨a, b, rfl⟩ : ∃ (a : Fin 16384) (b : Fin 1024), j = ix2 a b := ⟨j 0, j 1, (ix2_eta j).symm⟩
  refine (Cert.MixRefIdeal.Mix.R1_at m' c a b).trans ?_
  rw [q.q0, q.q1, q.q3, q.q4, q.q5]
  rfl

theorem res2 : Cert.MixRefIdeal.Mix.R2 m' c = (Cert.MixIdeal.Gen.dats m 0 c).arrAt 18 (Cert.MixIdeal.cfgs 0).N := by
  refine Eq.trans (funext fun j => ?_) (Cert.MixIdeal.Mix.final18 m c).symm
  obtain ⟨a, b, rfl⟩ : ∃ (a : Fin 16384) (b : Fin 1024), j = ix2 a b := ⟨j 0, j 1, (ix2_eta j).symm⟩
  refine (Cert.MixRefIdeal.Mix.R2_at m' c a b).trans ?_
  rw [q.q0, q.q1, q.q2, q.q6, q.q7, q.q8, q.q10]
  rfl

theorem res3 : Cert.MixRefIdeal.Mix.R3 m' c = (Cert.MixIdeal.Gen.dats m 0 c).arrAt 19 (Cert.MixIdeal.cfgs 0).N := by
  refine Eq.trans (funext fun j => ?_) (Cert.MixIdeal.Mix.final19 m c).symm
  obtain ⟨a, b, rfl⟩ : ∃ (a : Fin 16384) (b : Fin 1024), j = ix2 a b := ⟨j 0, j 1, (ix2_eta j).symm⟩
  refine (Cert.MixRefIdeal.Mix.R3_at m' c a b).trans ?_
  rw [q.q0, q.q1, q.q2]
  rfl

theorem res4 (hq : ∀ a e, Real' (kk0 (Cert.MixIdeal.Mix.A0 m c) (Cert.MixIdeal.Mix.A1 m c) (Cert.MixIdeal.Mix.A2 m c) (Cert.MixIdeal.Mix.A9 m c) a e * kk0 (Cert.MixIdeal.Mix.A0 m c) (Cert.MixIdeal.Mix.A1 m c) (Cert.MixIdeal.Mix.A2 m c) (Cert.MixIdeal.Mix.A9 m c) a e)) : Cert.MixRefIdeal.Mix.R4 m' c = (Cert.MixIdeal.Gen.dats m 0 c).arrAt 20 (Cert.MixIdeal.cfgs 0).N := by
  refine Eq.trans (funext fun j => ?_) (Cert.MixIdeal.Mix.final20 m c hq).symm
  obtain ⟨a, b, rfl⟩ : ∃ (a : Fin 16384) (b : Fin 1024), j = ix2 a b := ⟨j 0, j 1, (ix2_eta j).symm⟩
  refine (Cert.MixRefIdeal.Mix.R4_at m' c a b).trans ?_
  rw [q.q0, q.q1, q.q2, q.q9]
  rfl

theorem res5 (hq : ∀ a e, Real' (kk0 (Cert.MixIdeal.Mix.A0 m c) (Cert.MixIdeal.Mix.A1 m c) (Cert.MixIdeal.Mix.A2 m c) (Cert.MixIdeal.Mix.A9 m c) a e * kk0 (Cert.MixIdeal.Mix.A0 m c) (Cert.MixIdeal.Mix.A1 m c) (Cert.MixIdeal.Mix.A2 m c) (Cert.MixIdeal.Mix.A9 m c) a e)) : Cert.MixRefIdeal.Mix.R5 m' c = (Cert.MixIdeal.Gen.dats m 0 c).arrAt 21 (Cert.MixIdeal.cfgs 0).N := by
  refine Eq.trans (funext fun j => ?_) (Cert.MixIdeal.Mix.final21 m c hq).symm
  obtain ⟨a, b, rfl⟩ : ∃ (a : Fin 16384) (b : Fin 1024), j = ix2 a b := ⟨j 0, j 1, (ix2_eta j).symm⟩
  refine (Cert.MixRefIdeal.Mix.R5_at m' c a b).trans ?_
  rw [q.q0, q.q1, q.q2, q.q6, q.q7, q.q8, q.q9]
  rfl

theorem res6 : Cert.MixRefIdeal.Mix.R6 m' c = (Cert.MixIdeal.Gen.dats m 0 c).arrAt 22 (Cert.MixIdeal.cfgs 0).N := by
  refine Eq.trans (funext fun j => ?_) (Cert.MixIdeal.Mix.final22 m c).symm
  obtain ⟨a, b, rfl⟩ : ∃ (a : Fin 16384) (b : Fin 1024), j = ix2 a b := ⟨j 0, j 1, (ix2_eta j).symm⟩
  refine (Cert.MixRefIdeal.Mix.R6_at m' c a b).trans ?_
  rw [q.q0, q.q1, q.q2]
  rfl

end

variable [Cert.Pre_finite_keys.Facts]

theorem algebraic : Cert.algebraic_MixIdeal_MixRefIdeal_pre_finite_keys (hMixIdeal := Cert.MixIdeal.Gen.facts) (hMixRefIdeal := Cert.MixRefIdeal.Gen.facts) := by
  intro m g m' g' hpre hag
  refine ⟨fun c => (Cert.MixIdeal.Gen.dats m 0 c).arrAt 16 (Cert.MixIdeal.cfgs 0).N, fun c => (Cert.MixIdeal.Gen.dats m 0 c).arrAt 17 (Cert.MixIdeal.cfgs 0).N, fun c => (Cert.MixIdeal.Gen.dats m 0 c).arrAt 18 (Cert.MixIdeal.cfgs 0).N, fun c => (Cert.MixIdeal.Gen.dats m 0 c).arrAt 19 (Cert.MixIdeal.cfgs 0).N, fun c => (Cert.MixIdeal.Gen.dats m 0 c).arrAt 20 (Cert.MixIdeal.cfgs 0).N, fun c => (Cert.MixIdeal.Gen.dats m 0 c).arrAt 21 (Cert.MixIdeal.cfgs 0).N, fun c => (Cert.MixIdeal.Gen.dats m 0 c).arrAt 22 (Cert.MixIdeal.cfgs 0).N,
    Cert.MixIdeal.Value.run_blocks (F := Ideal) m g, ?_⟩
  refine (θ_run Cert.MixRefIdeal.defs _ _).mono (fun r h c => ?_) (Cert.MixRefIdeal.Value.run (F := Ideal) m' g')
  obtain ⟨g0, g1, g2, g3, g4, g5, g6, g7, g8, g9, g10⟩ := hag c
  have q : Same m c m' := ⟨g0, g1, g2, g3, g4, g5, g6, g7, g8, g9, g10⟩
  have hq := pre_real m hpre c
  have k := h c
  exact ⟨k.1.trans (res0 q), k.2.1.trans (res1 q), k.2.2.1.trans (res2 q), k.2.2.2.1.trans (res3 q), k.2.2.2.2.1.trans (res4 q hq), k.2.2.2.2.2.1.trans (res5 q hq), k.2.2.2.2.2.2.1.trans (res6 q), k.2.2.2.2.2.2.2⟩

end Cert.MixEq
end
-- ==== Proof.LastSpec.lean ====
module

public import proofs.«01_k».proof.Proof.MidSpec
public import proofs.«01_k».proof.Proof.HeadSum

@[expose] public section

set_option maxRecDepth 16384

noncomputable section

open Idealize.ShloMosaic Idealize.ShloMosaic.TcCoe Idealize.SL.Sem
open Cert.EvenSpec Cert.HeadSum Cert.Softmax

/-! What the call after the recurrence computes, entry by entry, from its arguments. -/
namespace Cert.LastSpec

/-- The lanes of a head. -/
abbrev n64 : EReal := Ideal.ofBits FTy.f32 0x42800000#32

/-- A row less the mean of each head. -/
def yc (y : Fin 1024 → EReal) (e : Fin 1024) : EReal := y e - Ideal.div (hs y e) n64

/-- The variance of each head. -/
def vr (y : Fin 1024 → EReal) (e : Fin 1024) : EReal := Ideal.div (hs (fun e => yc y e * yc y e) e) n64

/-- A row, normalized over each head. -/
def yn (y w b : Fin 1024 → EReal) (e : Fin 1024) : EReal :=
  yc y e * Ideal.rsqrt (vr y e + Ideal.ofBits FTy.f32 0x3A27C5AC#32) * w e + b e

/-- The value, by the product of receptance and key over the head. -/
def bonus (r k s v : Fin 1024 → EReal) (e : Fin 1024) : EReal := hs (fun e => r e * k e * s e) e * v e

section
variable (Y R K V G H : FVec Ideal ⟨2, ![16384, 1024]⟩ .f32) (P : FVec Ideal ⟨4, ![2, 8, 2048, 256]⟩ .f32)
  (LW LB : FVec Ideal ⟨2, ![1, 1024]⟩ .f32) (RK : FVec Ideal ⟨3, ![1, 16, 64]⟩ .f32)
  (W : FVec Ideal ⟨3, ![1, 1024, 1024]⟩ .f32) (N : FVec Ideal ⟨2, ![2, 1024]⟩ .f32) (PG : FVec Ideal ⟨3, ![2, 1024, 1024]⟩ .f32)
  (PP : FVec Ideal ⟨3, ![2, 256, 1024]⟩ .f32) (FN : FVec Ideal ⟨1, ![1024]⟩ .f32)

/-- The weights of the bonus, as one row. -/
def rk (e : Fin 1024) : EReal := RK (ix3 0 ⟨e.val / 64, by omega⟩ ⟨e.val % 64, by omega⟩)

/-- The gated sum that the output projection reads. -/
def mx (r : Fin 16384) (d : Fin 1024) : EReal :=
  (yn (fun d => Y (ix2 r d)) (fun d => LW (ix2 0 d)) (fun d => LB (ix2 0 d)) d
    + bonus (fun d => R (ix2 r d)) (fun d => K (ix2 r d)) (rk RK) (fun d => V (ix2 r d)) d) * G (ix2 r d)

/-- The layer's sum before the per-layer embedding. -/
def h0 (r : Fin 16384) (e : Fin 1024) : EReal := H (ix2 r e) + ∑ d, mx Y R K V G LW LB RK r d * W (ix3 0 d e)

/-- The layer's result. -/
def h1 (r : Fin 16384) (e : Fin 1024) : EReal :=
  MidSpec.ple (h0 Y R K V G H LW LB RK W r) (fun d => N (ix2 1 d)) (fun d e => PG (ix3 1 d e))
    (fun d => P (ix4 1 ⟨r.val / 2048, by omega⟩ ⟨r.val % 2048, by omega⟩ d)) (fun d e => PP (ix3 1 d e)) e

/-- The trunk's result. -/
def out (r : Fin 16384) (e : Fin 1024) : EReal := nrm MidSpec.wd (h1 Y R K V G H P LW LB RK W N PG PP r) (fun d => FN (ix1 d)) e

end

theorem n64_eq : n64 = ((64 : ℝ) : EReal) := by
  simp [n64, Ideal.ofBits, Ideal.ieee, -EReal.coe_mul]; norm_num
theorem r64_eq : Ideal.ofBits FTy.f32 0x3C800000#32 = (((1 : ℝ) / 64 : ℝ) : EReal) := by
  simp [Ideal.ofBits, Ideal.ieee, -EReal.coe_mul]; norm_num

/-- A product with a 64th is the quotient by 64. -/
theorem mul_r64 (x : EReal) : x * Ideal.ofBits FTy.f32 0x3C800000#32 = Ideal.div x n64 := by
  have h : ((64 : ℝ) : EReal) ≠ 0 := by
    intro h
    exact absurd (EReal.coe_eq_zero.1 h) (by norm_num)
  rw [r64_eq, n64_eq]
  unfold Ideal.div
  rw [if_neg h, ← EReal.coe_inv, one_div]

theorem real_div (x : EReal) (hx : Real' x) : Real' (Ideal.div x n64) := by
  rw [← mul_r64, r64_eq]
  exact Real'.mul hx ⟨_, rfl⟩
theorem real_hs (q : Fin 1024 → EReal) (hq : ∀ e, Real' (q e)) (e : Fin 1024) : Real' (hs q e) := Real'.sum fun i => hq _
theorem real_yc (y : Fin 1024 → EReal) (hy : ∀ e, Real' (y e)) (e : Fin 1024) : Real' (yc y e) := by
  obtain ⟨u, hu⟩ := hy e
  obtain ⟨v, hv⟩ := real_div _ (real_hs y hy e)
  unfold yc
  rw [hu, hv]
  exact ⟨u - v, rfl⟩

end Cert.LastSpec
end
-- ==== Proof.LastOps.lean ====
module

public import proofs.«01_k».proof.Proof.LastSpec
public import proofs.«01_k».proof.Proof.Gen.LastIdeal.Frame
public import Idealize.ShloMosaic.Lib.Pipeline.ValueKit
public import Idealize.ShloMosaic.Lib.Pointwise
public import Idealize.ShloMosaic.Lib.StableHlo.RunRead
public import Idealize.ShloMosaic.Lib.StableHlo.ReadAt

@[expose] public section

set_option maxRecDepth 16384

noncomputable section

open Idealize.ShloMosaic Idealize.ShloMosaic.StableHlo Idealize.ShloMosaic.TcCoe Idealize.SL.Sem

namespace Cert.LastIdeal.Last

open Cert.LastSpec Cert.HeadSum Cert.LastIdeal Cert.LastIdeal.Gen

variable (m : (ℓ : Loc nD τ sig) → Buf (Elt Ideal) ℓ)

/-- The arguments, by name. -/
abbrev A0 (c : Dev nD) : FVec Ideal ⟨2, ![16384, 1024]⟩ .f32 := m ((c : Thread nD τ).loc main_arg0)
abbrev A1 (c : Dev nD) : FVec Ideal ⟨2, ![16384, 1024]⟩ .f32 := m ((c : Thread nD τ).loc main_arg1)
abbrev A2 (c : Dev nD) : FVec Ideal ⟨2, ![16384, 1024]⟩ .f32 := m ((c : Thread nD τ).loc main_arg2)
abbrev A3 (c : Dev nD) : FVec Ideal ⟨2, ![16384, 1024]⟩ .f32 := m ((c : Thread nD τ).loc main_arg3)
abbrev A4 (c : Dev nD) : FVec Ideal ⟨2, ![16384, 1024]⟩ .f32 := m ((c : Thread nD τ).loc main_arg4)
abbrev A5 (c : Dev nD) : FVec Ideal ⟨2, ![16384, 1024]⟩ .f32 := m ((c : Thread nD τ).loc main_arg5)
abbrev A6 (c : Dev nD) : FVec Ideal ⟨4, ![2, 8, 2048, 256]⟩ .f32 := m ((c : Thread nD τ).loc main_arg6)
abbrev A7 (c : Dev nD) : FVec Ideal ⟨2, ![1, 1024]⟩ .f32 := m ((c : Thread nD τ).loc main_arg7)
abbrev A8 (c : Dev nD) : FVec Ideal ⟨2, ![1, 1024]⟩ .f32 := m ((c : Thread nD τ).loc main_arg8)
abbrev A9 (c : Dev nD) : FVec Ideal ⟨3, ![1, 16, 64]⟩ .f32 := m ((c : Thread nD τ).loc main_arg9)
abbrev A10 (c : Dev nD) : FVec Ideal ⟨3, ![1, 1024, 1024]⟩ .f32 := m ((c : Thread nD τ).loc main_arg10)
abbrev A11 (c : Dev nD) : FVec Ideal ⟨2, ![2, 1024]⟩ .f32 := m ((c : Thread nD τ).loc main_arg11)
abbrev A12 (c : Dev nD) : FVec Ideal ⟨3, ![2, 1024, 1024]⟩ .f32 := m ((c : Thread nD τ).loc main_arg12)
abbrev A13 (c : Dev nD) : FVec Ideal ⟨3, ![2, 256, 1024]⟩ .f32 := m ((c : Thread nD τ).loc main_arg13)
abbrev A14 (c : Dev nD) : FVec Ideal ⟨1, ![1024]⟩ .f32 := m ((c : Thread nD τ).loc main_arg14)

theorem p_at (c : Dev nD) (a : Fin 16384) (d : Fin 256) : V m c main_v14 (ix2 a d) = A6 m c (ix4 1 ⟨a.val / 2048, by omega⟩ ⟨a.val % 2048, by omega⟩ d) := by
  unfold V
  after_reads_simp
  pointwise
theorem lw_at (c : Dev nD) (d : Fin 1024) : V m c main_v16 (ix2 0 d) = A7 m c (ix2 0 d) := by
  unfold V
  after_reads_simp
  pointwise
theorem lb_at (c : Dev nD) (d : Fin 1024) : V m c main_v18 (ix2 0 d) = A8 m c (ix2 0 d) := by
  unfold V
  after_reads_simp
  pointwise
theorem rk_at (c : Dev nD) (d : Fin 1024) : V m c main_v20 (ix2 0 d) = rk (A9 m c) d := by
  unfold V rk
  after_reads_simp
  pointwise
theorem w_at (c : Dev nD) (d e : Fin 1024) : V m c main_v22 (ix2 d e) = A10 m c (ix3 0 d e) := by
  unfold V
  after_reads_simp
  pointwise
theorem n_at (c : Dev nD) (d : Fin 1024) : V m c main_v25 (ix2 0 d) = A11 m c (ix2 1 d) := by
  unfold V
  after_reads_simp
  pointwise
theorem g_at (c : Dev nD) (d e : Fin 1024) : V m c main_v27 (ix2 d e) = A12 m c (ix3 1 d e) := by
  unfold V
  after_reads_simp
  pointwise
theorem q_at (c : Dev nD) (d : Fin 256) (e : Fin 1024) : V m c main_v29 (ix2 d e) = A13 m c (ix3 1 d e) := by
  unfold V
  after_reads_simp
  pointwise
theorem f_at (c : Dev nD) (d : Fin 1024) : V m c main_v30 (ix2 0 d) = A14 m c (ix1 d) := by
  unfold V
  after_reads_simp
  pointwise
theorem div_at : ∀ a : Fin 256, IntOp.divsi ArithUnit.host (BitVec.ofNat 32 a.val) 64#32 = BitVec.ofNat 32 (a.val / 64) := by decide
theorem bd_at (c : Dev nD) (a b : Fin 256) : V m c main_v8 (ix2 a b) = bdE a b := by
  entry_read
  pointwise
  rw [div_at, div_at]
  unfold bdE
  have key : ∀ u v : Fin 4, (FloatOps.uitofp (F := Ideal) FTy.bf16 (IntOp.cmpi CmpIPredicate.eq (BitVec.ofNat 32 u.val) (BitVec.ofNat 32 v.val)) : EReal) = if u.val = v.val then 1 else 0 := by
    intro u v
    fin_cases u <;> fin_cases v <;> simp [FloatOps.uitofp, IntOp.cmpi]
  exact key ⟨a.val / 64, by omega⟩ ⟨b.val / 64, by omega⟩

end Cert.LastIdeal.Last
end
-- ==== Proof.Sim.lean ====
module

public import proofs.«01_k».proof.Proof.MidSpec
public import proofs.«01_k».proof.Proof.HeadSum

@[expose] public section

set_option maxRecDepth 16384

noncomputable section

open Idealize.ShloMosaic Idealize.ShloMosaic.TcCoe Idealize.SL.Sem
open Cert.EvenSpec Cert.HeadSum

/-! Values that agree unless both are infinite. A normalized row does not tell them apart: a row with an infinite entry has an infinite mean square, so it is normalized to zero. -/
namespace Cert.Sim

/-- One of the two infinities. -/
def Inf (x : EReal) : Prop := x = ⊤ ∨ x = ⊥

/-- Equal, or both infinite. -/
def Sim (x y : EReal) : Prop := x = y ∨ (Inf x ∧ Inf y)

theorem Inf.add {x : EReal} (h : Inf x) (z : EReal) : Inf (x + z) := by
  rcases h with rfl | rfl
  · by_cases hz : z = ⊥
    · subst hz
      exact Or.inr (EReal.add_bot _)
    · exact Or.inl (EReal.top_add_of_ne_bot hz)
  · exact Or.inr (EReal.bot_add _)
theorem Inf.mul {x : EReal} (h : Inf x) {z : EReal} (hz : z ≠ 0) : Inf (x * z) := by
  rcases lt_or_gt_of_ne hz with n | p
  · rcases h with rfl | rfl
    · exact Or.inr (EReal.top_mul_of_neg n)
    · exact Or.inl (EReal.bot_mul_of_neg n)
  · rcases h with rfl | rfl
    · exact Or.inl (EReal.top_mul_of_pos p)
    · exact Or.inr (EReal.bot_mul_of_pos p)
theorem Inf.sum {n : ℕ} {f : Fin n → EReal} (h : ∃ i, Inf (f i)) : Inf (∑ i, f i) := by
  obtain ⟨i, hi⟩ := h
  rw [← Finset.add_sum_erase Finset.univ f (Finset.mem_univ i)]
  exact hi.add _
theorem Inf.sub_self {x : EReal} (h : Inf x) : Inf (x - x) := by
  rw [sub_eq_add_neg]
  exact h.add _
theorem sub_self_of {x : EReal} (h : ¬ Inf x) : x - x = 0 := EReal.sub_self (fun e => h (Or.inl e)) (fun e => h (Or.inr e))

theorem Sim.inf {x y : EReal} (h : Sim x y) (hx : Inf x) : Inf y := by
  rcases h with rfl | h
  · exact hx
  · exact h.2
theorem Sim.eq {x y : EReal} (h : Sim x y) (hx : ¬ Inf x) : x = y := by
  rcases h with h | h
  · exact h
  · exact absurd h.1 hx
theorem Sim.add {x x' : EReal} (h : Sim x x') (z : EReal) : Sim (x + z) (x' + z) := by
  rcases h with rfl | h
  · exact Or.inl rfl
  · exact Or.inr ⟨h.1.add z, h.2.add z⟩
theorem Sim.mul {x x' : EReal} (h : Sim x x') (z : EReal) : Sim (x * z) (x' * z) := by
  rcases h with rfl | h
  · exact Or.inl rfl
  · by_cases hz : z = 0
    · subst hz
      exact Or.inl ((mul_zero _).trans (mul_zero _).symm)
    · exact Or.inr ⟨h.1.mul hz, h.2.mul hz⟩
theorem Sim.sum {n : ℕ} {f f' : Fin n → EReal} (h : ∀ i, Sim (f i) (f' i)) : Sim (∑ i, f i) (∑ i, f' i) := by
  by_cases hf : ∃ i, Inf (f i)
  · obtain ⟨i, hi⟩ := hf
    exact Or.inr ⟨Inf.sum ⟨i, hi⟩, Inf.sum ⟨i, (h i).inf hi⟩⟩
  · exact Or.inl (Finset.sum_congr rfl fun i _ => (h i).eq fun hi => hf ⟨i, hi⟩)

theorem sq_nonneg (x : EReal) : 0 ≤ x * x := by
  rcases le_total 0 x with h | h
  · exact EReal.mul_nonneg h h
  · exact EReal.mul_nonneg_iff.2 (Or.inr ⟨h, h⟩)
theorem sq_top {x : EReal} (h : Inf x) : x * x = ⊤ := by
  rcases h with rfl | rfl
  · exact EReal.top_mul_top
  · exact EReal.bot_mul_bot

theorem wd_eq : MidSpec.wd = ((1024 : ℝ) : EReal) := by
  simp [MidSpec.wd, Ideal.ofBits, Ideal.ieee, -EReal.coe_mul]; norm_num

/-- A row with an infinite entry is scaled by zero. -/
theorem inv_zero {n : ℕ} {x : Fin n → EReal} (h : ∃ i, Inf (x i)) : EvenSpec.inv MidSpec.wd x = 0 := by
  obtain ⟨i, hi⟩ := h
  have hs : ∑ d, x d * x d = ⊤ := by
    rw [← Finset.add_sum_erase Finset.univ (fun d => x d * x d) (Finset.mem_univ i)]
    rw [sq_top hi]
    refine EReal.top_add_of_ne_bot (ne_of_gt (lt_of_lt_of_le EReal.bot_lt_zero (Finset.sum_nonneg fun d _ => sq_nonneg (x d))))
  have hw : ((1024 : ℝ) : EReal) ≠ 0 := by
    intro h
    exact absurd (EReal.coe_eq_zero.1 h) (by norm_num)
  have he : Ideal.ofBits FTy.f32 897988541#32 ≠ ⊥ := by
    simp [Ideal.ofBits, Ideal.ieee, -EReal.coe_mul]
  unfold EvenSpec.inv
  rw [hs, wd_eq]
  unfold Ideal.div
  rw [if_neg hw, ← EReal.coe_inv, EReal.top_mul_coe_of_pos (by norm_num), EReal.top_add_of_ne_bot he]
  rfl

/-- Such rows are normalized alike. -/
theorem nrm_sim {n : ℕ} {x x' : Fin n → EReal} (h : ∀ i, Sim (x i) (x' i)) (g : Fin n → EReal) (d : Fin n) : nrm MidSpec.wd x g d = nrm MidSpec.wd x' g d := by
  by_cases hx : ∃ i, Inf (x i)
  · have hx' : ∃ i, Inf (x' i) := by
      obtain ⟨i, hi⟩ := hx
      exact ⟨i, (h i).inf hi⟩
    unfold nrm
    rw [inv_zero hx, inv_zero hx', mul_zero, mul_zero]
  · exact congrArg (fun u => nrm MidSpec.wd u g d) (funext fun i => (h i).eq fun hi => hx ⟨i, hi⟩)
theorem ple_sim {h h' : Fin 1024 → EReal} (H : ∀ i, Sim (h i) (h' i)) (n : Fin 1024 → EReal) (g : Fin 1024 → Fin 1024 → EReal) (p : Fin 256 → EReal) (q : Fin 256 → Fin 1024 → EReal) (e : Fin 1024) :
    Sim (MidSpec.ple h n g p q e) (MidSpec.ple h' n g p q e) := by
  unfold MidSpec.ple
  rw [show nrm MidSpec.wd h n = nrm MidSpec.wd h' n from funext fun d => nrm_sim H n d]
  exact (H e).add _

/-- One quarter of a row in two parts: the sum over a head, or both are infinite. -/
theorem quarter (q : Fin 1024 → EReal) (B : Fin 256 → Fin 256 → EReal) (hB : ∀ a b, B a b = bdE a b)
    (o : ℕ) (ho : o + 256 ≤ 1024) (h64 : o % 64 = 0) (j : Fin 256) (e : Fin 1024) (he : e.val = o + j.val) :
    Sim ((∑ a : Fin 256, q ⟨o + a.val, by omega⟩ * B a j) + (∑ a : Fin 256, (q ⟨o + a.val, by omega⟩ - q ⟨o + a.val, by omega⟩) * B a j)) (hs q e) := by
  simp only [hB]
  rw [block (fun a => q ⟨o + a.val, by omega⟩) j, block (fun a => q ⟨o + a.val, by omega⟩ - q ⟨o + a.val, by omega⟩) j]
  have key : hs q e = ∑ i : Fin 64, q ⟨o + (j.val / 64 * 64 + i.val), by omega⟩ := by
    unfold hs
    refine Finset.sum_congr rfl fun i _ => congrArg q (Fin.ext ?_)
    dsimp only
    omega
  rw [key]
  by_cases h : ∃ i : Fin 64, Inf (q ⟨o + (j.val / 64 * 64 + i.val), by omega⟩)
  · exact Or.inr ⟨(Inf.sum h).add _, Inf.sum h⟩
  · refine Or.inl ?_
    rw [Finset.sum_eq_zero (s := Finset.univ) (f := fun i : Fin 64 => q ⟨o + (j.val / 64 * 64 + i.val), _⟩ - q ⟨o + (j.val / 64 * 64 + i.val), _⟩) (fun i _ => sub_self_of fun hi => h ⟨i, hi⟩), add_zero]

end Cert.Sim
end
-- ==== Proof.LastPay.lean ====
module

public import proofs.«01_k».proof.Proof.LastSpec
public import proofs.«01_k».proof.Proof.Sim
public import proofs.«01_k».proof.Proof.Gen.LastIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.EvenSpec Cert.LastSpec Cert.HeadSum Cert.Softmax

namespace Cert.LastIdeal.Last

open Cert.LastIdeal Cert.LastIdeal.Gen

/-- The four quarters side by side are the sum over a head. -/
theorem heads (q : Fin 1024 → EReal) (hq : ∀ e, Real' (q e)) (B : Fin 256 → Fin 256 → EReal) (hB : ∀ a b, B a b = bdE a b) (e : Fin 1024)
    (f0 f1 f2 f3 : Fin 256 → EReal)
    (h0 : ∀ j, f0 j = (∑ a : Fin 256, q ⟨a.val, by omega⟩ * B a j) + ∑ a : Fin 256, (q ⟨a.val, by omega⟩ - q ⟨a.val, by omega⟩) * B a j)
    (h1 : ∀ j, f1 j = (∑ a : Fin 256, q ⟨256 + a.val, by omega⟩ * B a j) + ∑ a : Fin 256, (q ⟨256 + a.val, by omega⟩ - q ⟨256 + a.val, by omega⟩) * B a j)
    (h2 : ∀ j, f2 j = (∑ a : Fin 256, q ⟨512 + a.val, by omega⟩ * B a j) + ∑ a : Fin 256, (q ⟨512 + a.val, by omega⟩ - q ⟨512 + a.val, by omega⟩) * B a j)
    (h3 : ∀ j, f3 j = (∑ a : Fin 256, q ⟨768 + a.val, by omega⟩ * B a j) + ∑ a : Fin 256, (q ⟨768 + a.val, by omega⟩ - q ⟨768 + a.val, by omega⟩) * B a j) :
    (if h : e.val < 256 then f0 ⟨e.val, h⟩ else if h : e.val - 256 < 256 then f1 ⟨e.val - 256, h⟩
      else if h : e.val - 256 - 256 < 256 then f2 ⟨e.val - 256 - 256, h⟩ else f3 ⟨e.val - 256 - 256 - 256, by omega⟩) = hs q e := by
  have he := e.isLt
  have G := fun (o : ℕ) (ho : o + 256 ≤ 1024) (h64 : o % 64 = 0) (j : Fin 256) (h : e.val = o + j.val) => quarter q hq B hB o ho h64 j e h
  split
  · rename_i h
    rw [h0]
    have := G 0 (by omega) (by omega) ⟨e.val, h⟩ (by dsimp only; omega)
    simpa only [Nat.zero_add] using this
  · split
    · rename_i h1' h
      rw [h1]
      exact G 256 (by omega) (by omega) ⟨e.val - 256, h⟩ (by dsimp only; omega)
    · split
      · rename_i h2' h1' h
        rw [h2]
        exact G 512 (by omega) (by omega) ⟨e.val - 256 - 256, h⟩ (by dsimp only; omega)
      · rename_i h3' h2' h1'
        rw [h3]
        exact G 768 (by omega) (by omega) ⟨e.val - 256 - 256 - 256, by omega⟩ (by dsimp only; omega)

/-- The four quarters side by side are the sum over a head, or both are infinite. -/
theorem heads_sim (q : Fin 1024 → EReal) (B : Fin 256 → Fin 256 → EReal) (hB : ∀ a b, B a b = bdE a b) (e : Fin 1024)
    (f0 f1 f2 f3 : Fin 256 → EReal)
    (h0 : ∀ j, f0 j = (∑ a : Fin 256, q ⟨a.val, by omega⟩ * B a j) + ∑ a : Fin 256, (q ⟨a.val, by omega⟩ - q ⟨a.val, by omega⟩) * B a j)
    (h1 : ∀ j, f1 j = (∑ a : Fin 256, q ⟨256 + a.val, by omega⟩ * B a j) + ∑ a : Fin 256, (q ⟨256 + a.val, by omega⟩ - q ⟨256 + a.val, by omega⟩) * B a j)
    (h2 : ∀ j, f2 j = (∑ a : Fin 256, q ⟨512 + a.val, by omega⟩ * B a j) + ∑ a : Fin 256, (q ⟨512 + a.val, by omega⟩ - q ⟨512 + a.val, by omega⟩) * B a j)
    (h3 : ∀ j, f3 j = (∑ a : Fin 256, q ⟨768 + a.val, by omega⟩ * B a j) + ∑ a : Fin 256, (q ⟨768 + a.val, by omega⟩ - q ⟨768 + a.val, by omega⟩) * B a j) :
    Sim.Sim (if h : e.val < 256 then f0 ⟨e.val, h⟩ else if h : e.val - 256 < 256 then f1 ⟨e.val - 256, h⟩
      else if h : e.val - 256 - 256 < 256 then f2 ⟨e.val - 256 - 256, h⟩ else f3 ⟨e.val - 256 - 256 - 256, by omega⟩) (hs q e) := by
  have he := e.isLt
  have G := fun (o : ℕ) (ho : o + 256 ≤ 1024) (h64 : o % 64 = 0) (j : Fin 256) (h : e.val = o + j.val) => Sim.quarter q B hB o ho h64 j e h
  split
  · rename_i h
    rw [h0]
    have := G 0 (by omega) (by omega) ⟨e.val, h⟩ (by dsimp only; omega)
    simpa only [Nat.zero_add] using this
  · split
    · rename_i h1' h
      rw [h1]
      exact G 256 (by omega) (by omega) ⟨e.val - 256, h⟩ (by dsimp only; omega)
    · split
      · rename_i h2' h1' h
        rw [h2]
        exact G 512 (by omega) (by omega) ⟨e.val - 256 - 256, h⟩ (by dsimp only; omega)
      · rename_i h3' h2' h1'
        rw [h3]
        exact G 768 (by omega) (by omega) ⟨e.val - 256 - 256 - 256, by omega⟩ (by dsimp only; omega)

/-- Sums over a head that agree unless infinite give residual rows that do. -/
theorem chain {n : ℕ} (h : EReal) (T V G W X X' : Fin n → EReal) (H : ∀ d, Sim.Sim (X d) (X' d)) :
    Sim.Sim (h + ∑ d, (T d + X d * V d) * G d * W d) (h + ∑ d, (T d + X' d * V d) * G d * W d) := by
  rw [add_comm h, add_comm h]
  refine (Sim.Sim.sum fun d => Sim.Sim.mul (Sim.Sim.mul ?_ (G d)) (W d)).add h
  rw [add_comm (T d), add_comm (T d)]
  exact (Sim.Sim.mul (H d) (V d)).add (T d)

section
variable (B : Vec Ideal S256x256 .bf16) (hB : ∀ a b : Fin 256, B (ix2 a b) = bdE a b) (p : Fin 256)
include hB

/-- A row less its heads' means, its entries being numbers. -/
theorem pay2_at (Y : Vec Ideal S256x1024 .f32) (y : Fin 1024 → EReal) (hY : ∀ e, Y (ix2 p e) = y e) (hy : ∀ e, Real' (y e)) (e : Fin 1024) :
    k0_pay2 B Y (ix2 p e) = yc y e := by
  pointwise [k0_pay2, k0_pay1]
  simp only [hY]
  unfold yc
  rw [← mul_r64]
  refine congrArg (fun u : EReal => y e - u * Ideal.ofBits FTy.f32 0x3C800000#32) ?_
  exact heads y hy (fun a b => B (ix2 a b)) hB e _ _ _ _ (fun j => rfl) (fun j => rfl) (fun j => rfl) (fun j => rfl)

/-- The rows, normalized over each head. -/
theorem pay8_at (Y : Vec Ideal S256x1024 .f32) (W L : Vec Ideal S1x1024 .f32) (y : Fin 1024 → EReal) (hY : ∀ e, Y (ix2 p e) = y e) (hy : ∀ e, Real' (y e)) (e : Fin 1024) :
    k0_pay8 (k0_pay1 B) (k0_pay2 B Y) (k0_pay4 B Y) (k0_pay5 B Y) (k0_pay6 B Y) (k0_pay7 B Y) W L (ix2 p e)
      = yn y (fun d => W (ix2 0 d)) (fun d => L (ix2 0 d)) e := by
  have hk := pay2_at B hB p Y y hY hy
  pointwise [k0_pay8, k0_pay1, k0_pay3, k0_pay4, k0_pay5, k0_pay6, k0_pay7]
  simp only [hk]
  unfold yn vr
  rw [← mul_r64]
  refine congrArg (fun u : EReal => yc y e * Ideal.rsqrt (u * Ideal.ofBits FTy.f32 0x3C800000#32 + Ideal.ofBits FTy.f32 0x3A27C5AC#32) * W (ix2 0 e) + L (ix2 0 e)) ?_
  exact heads (fun e => yc y e * yc y e) (fun e => Real'.mul (real_yc y hy e) (real_yc y hy e)) (fun a b => B (ix2 a b)) hB e _ _ _ _ (fun j => rfl) (fun j => rfl) (fun j => rfl) (fun j => rfl)

/-- The rows with the bonus, gated, through the output projection. -/
theorem pay14_at (T R K V G H : Vec Ideal S256x1024 .f32) (S : Vec Ideal S1x1024 .f32) (W : Vec Ideal S1024x1024 .bf16) (q : Fin 1024 → EReal)
    (hk : ∀ e, (R (ix2 p e) * K (ix2 p e) * S (ix2 0 e) : EReal) = q e) (e : Fin 1024) :
    Sim.Sim (k0_pay14 (k0_pay1 B) T (k0_pay10 R K S) (k0_pay11 R K S) (k0_pay12 (k0_pay1 B) R K S) (k0_pay13 R K S) V G H W (ix2 p e))
      (H (ix2 p e) + ∑ d : Fin 1024, (T (ix2 p d) + hs q d * V (ix2 p d)) * G (ix2 p d) * W (ix2 d e) : EReal) := by
  pointwise [k0_pay14, k0_pay1, k0_pay9, k0_pay10, k0_pay11, k0_pay12, k0_pay13]
  simp only [hk]
  refine chain (H (ix2 p e)) (fun d => T (ix2 p d)) (fun d => V (ix2 p d)) (fun d => G (ix2 p d)) (fun d => W (ix2 d e)) _ (hs q) ?_
  intro d
  exact heads_sim q (fun a b => B (ix2 a b)) hB d _ _ _ _ (fun j => rfl) (fun j => rfl) (fun j => rfl) (fun j => rfl)

end

theorem pay18_at (H : FVec Ideal S256x1024 .f32) (P : Vec Ideal S256x256 .f32) (N : Vec Ideal S1x1024 .f32) (G : Vec Ideal S1024x1024 .bf16) (Q : Vec Ideal S256x1024 .bf16)
    (F : Vec Ideal S1x1024 .f32) (p : Fin 256) (e : Fin 1024) :
    k0_pay18 H (k0_pay15 P) (k0_pay16 N) (k0_pay17 G) Q F (ix2 p e)
      = nrm MidSpec.wd (fun e => MidSpec.ple (fun d => H (ix2 p d)) (fun d => N (ix2 0 d)) (fun d e => G (ix2 d e)) (fun d => P (ix2 p d)) (fun d e => Q (ix2 d e)) e) (fun d => F (ix2 0 d)) e := by
  pointwise [k0_pay18, k0_pay15, k0_pay16, k0_pay17]
  simp only [zero_sub]
  rfl

end Cert.LastIdeal.Last
end
-- ==== Proof.LastBlk.lean ====
module

public import proofs.«01_k».proof.Proof.LastOps
public import proofs.«01_k».proof.Proof.LastPay
public import Idealize.ShloMosaic.Lib.Pipeline.ValueKit

@[expose] public section

set_option maxRecDepth 16384

noncomputable section

open Idealize.ShloMosaic Idealize.ShloMosaic.TcCoe Idealize.SL.Sem
open Cert.EvenSpec Cert.LastSpec Cert.HeadSum Cert.Softmax

namespace Cert.LastIdeal.Last

open Cert.LastIdeal Cert.LastIdeal.Gen

theorem idx : ∀ t : Fin cfg0.N, (win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0])
    ∧ win0_16.index t = ![t.val, 0] ∧ t.val < 64 :=
  (by decide +kernel : ∀ t : Fin grid0.N, _)

variable (m : (ℓ : Loc nD τ sig) → Buf (Elt Ideal) ℓ)

theorem x0_at (c : Dev nD) (t : Fin cfg0.N) (p : Fin 256) (d : Fin 1024) (a : Fin 16384) (ha : a.val = t.val * 256 + p.val) : iblk m c 0 t (ix2 p d) = A0 m c (ix2 a d) := by
  blk_ext [iblk, V, idx t, ha]
theorem x1_at (c : Dev nD) (t : Fin cfg0.N) (p : Fin 256) (d : Fin 1024) (a : Fin 16384) (ha : a.val = t.val * 256 + p.val) : iblk m c 1 t (ix2 p d) = A1 m c (ix2 a d) := by
  blk_ext [iblk, V, idx t, ha]
theorem x2_at (c : Dev nD) (t : Fin cfg0.N) (p : Fin 256) (d : Fin 1024) (a : Fin 16384) (ha : a.val = t.val * 256 + p.val) : iblk m c 2 t (ix2 p d) = A2 m c (ix2 a d) := by
  blk_ext [iblk, V, idx t, ha]
theorem x3_at (c : Dev nD) (t : Fin cfg0.N) (p : Fin 256) (d : Fin 1024) (a : Fin 16384) (ha : a.val = t.val * 256 + p.val) : iblk m c 3 t (ix2 p d) = A3 m c (ix2 a d) := by
  blk_ext [iblk, V, idx t, ha]
theorem x4_at (c : Dev nD) (t : Fin cfg0.N) (p : Fin 256) (d : Fin 1024) (a : Fin 16384) (ha : a.val = t.val * 256 + p.val) : iblk m c 4 t (ix2 p d) = A4 m c (ix2 a d) := by
  blk_ext [iblk, V, idx t, ha]
theorem x5_at (c : Dev nD) (t : Fin cfg0.N) (p : Fin 256) (d : Fin 1024) (a : Fin 16384) (ha : a.val = t.val * 256 + p.val) : iblk m c 5 t (ix2 p d) = A5 m c (ix2 a d) := by
  blk_ext [iblk, V, idx t, ha]
theorem x6_at (c : Dev nD) (t : Fin cfg0.N) (p : Fin 256) (d : Fin 256) (a : Fin 16384) (ha : a.val = t.val * 256 + p.val) : iblk m c 6 t (ix2 p d) = V m c main_v14 (ix2 a d) := by
  unfold iblk
  generalize V m c main_v14 = f
  blk_ext [idx t, ha]
theorem x7_at (c : Dev nD) (t : Fin cfg0.N) (d : Fin 1) (j : Fin 1024) : iblk m c 7 t (ix2 d j) = V m c main_v16 (ix2 d j) := by
  unfold iblk
  generalize V m c main_v16 = f
  blk_ext [idx t]
theorem x8_at (c : Dev nD) (t : Fin cfg0.N) (d : Fin 1) (j : Fin 1024) : iblk m c 8 t (ix2 d j) = V m c main_v18 (ix2 d j) := by
  unfold iblk
  generalize V m c main_v18 = f
  blk_ext [idx t]
theorem x9_at (c : Dev nD) (t : Fin cfg0.N) (d : Fin 1) (j : Fin 1024) : iblk m c 9 t (ix2 d j) = V m c main_v20 (ix2 d j) := by
  unfold iblk
  generalize V m c main_v20 = f
  blk_ext [idx t]
theorem x10_at (c : Dev nD) (t : Fin cfg0.N) (d : Fin 256) (j : Fin 256) : iblk m c 10 t (ix2 d j) = V m c main_v8 (ix2 d j) := by
  unfold iblk
  generalize V m c main_v8 = f
  blk_ext [idx t]
theorem x11_at (c : Dev nD) (t : Fin cfg0.N) (d : Fin 1024) (j : Fin 1024) : iblk m c 11 t (ix2 d j) = V m c main_v22 (ix2 d j) := by
  unfold iblk
  generalize V m c main_v22 = f
  blk_ext [idx t]
theorem x12_at (c : Dev nD) (t : Fin cfg0.N) (d : Fin 1) (j : Fin 1024) : iblk m c 12 t (ix2 d j) = V m c main_v25 (ix2 d j) := by
  unfold iblk
  generalize V m c main_v25 = f
  blk_ext [idx t]
theorem x13_at (c : Dev nD) (t : Fin cfg0.N) (d : Fin 1024) (j : Fin 1024) : iblk m c 13 t (ix2 d j) = V m c main_v27 (ix2 d j) := by
  unfold iblk
  generalize V m c main_v27 = f
  blk_ext [idx t]
theorem x14_at (c : Dev nD) (t : Fin cfg0.N) (d : Fin 256) (j : Fin 1024) : iblk m c 14 t (ix2 d j) = V m c main_v29 (ix2 d j) := by
  unfold iblk
  generalize V m c main_v29 = f
  blk_ext [idx t]
theorem x15_at (c : Dev nD) (t : Fin cfg0.N) (d : Fin 1) (j : Fin 1024) : iblk m c 15 t (ix2 d j) = V m c main_v30 (ix2 d j) := by
  unfold iblk
  generalize V m c main_v30 = f
  blk_ext [idx t]

theorem ld0 (X : Vec Ideal S256x256 .bf16) : View.ld X r0_0 = X := View.ld_unit_lit _ _ (by decide)
theorem ld0b (X : Vec Ideal S256x256 .f32) : View.ld X r0_0 = X := View.ld_unit_lit _ _ (by decide)
theorem ld1 (X : Vec Ideal S256x1024 .f32) : View.ld X r0_1 = X := View.ld_unit_lit _ _ (by decide)
theorem ld1b (X : Vec Ideal S256x1024 .bf16) : View.ld X r0_1 = X := View.ld_unit_lit _ _ (by decide)
theorem ld2 (X : Vec Ideal S1x1024 .f32) : View.ld X r0_2 = X := View.ld_unit_lit _ _ (by decide)
theorem ld3 (X : Vec Ideal S1024x1024 .bf16) : View.ld X r0_3 = X := View.ld_unit_lit _ _ (by decide)

/-- The whole body over one row, from the rows and the weights that it reads. -/
theorem body_at (p : Fin 256) (x0 x1 x2 x3 x4 x5 : Vec Ideal S256x1024 .f32) (x6 : Vec Ideal S256x256 .f32) (x7 x8 x9 : Vec Ideal S1x1024 .f32)
    (x10 : Vec Ideal S256x256 .bf16) (x11 : Vec Ideal S1024x1024 .bf16) (x12 : Vec Ideal S1x1024 .f32) (x13 : Vec Ideal S1024x1024 .bf16)
    (x14 : Vec Ideal S256x1024 .bf16) (x15 : Vec Ideal S1x1024 .f32)
    (y r k v g h lw lb s n f : Fin 1024 → EReal) (pr : Fin 256 → EReal) (w pg : Fin 1024 → Fin 1024 → EReal) (pp : Fin 256 → Fin 1024 → EReal)
    (h0 : ∀ d, x0 (ix2 p d) = y d) (h1 : ∀ d, x1 (ix2 p d) = r d) (h2 : ∀ d, x2 (ix2 p d) = k d) (h3 : ∀ d, x3 (ix2 p d) = v d)
    (h4 : ∀ d, x4 (ix2 p d) = g d) (h5 : ∀ d, x5 (ix2 p d) = h d) (h6 : ∀ d, x6 (ix2 p d) = pr d)
    (h7 : ∀ d, x7 (ix2 0 d) = lw d) (h8 : ∀ d, x8 (ix2 0 d) = lb d) (h9 : ∀ d, x9 (ix2 0 d) = s d)
    (h10 : ∀ a b : Fin 256, x10 (ix2 a b) = bdE a b) (h11 : ∀ d e, x11 (ix2 d e) = w d e) (h12 : ∀ d, x12 (ix2 0 d) = n d)
    (h13 : ∀ d e, x13 (ix2 d e) = pg d e) (h14 : ∀ d e, x14 (ix2 d e) = pp d e) (h15 : ∀ d, x15 (ix2 0 d) = f d)
    (hy : ∀ e, Real' (y e)) (e : Fin 1024) :
    k0_pay18 (k0_pay14 (k0_pay1 x10) (k0_pay8 (k0_pay1 x10) (k0_pay2 x10 x0) (k0_pay4 x10 x0) (k0_pay5 x10 x0) (k0_pay6 x10 x0) (k0_pay7 x10 x0) x7 x8)
        (k0_pay10 x1 x2 x9) (k0_pay11 x1 x2 x9) (k0_pay12 (k0_pay1 x10) x1 x2 x9) (k0_pay13 x1 x2 x9) x3 x4 x5 x11)
      (k0_pay15 x6) (k0_pay16 x12) (k0_pay17 x13) x14 x15 (ix2 p e)
    = nrm MidSpec.wd (MidSpec.ple (fun e => h e + ∑ d : Fin 1024, (yn y lw lb d + bonus r k s v d) * g d * w d e) n pg pr pp) f e := by
  refine (pay18_at _ _ _ _ _ _ p e).trans ?_
  have e12 := funext h12
  have e6 := funext h6
  have e15 := funext h15
  have e13 : (fun d e : Fin 1024 => x13 (ix2 d e)) = pg := funext fun d => funext fun e => h13 d e
  have e14 : (fun (d : Fin 256) (e : Fin 1024) => x14 (ix2 d e)) = pp := funext fun d => funext fun e => h14 d e
  have e7 := funext h7
  have e8 := funext h8
  rw [e12, e6, e15, e13, e14]
  refine Sim.nrm_sim (fun d => Sim.ple_sim (fun d => ?_) n pg pr pp d) f e
  have key := pay14_at x10 h10 p (k0_pay8 (k0_pay1 x10) (k0_pay2 x10 x0) (k0_pay4 x10 x0) (k0_pay5 x10 x0) (k0_pay6 x10 x0) (k0_pay7 x10 x0) x7 x8) x1 x2 x3 x4 x5 x9 x11
    (fun e => r e * k e * s e) (fun e => by rw [h1, h2, h9]) d
  refine Eq.mp (congrArg (fun u => Sim.Sim _ u) ?_) key
  rw [h5]
  refine congrArg (fun u : EReal => h d + u) (Finset.sum_congr rfl fun i _ => ?_)
  rw [pay8_at x10 h10 p x0 x7 x8 y h0 hy i, e7, e8, h3, h4, h11]
  rfl

theorem w16_at (c : Dev nD) (t : Fin cfg0.N) (p : Fin 256) (a : Fin 16384) (ha : a.val = t.val * 256 + p.val)
    (hy : ∀ (a : Fin 16384) (e : Fin 1024), Real' (A0 m c (ix2 a e))) (e : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 p e)
      = out (A0 m c) (A1 m c) (A2 m c) (A3 m c) (A4 m c) (A5 m c) (A6 m c) (A7 m c) (A8 m c) (A9 m c) (A10 m c) (A11 m c) (A12 m c) (A13 m c) (A14 m c) a e := by
  unfold out0_16
  refine (congrFun (View.canon_cons_unit_lit _ _ _ (by decide)) _).trans ?_
  unfold k0_pay19
  rw [ld0, ld0b, ld1, ld1, ld1, ld1, ld1, ld1, ld1b, ld2, ld2, ld2, ld2, ld2, ld3, ld3]
  exact body_at p _ _ _ _ _ _ _ _ _ _ _ _ _ _ _ _ (fun d => A0 m c (ix2 a d)) (fun d => A1 m c (ix2 a d)) (fun d => A2 m c (ix2 a d)) (fun d => A3 m c (ix2 a d))
    (fun d => A4 m c (ix2 a d)) (fun d => A5 m c (ix2 a d)) (fun d => A7 m c (ix2 0 d)) (fun d => A8 m c (ix2 0 d)) (rk (A9 m c)) (fun d => A11 m c (ix2 1 d))
    (fun d => A14 m c (ix1 d)) (fun d => A6 m c (ix4 1 ⟨a.val / 2048, by omega⟩ ⟨a.val % 2048, by omega⟩ d)) (fun d e => A10 m c (ix3 0 d e))
    (fun d e => A12 m c (ix3 1 d e)) (fun d e => A13 m c (ix3 1 d e))
    (fun d => x0_at m c t p d a ha) (fun d => x1_at m c t p d a ha) (fun d => x2_at m c t p d a ha) (fun d => x3_at m c t p d a ha)
    (fun d => x4_at m c t p d a ha) (fun d => x5_at m c t p d a ha) (fun d => (x6_at m c t p d a ha).trans (p_at m c a d))
    (fun d => (x7_at m c t 0 d).trans (lw_at m c d)) (fun d => (x8_at m c t 0 d).trans (lb_at m c d)) (fun d => (x9_at m c t 0 d).trans (rk_at m c d))
    (fun d e => (x10_at m c t d e).trans (bd_at m c d e)) (fun d e => (x11_at m c t d e).trans (w_at m c d e)) (fun d => (x12_at m c t 0 d).trans (n_at m c d))
    (fun d e => (x13_at m c t d e).trans (g_at m c d e)) (fun d e => (x14_at m c t d e).trans (q_at m c d e)) (fun d => (x15_at m c t 0 d).trans (f_at m c d))
    (hy a) e

end Cert.LastIdeal.Last
end
-- ==== Proof.LastVal.lean ====
module

public import proofs.«01_k».proof.Proof.LastBlk

@[expose] public section

set_option maxRecDepth 16384

noncomputable section

open Idealize.ShloMosaic Idealize.ShloMosaic.TcCoe Idealize.SL.Sem
open Cert.EvenSpec Cert.LastSpec Cert.HeadSum Cert.Softmax

namespace Cert.LastIdeal.Last

open Cert.LastIdeal Cert.LastIdeal.Gen

variable (m : (ℓ : Loc nD τ sig) → Buf (Elt Ideal) ℓ)

theorem final16 (c : Dev nD) (hy : ∀ (a : Fin 16384) (e : Fin 1024), Real' (A0 m c (ix2 a e))) :
    (dats m 0 c).arrAt 16 cfg0.N = fun j : S16384x1024.Idx => out (A0 m c) (A1 m c) (A2 m c) (A3 m c) (A4 m c) (A5 m c) (A6 m c) (A7 m c) (A8 m c) (A9 m c) (A10 m c) (A11 m c) (A12 m c) (A13 m c) (A14 m c) (j 0) (j 1) := by
  refine (dats m 0 c).arrAt_eq_of_covers 16 _ (by decide +kernel) fun t hf y => ?_
  blk_simp
  rw [after0_16]
  obtain ⟨p, b, rfl⟩ : ∃ (p : Fin 256) (b : Fin 1024), y = ix2 p b := ⟨y 0, y 1, (ix2_eta y).symm⟩
  have hi := (idx t).2.2
  have hp := p.isLt
  have e0 : (win0_16.blk t).view.emb (ix2 p b) 0 = (⟨t.val * 256 + p.val, by omega⟩ : Fin 16384) := by
    apply Fin.ext; blk_simp [idx t]
  have e1 : (win0_16.blk t).view.emb (ix2 p b) 1 = b := by
    apply Fin.ext; blk_simp [idx t]
  rw [e0, e1]
  exact w16_at m c t p _ rfl hy b

end Cert.LastIdeal.Last
end
-- ==== Proof.LastRef.lean ====
module

public import proofs.«01_k».proof.Proof.LastSpec
public import proofs.«01_k».proof.Proof.Gen.LastRefIdeal.Run
public import Idealize.ShloMosaic.Lib.Pointwise

@[expose] public section

set_option maxRecDepth 16384

noncomputable section

open Idealize.ShloMosaic Idealize.ShloMosaic.StableHlo Idealize.ShloMosaic.TcCoe Idealize.SL.Sem
open Cert.EvenSpec Cert.HeadSum

namespace Cert.LastRefIdeal.Last

open Cert.LastRefIdeal Cert.LastRefIdeal.Gen Cert.LastRefIdeal.Value
open Cert.LastRefIdeal.Facts

variable (m : (ℓ : Loc nD τ sig) → Buf (Elt Ideal) ℓ) (c : Dev nD)

abbrev A0 : FVec Ideal ⟨2, ![16384, 1024]⟩ .f32 := m ((c.tc : Thread nD τ).loc main_arg0)
abbrev A1 : FVec Ideal ⟨2, ![16384, 1024]⟩ .f32 := m ((c.tc : Thread nD τ).loc main_arg1)
abbrev A2 : FVec Ideal ⟨2, ![16384, 1024]⟩ .f32 := m ((c.tc : Thread nD τ).loc main_arg2)
abbrev A3 : FVec Ideal ⟨2, ![16384, 1024]⟩ .f32 := m ((c.tc : Thread nD τ).loc main_arg3)
abbrev A4 : FVec Ideal ⟨2, ![16384, 1024]⟩ .f32 := m ((c.tc : Thread nD τ).loc main_arg4)
abbrev A5 : FVec Ideal ⟨2, ![16384, 1024]⟩ .f32 := m ((c.tc : Thread nD τ).loc main_arg5)
abbrev A6 : FVec Ideal ⟨4, ![2, 8, 2048, 256]⟩ .f32 := m ((c.tc : Thread nD τ).loc main_arg6)
abbrev A7 : FVec Ideal ⟨2, ![1, 1024]⟩ .f32 := m ((c.tc : Thread nD τ).loc main_arg7)
abbrev A8 : FVec Ideal ⟨2, ![1, 1024]⟩ .f32 := m ((c.tc : Thread nD τ).loc main_arg8)
abbrev A9 : FVec Ideal ⟨3, ![1, 16, 64]⟩ .f32 := m ((c.tc : Thread nD τ).loc main_arg9)
abbrev A10 : FVec Ideal ⟨3, ![1, 1024, 1024]⟩ .f32 := m ((c.tc : Thread nD τ).loc main_arg10)
abbrev A11 : FVec Ideal ⟨2, ![2, 1024]⟩ .f32 := m ((c.tc : Thread nD τ).loc main_arg11)
abbrev A12 : FVec Ideal ⟨3, ![2, 1024, 1024]⟩ .f32 := m ((c.tc : Thread nD τ).loc main_arg12)
abbrev A13 : FVec Ideal ⟨3, ![2, 256, 1024]⟩ .f32 := m ((c.tc : Thread nD τ).loc main_arg13)
abbrev A14 : FVec Ideal ⟨1, ![1024]⟩ .f32 := m ((c.tc : Thread nD τ).loc main_arg14)

/-! The values of the plain computation. -/
def YH (m : (ℓ : Loc nD τ sig) → Buf (Elt Ideal) ℓ) (c : Dev nD) : FVec Ideal S8x2048x16x64 .f32 := (shapeCast _ (A0 m c) shapeCasts_S16384x1024_S8x2048x16x64)
def MN (m : (ℓ : Loc nD τ sig) → Buf (Elt Ideal) ℓ) (c : Dev nD) : FVec Ideal S8x2048x16x1 .f32 := (Host.divf (broadcastInDim S8x2048x16x1 ![0, 1, 2] bcast_S8x2048x16_S8x2048x16x1_0_1_2 (Host.reduceAdd (YH m c) (constant S_ .f32 0x00000000#32) reducesTo_S8x2048x16x64_S8x2048x16_d3 h_S_)) (broadcastInDim S8x2048x16x1 ![] bcast_S_S8x2048x16x1 (constant S_ .f32 0x42800000#32)))
def YC (m : (ℓ : Loc nD τ sig) → Buf (Elt Ideal) ℓ) (c : Dev nD) : FVec Ideal S8x2048x16x64 .f32 := (subf (YH m c) (broadcastInDim S8x2048x16x64 ![0, 1, 2, 3] bcast_S8x2048x16x1_S8x2048x16x64_0_1_2_3 (MN m c)))
def VR (m : (ℓ : Loc nD τ sig) → Buf (Elt Ideal) ℓ) (c : Dev nD) : FVec Ideal S8x2048x16x1 .f32 := (Host.divf (broadcastInDim S8x2048x16x1 ![0, 1, 2] bcast_S8x2048x16_S8x2048x16x1_0_1_2 (Host.reduceAdd (mulf (YC m c) (YC m c)) (constant S_ .f32 0x00000000#32) reducesTo_S8x2048x16x64_S8x2048x16_d3 h_S_)) (broadcastInDim S8x2048x16x1 ![] bcast_S_S8x2048x16x1 (constant S_ .f32 0x42800000#32)))
def YS (m : (ℓ : Loc nD τ sig) → Buf (Elt Ideal) ℓ) (c : Dev nD) : FVec Ideal S8x2048x16x64 .f32 := (mulf (YC m c) (broadcastInDim S8x2048x16x64 ![0, 1, 2, 3] bcast_S8x2048x16x1_S8x2048x16x64_0_1_2_3 (Host.rsqrt (addf (VR m c) (broadcastInDim S8x2048x16x1 ![] bcast_S_S8x2048x16x1 (constant S_ .f32 0x3A27C5AC#32))))))
def YN (m : (ℓ : Loc nD τ sig) → Buf (Elt Ideal) ℓ) (c : Dev nD) : FVec Ideal S8x2048x1024 .f32 := (addf (mulf (shapeCast _ (YS m c) shapeCasts_S8x2048x16x64_S8x2048x1024) (broadcastInDim S8x2048x1024 ![0, 1, 2] bcast_S1x1x1024_S8x2048x1024_0_1_2 (broadcastInDim S1x1x1024 ![2] bcast_S1024_S1x1x1024_2 (shapeCast _ (A7 m c) shapeCasts_S1x1024_S1024)))) (broadcastInDim S8x2048x1024 ![0, 1, 2] bcast_S1x1x1024_S8x2048x1024_0_1_2 (broadcastInDim S1x1x1024 ![2] bcast_S1024_S1x1x1024_2 (shapeCast _ (A8 m c) shapeCasts_S1x1024_S1024))))
def RK (m : (ℓ : Loc nD τ sig) → Buf (Elt Ideal) ℓ) (c : Dev nD) : FVec Ideal S8x2048x16x64 .f32 := (mulf (mulf (shapeCast _ (A1 m c) shapeCasts_S16384x1024_S8x2048x16x64) (shapeCast _ (A2 m c) shapeCasts_S16384x1024_S8x2048x16x64)) (broadcastInDim S8x2048x16x64 ![0, 1, 2, 3] bcast_S1x1x16x64_S8x2048x16x64_0_1_2_3 (broadcastInDim S1x1x16x64 ![2, 3] bcast_S16x64_S1x1x16x64_2_3 (shapeCast _ (A9 m c) shapeCasts_S1x16x64_S16x64))))
def BN (m : (ℓ : Loc nD τ sig) → Buf (Elt Ideal) ℓ) (c : Dev nD) : FVec Ideal S8x2048x16x64 .f32 := (mulf (broadcastInDim S8x2048x16x64 ![0, 1, 2, 3] bcast_S8x2048x16x1_S8x2048x16x64_0_1_2_3 (broadcastInDim S8x2048x16x1 ![0, 1, 2] bcast_S8x2048x16_S8x2048x16x1_0_1_2 (Host.reduceAdd (RK m c) (constant S_ .f32 0x00000000#32) reducesTo_S8x2048x16x64_S8x2048x16_d3 h_S_))) (shapeCast _ (A3 m c) shapeCasts_S16384x1024_S8x2048x16x64))
def MX (m : (ℓ : Loc nD τ sig) → Buf (Elt Ideal) ℓ) (c : Dev nD) : FVec Ideal S8x2048x1024 .f32 := (mulf (addf (YN m c) (shapeCast _ (BN m c) shapeCasts_S8x2048x16x64_S8x2048x1024)) (shapeCast _ (A4 m c) shapeCasts_S16384x1024_S8x2048x1024))
def H0 (m : (ℓ : Loc nD τ sig) → Buf (Elt Ideal) ℓ) (c : Dev nD) : FVec Ideal S8x2048x1024 .f32 := (addf (shapeCast _ (A5 m c) shapeCasts_S16384x1024_S8x2048x1024) (Host.dotGeneral (φ₁ := .f32) (φ₂ := .f32) dot_S8x2048x1024_S1024x1024_S8x2048x1024_2_0_01_1_n_n none (MX m c) (shapeCast _ (A10 m c) shapeCasts_S1x1024x1024_S1024x1024)))
def NM (m : (ℓ : Loc nD τ sig) → Buf (Elt Ideal) ℓ) (c : Dev nD) : FVec Ideal S8x2048x1024 .f32 := (mulf (mulf (H0 m c) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (H0 m c) (H0 m c)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![1, 0] (A11 m c) slices_S2x1024_S1x1024_1_0) shapeCasts_S1x1024_S1024))))
def H1 (m : (ℓ : Loc nD τ sig) → Buf (Elt Ideal) ℓ) (c : Dev nD) : FVec Ideal S8x2048x1024 .f32 := (addf (H0 m c) (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (Host.dotGeneral (φ₁ := .f32) (φ₂ := .f32) dot_S8x2048x1024_S1024x1024_S8x2048x1024_2_0_01_1_n_n none (NM m c) (shapeCast _ (extractStridedSlice S1x1024x1024 ![1, 0, 0] (A12 m c) slices_S2x1024x1024_S1x1024x1024_1_0_0) shapeCasts_S1x1024x1024_S1024x1024)))))) (Host.dotGeneral (φ₁ := .f32) (φ₂ := .f32) dot_S8x2048x256_S256x1024_S8x2048x1024_2_0_01_1_n_n none (shapeCast _ (extractStridedSlice S1x8x2048x256 ![1, 0, 0, 0] (A6 m c) slices_S2x8x2048x256_S1x8x2048x256_1_0_0_0) shapeCasts_S1x8x2048x256_S8x2048x256) (shapeCast _ (extractStridedSlice S1x256x1024 ![1, 0, 0] (A13 m c) slices_S2x256x1024_S1x256x1024_1_0_0) shapeCasts_S1x256x1024_S256x1024))))
def R0 (m : (ℓ : Loc nD τ sig) → Buf (Elt Ideal) ℓ) (c : Dev nD) : FVec Ideal S16384x1024 .f32 := (shapeCast _ (mulf (mulf (H1 m c) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (H1 m c) (H1 m c)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (A14 m c)))) shapeCasts_S8x2048x1024_S16384x1024)

variable (a : Fin 16384)

theorem yh_at (h : Fin 16) (n : Fin 64) : YH m c (ix4 ⟨a.val / 2048, by omega⟩ ⟨a.val % 2048, by omega⟩ h n) = A0 m c (ix2 a ⟨h.val * 64 + n.val, by omega⟩) := by
  pointwise [YH]
theorem mn_at (h : Fin 16) (e : Fin 1024) (he : e.val / 64 = h.val) : MN m c (ix4 ⟨a.val / 2048, by omega⟩ ⟨a.val % 2048, by omega⟩ h 0) = Ideal.div (hs (fun d => A0 m c (ix2 a d)) e) LastSpec.n64 := by
  pointwise [MN]
  simp only [yh_at]
  unfold hs
  refine congrArg (fun u : EReal => Ideal.div u _) (Finset.sum_congr rfl fun i _ => ?_)
  exact congrArg (fun q => (A0 m c (ix2 a q) : EReal)) (Fin.ext (by dsimp only; omega))
theorem yc_at (h : Fin 16) (n : Fin 64) : YC m c (ix4 ⟨a.val / 2048, by omega⟩ ⟨a.val % 2048, by omega⟩ h n) = LastSpec.yc (fun d => A0 m c (ix2 a d)) ⟨h.val * 64 + n.val, by omega⟩ := by
  have hn := n.isLt
  pointwise [YC]
  rw [yh_at, mn_at m c a h ⟨h.val * 64 + n.val, by omega⟩ (by dsimp only; omega)]
  rfl
theorem vr_at (h : Fin 16) (e : Fin 1024) (he : e.val / 64 = h.val) : VR m c (ix4 ⟨a.val / 2048, by omega⟩ ⟨a.val % 2048, by omega⟩ h 0) = LastSpec.vr (fun d => A0 m c (ix2 a d)) e := by
  pointwise [VR]
  simp only [yc_at]
  unfold LastSpec.vr hs
  refine congrArg (fun u : EReal => Ideal.div u _) (Finset.sum_congr rfl fun i _ => ?_)
  exact congrArg (fun q => (LastSpec.yc (fun d => A0 m c (ix2 a d)) q * LastSpec.yc (fun d => A0 m c (ix2 a d)) q : EReal)) (Fin.ext (by dsimp only; omega))
theorem ys_at (h : Fin 16) (n : Fin 64) : YS m c (ix4 ⟨a.val / 2048, by omega⟩ ⟨a.val % 2048, by omega⟩ h n)
    = (LastSpec.yc (fun d => A0 m c (ix2 a d)) ⟨h.val * 64 + n.val, by omega⟩ * Ideal.rsqrt (LastSpec.vr (fun d => A0 m c (ix2 a d)) ⟨h.val * 64 + n.val, by omega⟩ + Ideal.ofBits FTy.f32 0x3A27C5AC#32) : EReal) := by
  have hn := n.isLt
  pointwise [YS]
  rw [yc_at, vr_at m c a h ⟨h.val * 64 + n.val, by omega⟩ (by dsimp only; omega)]
theorem yn_at (d : Fin 1024) : YN m c (ix3 ⟨a.val / 2048, by omega⟩ ⟨a.val % 2048, by omega⟩ d) = LastSpec.yn (fun d => A0 m c (ix2 a d)) (fun d => A7 m c (ix2 0 d)) (fun d => A8 m c (ix2 0 d)) d := by
  pointwise [YN]
  simp only [ys_at]
  unfold LastSpec.yn
  refine congrArg (fun q => (LastSpec.yc (fun d => A0 m c (ix2 a d)) q * Ideal.rsqrt (LastSpec.vr (fun d => A0 m c (ix2 a d)) q + Ideal.ofBits FTy.f32 0x3A27C5AC#32) * A7 m c (ix2 0 d) + A8 m c (ix2 0 d) : EReal)) (Fin.ext (by dsimp only; omega))
theorem rk_at (h : Fin 16) (n : Fin 64) : RK m c (ix4 ⟨a.val / 2048, by omega⟩ ⟨a.val % 2048, by omega⟩ h n) = (A1 m c (ix2 a ⟨h.val * 64 + n.val, by omega⟩) * A2 m c (ix2 a ⟨h.val * 64 + n.val, by omega⟩) * A9 m c (ix3 0 h n) : EReal) := by
  pointwise [RK]
theorem bn_at (h : Fin 16) (n : Fin 64) : BN m c (ix4 ⟨a.val / 2048, by omega⟩ ⟨a.val % 2048, by omega⟩ h n)
    = LastSpec.bonus (fun d => A1 m c (ix2 a d)) (fun d => A2 m c (ix2 a d)) (LastSpec.rk (A9 m c)) (fun d => A3 m c (ix2 a d)) ⟨h.val * 64 + n.val, by omega⟩ := by
  have hn := n.isLt
  pointwise [BN]
  simp only [rk_at]
  unfold LastSpec.bonus hs LastSpec.rk
  refine congrArg (fun u : EReal => u * A3 m c (ix2 a ⟨h.val * 64 + n.val, by omega⟩)) (Finset.sum_congr rfl fun i _ => ?_)
  have hi := i.isLt
  have e1 : (⟨h.val * 64 + i.val, by omega⟩ : Fin 1024) = ⟨(h.val * 64 + n.val) / 64 * 64 + i.val, by omega⟩ := Fin.ext (by dsimp only; omega)
  have e2 : h = (⟨((h.val * 64 + n.val) / 64 * 64 + i.val) / 64, by omega⟩ : Fin 16) := Fin.ext (by dsimp only; omega)
  have e3 : i = (⟨((h.val * 64 + n.val) / 64 * 64 + i.val) % 64, by omega⟩ : Fin 64) := Fin.ext (by dsimp only; omega)
  exact congrArg₂ (fun u v : EReal => u * v) (congrArg (fun q => (A1 m c (ix2 a q) * A2 m c (ix2 a q) : EReal)) e1) (congrArg₂ (fun u v => A9 m c (ix3 0 u v)) e2 e3)
theorem mx_at (d : Fin 1024) : MX m c (ix3 ⟨a.val / 2048, by omega⟩ ⟨a.val % 2048, by omega⟩ d) = LastSpec.mx (A0 m c) (A1 m c) (A2 m c) (A3 m c) (A4 m c) (A7 m c) (A8 m c) (A9 m c) a d := by
  pointwise [MX]
  simp only [yn_at, bn_at]
  unfold LastSpec.mx
  refine congrArg (fun q => ((LastSpec.yn (fun d => A0 m c (ix2 a d)) (fun d => A7 m c (ix2 0 d)) (fun d => A8 m c (ix2 0 d)) d
    + LastSpec.bonus (fun d => A1 m c (ix2 a d)) (fun d => A2 m c (ix2 a d)) (LastSpec.rk (A9 m c)) (fun d => A3 m c (ix2 a d)) q) * A4 m c (ix2 a d) : EReal)) (Fin.ext (by dsimp only; omega))
theorem h0_at (e : Fin 1024) : H0 m c (ix3 ⟨a.val / 2048, by omega⟩ ⟨a.val % 2048, by omega⟩ e) = LastSpec.h0 (A0 m c) (A1 m c) (A2 m c) (A3 m c) (A4 m c) (A5 m c) (A7 m c) (A8 m c) (A9 m c) (A10 m c) a e := by
  pointwise [H0]
  simp only [mx_at]
  rfl
theorem nm_at (e : Fin 1024) : NM m c (ix3 ⟨a.val / 2048, by omega⟩ ⟨a.val % 2048, by omega⟩ e) = nrm MidSpec.wd (LastSpec.h0 (A0 m c) (A1 m c) (A2 m c) (A3 m c) (A4 m c) (A5 m c) (A7 m c) (A8 m c) (A9 m c) (A10 m c) a) (fun d => A11 m c (ix2 1 d)) e := by
  pointwise [NM]
  simp only [h0_at]
  rfl
theorem h1_at (e : Fin 1024) : H1 m c (ix3 ⟨a.val / 2048, by omega⟩ ⟨a.val % 2048, by omega⟩ e) = LastSpec.h1 (A0 m c) (A1 m c) (A2 m c) (A3 m c) (A4 m c) (A5 m c) (A6 m c) (A7 m c) (A8 m c) (A9 m c) (A10 m c) (A11 m c) (A12 m c) (A13 m c) a e := by
  pointwise [H1]
  simp only [h0_at, nm_at]
  rfl
theorem R0_at (e : Fin 1024) : R0 m c (ix2 a e) = LastSpec.out (A0 m c) (A1 m c) (A2 m c) (A3 m c) (A4 m c) (A5 m c) (A6 m c) (A7 m c) (A8 m c) (A9 m c) (A10 m c) (A11 m c) (A12 m c) (A13 m c) (A14 m c) a e := by
  pointwise [R0]
  simp only [h1_at]
  rfl

end Cert.LastRefIdeal.Last
end
-- ==== Proof.LastEq.lean ====
module

public import proofs.«01_k».proof.Proof.LastVal
public import proofs.«01_k».proof.Proof.LastRef
public import proofs.«01_k».proof.Proof.AttnEq
public import proofs.«01_k».proof.Proof.Gen.LastIdeal.Value
public import proofs.«01_k».proof.Defs

@[expose] public section

set_option maxRecDepth 16384

noncomputable section

open Idealize.ShloMosaic Idealize.ShloMosaic.StableHlo Idealize.ShloMosaic.TcCoe Idealize.SL.Sem
open Cert.EvenSpec Cert.LastSpec Cert.Softmax

namespace Cert.LastEq

/-- The side conditions of the precondition's own operations. -/
theorem preFacts : Cert.Pre_finite_heads.Facts where
  bcast_S_S16384x1024 := by decide

/-- The plain computation leaves its arguments as they were; it has no semaphore. -/
theorem ref_frame : Cert.quiescent_LastRefIdeal (hLastRefIdeal := Cert.LastRefIdeal.Gen.facts) := fun m g _ =>
  (θ_run Cert.LastRefIdeal.defs _ _).mono (fun r h => ⟨fun c => (h c).2, sem_eq_zero_of_no_sems (by decide) r.2⟩)
    (Cert.LastRefIdeal.Value.run (F := Ideal) m g)

section
variable [Cert.Pre_finite_heads.Facts] (m : (ℓ : Loc Cert.LastIdeal.nD Cert.LastIdeal.τ Cert.LastIdeal.sig) → Buf (Elt Ideal) ℓ)
  (h : Cert.Pre_LastIdeal_finite_heads m) (c : Dev Cert.LastIdeal.nD) (a : Fin 16384) (e : Fin 1024)
include h

theorem real_rows : Real' (Cert.LastIdeal.Last.A0 m c (ix2 a e)) := by
  have a0 := h c
  refine Cert.AttnEq.real_of_pre _ ?_
  exact congrFun a0 _

end

section
variable (m : (ℓ : Loc Cert.LastIdeal.nD Cert.LastIdeal.τ Cert.LastIdeal.sig) → Buf (Elt Ideal) ℓ) (c : Dev Cert.LastIdeal.nD)
  (m' : (ℓ : Loc Cert.LastRefIdeal.nD Cert.LastRefIdeal.τ Cert.LastRefIdeal.sig) → Buf (Elt Ideal) ℓ)

/-- The two programs hold the same arguments. -/
structure Same : Prop where
  q0 : Cert.LastRefIdeal.Last.A0 m' c = Cert.LastIdeal.Last.A0 m c
  q1 : Cert.LastRefIdeal.Last.A1 m' c = Cert.LastIdeal.Last.A1 m c
  q2 : Cert.LastRefIdeal.Last.A2 m' c = Cert.LastIdeal.Last.A2 m c
  q3 : Cert.LastRefIdeal.Last.A3 m' c = Cert.LastIdeal.Last.A3 m c
  q4 : Cert.LastRefIdeal.Last.A4 m' c = Cert.LastIdeal.Last.A4 m c
  q5 : Cert.LastRefIdeal.Last.A5 m' c = Cert.LastIdeal.Last.A5 m c
  q6 : Cert.LastRefIdeal.Last.A6 m' c = Cert.LastIdeal.Last.A6 m c
  q7 : Cert.LastRefIdeal.Last.A7 m' c = Cert.LastIdeal.Last.A7 m c
  q8 : Cert.LastRefIdeal.Last.A8 m' c = Cert.LastIdeal.Last.A8 m c
  q9 : Cert.LastRefIdeal.Last.A9 m' c = Cert.LastIdeal.Last.A9 m c
  q10 : Cert.LastRefIdeal.Last.A10 m' c = Cert.LastIdeal.Last.A10 m c
  q11 : Cert.LastRefIdeal.Last.A11 m' c = Cert.LastIdeal.Last.A11 m c
  q12 : Cert.LastRefIdeal.Last.A12 m' c = Cert.LastIdeal.Last.A12 m c
  q13 : Cert.LastRefIdeal.Last.A13 m' c = Cert.LastIdeal.Last.A13 m c
  q14 : Cert.LastRefIdeal.Last.A14 m' c = Cert.LastIdeal.Last.A14 m c

variable {m c m'} (q : Same m c m')
include q

theorem res0 (hy : ∀ (a : Fin 16384) (e : Fin 1024), Real' (Cert.LastIdeal.Last.A0 m c (ix2 a e))) :
    Cert.LastRefIdeal.Last.R0 m' c = (Cert.LastIdeal.Gen.dats m 0 c).arrAt 16 (Cert.LastIdeal.cfgs 0).N := by
  refine Eq.trans (funext fun j => ?_) (Cert.LastIdeal.Last.final16 m c hy).symm
  obtain ⟨a, b, rfl⟩ : ∃ (a : Fin 16384) (b : Fin 1024), j = ix2 a b := ⟨j 0, j 1, (ix2_eta j).symm⟩
  refine (Cert.LastRefIdeal.Last.R0_at m' c a b).trans ?_
  rw [q.q0, q.q1, q.q2, q.q3, q.q4, q.q5, q.q6, q.q7, q.q8, q.q9, q.q10, q.q11, q.q12, q.q13, q.q14]
  rfl

end

variable [Cert.Pre_finite_heads.Facts]

theorem algebraic : Cert.algebraic_LastIdeal_LastRefIdeal_pre_finite_heads (hLastIdeal := Cert.LastIdeal.Gen.facts) (hLastRefIdeal := Cert.LastRefIdeal.Gen.facts) := by
  intro m g m' g' hpre hag
  refine ⟨fun c => (Cert.LastIdeal.Gen.dats m 0 c).arrAt 16 (Cert.LastIdeal.cfgs 0).N, Cert.LastIdeal.Value.run_blocks (F := Ideal) m g, ?_⟩
  refine (θ_run Cert.LastRefIdeal.defs _ _).mono (fun r h c => ?_) (Cert.LastRefIdeal.Value.run (F := Ideal) m' g')
  obtain ⟨g0, g1, g2, g3, g4, g5, g6, g7, g8, g9, g10, g11, g12, g13, g14⟩ := hag c
  have q : Same m c m' := ⟨g0, g1, g2, g3, g4, g5, g6, g7, g8, g9, g10, g11, g12, g13, g14⟩
  have k := h c
  exact ⟨k.1.trans (res0 q fun a e => real_rows m hpre c a e), k.2⟩

end Cert.LastEq
end
-- ==== Proof.lean ====
/- The certificate: every program's frame, and each call equal to its mathematics. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Even
public import proofs.«01_k».proof.Proof.Gen.Even.Skeleton
public import proofs.«01_k».proof.Proof.Gen.Even.Launch
public import proofs.«01_k».proof.Proof.Gen.Even.Points
public import proofs.«01_k».proof.Proof.Gen.Even.Frame
public import proofs.«01_k».proof.Proof.Gen.EvenIdeal
public import proofs.«01_k».proof.Proof.Gen.EvenIdeal.Skeleton
public import proofs.«01_k».proof.Proof.Gen.EvenIdeal.Launch
public import proofs.«01_k».proof.Proof.Gen.EvenIdeal.Points
public import proofs.«01_k».proof.Proof.Gen.EvenIdeal.Frame
public import proofs.«01_k».proof.Proof.Gen.EvenRefIdeal
public import proofs.«01_k».proof.Proof.Gen.Pre_finite_args
public import proofs.«01_k».proof.Proof.Gen.KernelIdeal.Value
public import proofs.«01_k».proof.Proof.Gen.EvenIdeal.Value
public import proofs.«01_k».proof.Proof.Gen.ReferenceIdeal.Run
public import proofs.«01_k».proof.Proof.Gen.EvenRefIdeal.Run
public import proofs.«01_k».proof.Proof.AttnEq
public import proofs.«01_k».proof.Proof.EvenEq
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.MidIdeal.Value
public import proofs.«01_k».proof.Proof.Gen.MidRefIdeal.Run
public import proofs.«01_k».proof.Proof.MidEq
public import proofs.«01_k».proof.Proof.Gen.MixIdeal.Value
public import proofs.«01_k».proof.Proof.Gen.MixRefIdeal.Run
public import proofs.«01_k».proof.Proof.MixEq
public import proofs.«01_k».proof.Proof.Gen.Pre_finite_keys
public import proofs.«01_k».proof.Proof.Gen.LastIdeal.Value
public import proofs.«01_k».proof.Proof.Gen.LastRefIdeal.Run
public import proofs.«01_k».proof.Proof.LastEq
public import proofs.«01_k».proof.Proof.Gen.Pre_finite_heads
public import Idealize.ShloMosaic.Adequacy
public import Idealize.ShloMosaic.Init

@[expose] public section

noncomputable section

namespace Cert.Proof

open Idealize.ShloMosaic Idealize.ShloMosaic.TcCoe Idealize.SL.Sem

/-- The plain attention's run leaves its arguments as they were; it has no semaphore. -/
theorem ref_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Even.Gen.facts, Cert.EvenIdeal.Gen.facts, Cert.EvenRefIdeal.Gen.facts,
  Cert.Mid.Gen.facts, Cert.MidIdeal.Gen.facts, Cert.MidRefIdeal.Gen.facts,
  Cert.Mix.Gen.facts, Cert.MixIdeal.Gen.facts, Cert.MixRefIdeal.Gen.facts,
  Cert.Last.Gen.facts, Cert.LastIdeal.Gen.facts, Cert.LastRefIdeal.Gen.facts, Cert.AttnEq.preFacts, Cert.MixEq.preFacts, Cert.LastEq.preFacts,
  fun m g _ => Cert.Kernel.Gen.frame m g,
  fun m g _ => Cert.KernelIdeal.Gen.frame m g,
  fun m g _ => Cert.KernelIdeal.Gen.frame m g,
  ref_frame,
  fun m g _ => ref_frame m g trivial,
  fun m g _ => Cert.Even.Gen.frame m g,
  fun m g _ => Cert.EvenIdeal.Gen.frame m g,
  Cert.EvenEq.ref_frame,
  fun m g _ => Cert.Mid.Gen.frame m g,
  fun m g _ => Cert.MidIdeal.Gen.frame m g,
  Cert.MidEq.ref_frame,
  fun m g _ => Cert.Mix.Gen.frame m g,
  fun m g _ => Cert.MixIdeal.Gen.frame m g,
  fun m g _ => Cert.MixIdeal.Gen.frame m g,
  Cert.MixEq.ref_frame,
  fun m g _ => Cert.MixEq.ref_frame m g trivial,
  fun m g _ => Cert.Last.Gen.frame m g,
  fun m g _ => Cert.LastIdeal.Gen.frame m g,
  fun m g _ => Cert.LastIdeal.Gen.frame m g,
  Cert.LastEq.ref_frame,
  fun m g _ => Cert.LastEq.ref_frame m g trivial,
  trivial,
  @Cert.AttnEq.algebraic Cert.AttnEq.preFacts,
  trivial,
  Cert.EvenEq.algebraic,
  trivial,
  Cert.MidEq.algebraic,
  trivial,
  @Cert.MixEq.algebraic Cert.MixEq.preFacts,
  trivial,
  @Cert.LastEq.algebraic Cert.LastEq.preFacts⟩

end Cert.Proof

end
